-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)) (v5 : (c : Dev Cert.Kernel2Ideal.nD) → Buf (Elt Ideal) ((c.tc : Thread Cert.Kernel2Ideal.nD Cert.Kernel2Ideal.τ).loc Cert.Kernel2Ideal.main_v21_5)) (v6 : (c : Dev Cert.Kernel2Ideal.nD) → Buf (Elt Ideal) ((c.tc : Thread Cert.Kernel2Ideal.nD Cert.Kernel2Ideal.τ).loc Cert.Kernel2Ideal.main_v21_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_v21_5) = v5 c
          ∧ r.2.mem ((c.tc : Thread Cert.Kernel2Ideal.nD Cert.Kernel2Ideal.τ).loc Cert.Kernel2Ideal.main_v21_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v358) = v0 c
          ∧ r.2.mem ((c.tc : Thread Cert.Reference2Ideal.nD Cert.Reference2Ideal.τ).loc Cert.Reference2Ideal.main_v360) = v1 c
          ∧ r.2.mem ((c.tc : Thread Cert.Reference2Ideal.nD Cert.Reference2Ideal.τ).loc Cert.Reference2Ideal.main_v362) = v2 c
          ∧ r.2.mem ((c.tc : Thread Cert.Reference2Ideal.nD Cert.Reference2Ideal.τ).loc Cert.Reference2Ideal.main_v363) = v3 c
          ∧ r.2.mem ((c.tc : Thread Cert.Reference2Ideal.nD Cert.Reference2Ideal.τ).loc Cert.Reference2Ideal.main_v364) = v4 c
          ∧ r.2.mem ((c.tc : Thread Cert.Reference2Ideal.nD Cert.Reference2Ideal.τ).loc Cert.Reference2Ideal.main_v365) = v5 c
          ∧ r.2.mem ((c.tc : Thread Cert.Reference2Ideal.nD Cert.Reference2Ideal.τ).loc Cert.Reference2Ideal.main_v357) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x8192x1024 : Shape := ⟨3, ![4, 8192, 1024]⟩
abbrev S4x8192x128 : Shape := ⟨3, ![4, 8192, 128]⟩
abbrev S128 : Shape := ⟨1, ![128]⟩
abbrev S1024x1024 : Shape := ⟨2, ![1024, 1024]⟩
abbrev S1024 : Shape := ⟨1, ![1024]⟩
abbrev S_ : Shape := ⟨0, ![]⟩
abbrev S4x8192x16 : Shape := ⟨3, ![4, 8192, 16]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  slices_S4x8192x128_S4x8192x16_0_0_0 : S4x8192x128.Slices ![0, 0, 0] S4x8192x16
  bcast_S_S4x8192x16 : S_.BroadcastsInDim S4x8192x16 (![] : Fin 0 → Fin S4x8192x16.rank)
  reducesTo_S4x8192x16_S_d0_1_2 : S4x8192x16.ReducesTo [0, 1, 2] S_

variable [Facts]

def fn_part1 {F : FTy → Type} [FloatOps F] (main_v16 : IVec S_ 1) (main_v17 : FVec F S4x8192x16 .f32) : IVec S_ 1 :=
  let main_v18 : FVec F S4x8192x16 .f32 := Host.absf main_v17
  let main_cst_4 : FVec F S_ .f32 := constant S_ .f32 0x7F800000#32
  let main_v19 : FVec F S4x8192x16 .f32 := broadcastInDim S4x8192x16 ![] bcast_S_S4x8192x16 main_cst_4
  let main_v20 : IVec S4x8192x16 1 := cmpf .olt main_v18 main_v19
  let main_c_5 : IVec S_ 1 := constantI S_ 1 1#1
  let main_v21 : IVec S_ 1 := (fun x v => Host.reduce IntOp.andi x v reducesTo_S4x8192x16_S_d0_1_2 h_S_) main_v20 main_c_5
  let main_v22 : IVec S_ 1 := andi main_v16 main_v21
  main_v22

def fn {F : FTy → Type} [FloatOps F] (main_arg0 : FVec F S4x8192x1024 .bf16) (main_arg1 : FVec F S4x8192x1024 .bf16) (main_arg2 : FVec F S4x8192x1024 .bf16) (main_arg3 : FVec F S4x8192x128 .f32) (main_arg4 : FVec F S4x8192x1024 .bf16) (main_arg5 : FVec F S4x8192x1024 .bf16) (main_arg6 : FVec F S4x8192x1024 .bf16) (main_arg7 : FVec F S4x8192x1024 .f32) (main_arg8 : FVec F S128 .f32) (main_arg9 : FVec F S1024x1024 .f32) (main_arg10 : FVec F S1024x1024 .f32) (main_arg11 : FVec F S1024 .f32) (main_arg12 : FVec F S1024 .f32) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  let main_v11 : FVec F S4x8192x1024 .f32 := (extf .f32 · bitsLt_bf16_f32) main_arg2
  let main_v12 : FVec F S4x8192x1024 .f32 := Host.absf main_v11
  let main_cst_2 : FVec F S_ .f32 := constant S_ .f32 0x7F800000#32
  let main_v13 : FVec F S4x8192x1024 .f32 := broadcastInDim S4x8192x1024 ![] bcast_S_S4x8192x1024 main_cst_2
  let main_v14 : IVec S4x8192x1024 1 := cmpf .olt main_v12 main_v13
  let main_c_3 : IVec S_ 1 := constantI S_ 1 1#1
  let main_v15 : IVec S_ 1 := (fun x v => Host.reduce IntOp.andi x v reducesTo_S4x8192x1024_S_d0_1_2 h_S_) main_v14 main_c_3
  let main_v16 : IVec S_ 1 := andi main_v10 main_v15
  let main_v17 : FVec F S4x8192x16 .f32 := (extractStridedSlice S4x8192x16 ![0, 0, 0] · slices_S4x8192x128_S4x8192x16_0_0_0) main_arg3
  fn_part1 (F := F) main_v16 main_v17
-- ==== Kernel.lean ====
abbrev S4x8192x1024 : Shape := ⟨3, ![4, 8192, 1024]⟩
abbrev S4x8192x128 : Shape := ⟨3, ![4, 8192, 128]⟩
abbrev S128 : Shape := ⟨1, ![128]⟩
abbrev S1024x1024 : Shape := ⟨2, ![1024, 1024]⟩
abbrev S1024 : Shape := ⟨1, ![1024]⟩
abbrev S1x128 : Shape := ⟨2, ![1, 128]⟩
abbrev S1x1024 : Shape := ⟨2, ![1, 1024]⟩
abbrev S1x256x1024 : Shape := ⟨3, ![1, 256, 1024]⟩
abbrev S1x256x128 : Shape := ⟨3, ![1, 256, 128]⟩
abbrev S8x128x128 : Shape := ⟨3, ![8, 128, 128]⟩
abbrev S256x1024 : Shape := ⟨2, ![256, 1024]⟩
abbrev S128x128 : Shape := ⟨2, ![128, 128]⟩
abbrev S1x128x128 : Shape := ⟨3, ![1, 128, 128]⟩
abbrev S128x1 : Shape := ⟨2, ![128, 1]⟩
abbrev S256x128 : Shape := ⟨2, ![256, 128]⟩
abbrev S128x256 : Shape := ⟨2, ![128, 256]⟩
abbrev S1x1 : Shape := ⟨2, ![1, 1]⟩
abbrev S256 : Shape := ⟨1, ![256]⟩
abbrev S256x1 : Shape := ⟨2, ![256, 1]⟩

abbrev nBuf : Space → Nat
  | .hbm => 19
  | .vmem => 25
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x1024, .bf16⟩
  | .hbm, ⟨3, _⟩ => ⟨S4x8192x128, .f32⟩
  | .hbm, ⟨4, _⟩ => ⟨S4x8192x1024, .bf16⟩
  | .hbm, ⟨5, _⟩ => ⟨S4x8192x1024, .bf16⟩
  | .hbm, ⟨6, _⟩ => ⟨S4x8192x1024, .bf16⟩
  | .hbm, ⟨7, _⟩ => ⟨S4x8192x1024, .f32⟩
  | .hbm, ⟨8, _⟩ => ⟨S128, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1x128, .f32⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S4x8192x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x128, .f32⟩
  | .local _ .vmem, ⟨7, _⟩ => ⟨S1x256x128, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x128, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1x256x1024, .f32⟩
  | .local _ .vmem, ⟨22, _⟩ => ⟨S1x256x1024, .f32⟩
  | .local _ .vmem, ⟨23, _⟩ => ⟨S8x128x128, .f32⟩
  | .local _ .vmem, ⟨24, _⟩ => ⟨S256x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x8192x1024 : Shape := ⟨3, ![4, 8192, 1024]⟩
abbrev S4x8192x128 : Shape := ⟨3, ![4, 8192, 128]⟩
abbrev S128 : Shape := ⟨1, ![128]⟩
abbrev S1024x1024 : Shape := ⟨2, ![1024, 1024]⟩
abbrev S1024 : Shape := ⟨1, ![1024]⟩
abbrev S4x8192x8x128 : Shape := ⟨4, ![4, 8192, 8, 128]⟩
abbrev S4x8192x8 : Shape := ⟨3, ![4, 8192, 8]⟩
abbrev S_ : Shape := ⟨0, ![]⟩
abbrev S4x8x128x128 : Shape := ⟨4, ![4, 8, 128, 128]⟩
abbrev S4x1x8x128 : Shape := ⟨4, ![4, 1, 8, 128]⟩
abbrev S4x8x128 : Shape := ⟨3, ![4, 8, 128]⟩
abbrev S4x1x8 : Shape := ⟨3, ![4, 1, 8]⟩
abbrev S4x8 : Shape := ⟨2, ![4, 8]⟩
abbrev S4x8x1x1 : Shape := ⟨4, ![4, 8, 1, 1]⟩
abbrev S4x8x1 : Shape := ⟨3, ![4, 8, 1]⟩
abbrev S4x8x128x1 : Shape := ⟨4, ![4, 8, 128, 1]⟩
abbrev S4x8x1x128 : Shape := ⟨4, ![4, 8, 1, 128]⟩
abbrev S1x1x128 : Shape := ⟨3, ![1, 1, 128]⟩
abbrev S4x1024 : Shape := ⟨2, ![4, 1024]⟩
abbrev S4x1x1024 : Shape := ⟨3, ![4, 1, 1024]⟩
abbrev S4 : Shape := ⟨1, ![4]⟩
abbrev S4x1 : Shape := ⟨2, ![4, 1]⟩
abbrev S1x1024 : Shape := ⟨2, ![1, 1024]⟩

abbrev nBuf : Space → Nat
  | .hbm => 228
  | .vmem => 0
  | .smem => 0
  | _ => 0

abbrev hbmTy0_0 (i : Nat) : BufTy := match i % 128 with
  | 0 => ⟨S4x8192x1024, .bf16⟩
  | 1 => ⟨S4x8192x1024, .bf16⟩
  | 2 => ⟨S4x8192x1024, .bf16⟩
  | 3 => ⟨S4x8192x128, .f32⟩
  | 4 => ⟨S4x8192x1024, .bf16⟩
  | 5 => ⟨S4x8192x1024, .bf16⟩
  | 6 => ⟨S4x8192x1024, .bf16⟩
  | 7 => ⟨S4x8192x1024, .f32⟩
  | 8 => ⟨S128, .f32⟩
  | 9 => ⟨S1024x1024, .f32⟩
  | 10 => ⟨S1024x1024, .f32⟩
  | 11 => ⟨S1024, .f32⟩
  | 12 => ⟨S1024, .f32⟩
  | 13 => ⟨S4x8192x1024, .f32⟩
  | 14 => ⟨S4x8192x8x128, .f32⟩
  | 15 => ⟨S4x8192x1024, .f32⟩
  | 16 => ⟨S4x8192x8x128, .f32⟩
  | 17 => ⟨S4x8192x1024, .f32⟩
  | 18 => ⟨S4x8192x8x128, .f32⟩
  | 19 => ⟨S4x8192x8, .f32⟩
  | 20 => ⟨S4x8192x8, .f32⟩
  | 21 => ⟨S4x8192x1024, .f32⟩
  | 22 => ⟨S4x8192x1024, .f32⟩
  | 23 => ⟨S4x8192x1024, .f32⟩
  | 24 => ⟨S_, .f32⟩
  | 25 => ⟨S4x8x128x128, .f32⟩
  | 26 => ⟨S_, .f32⟩
  | 27 => ⟨S4x8192x1024, .f32⟩
  | 28 => ⟨S_, .i32⟩
  | 29 => ⟨S_, .i32⟩
  | 30 => ⟨S4x8192x8x128, .f32⟩
  | 31 => ⟨S4x8192x8x128, .f32⟩
  | 32 => ⟨S4x8192x8x128, .f32⟩
  | 33 => ⟨S4x8192x8, .f32⟩
  | 34 => ⟨S4x8192x8, .f32⟩
  | 35 => ⟨S128, .f32⟩
  | 36 => ⟨S4x8192x1024, .f32⟩
  | 37 => ⟨S4x8192x1024, .f32⟩
  | 38 => ⟨S4x8192x1024, .f32⟩
  | 39 => ⟨S1024x1024, .f32⟩
  | 40 => ⟨S4x8192x1024, .f32⟩
  | 41 => ⟨S1024x1024, .f32⟩
  | 42 => ⟨S1024, .f32⟩
  | 43 => ⟨S1024, .f32⟩
  | 44 => ⟨S_, .i32⟩
  | 45 => ⟨S_, .i32⟩
  | 46 => ⟨S4x8x128x128, .f32⟩
  | 47 => ⟨S4x8192x1024, .f32⟩
  | 48 => ⟨S_, .i32⟩
  | 49 => ⟨S_, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S4x1x8x128, .f32⟩
  | 62 => ⟨S4x8x128, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S4x1x8x128, .f32⟩
  | 73 => ⟨S4x8x128, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S4x1x8x128, .f32⟩
  | 84 => ⟨S4x8x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S4x1x8, .f32⟩
  | 94 => ⟨S4x8, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S4x1x8, .f32⟩
  | 104 => ⟨S4x8, .f32⟩
  | 105 => ⟨S4x8, .f32⟩
  | 106 => ⟨S4x8x1x1, .f32⟩
  | 107 => ⟨S4x8x128x128, .f32⟩
  | 108 => ⟨S4x8x128x128, .f32⟩
  | 109 => ⟨S4x8x1, .f32⟩
  | 110 => ⟨S4x8x128, .f32⟩
  | 111 => ⟨S4x8x128, .f32⟩
  | 112 => ⟨S4x8x128, .f32⟩
  | 113 => ⟨S4x8x128, .f32⟩
  | 114 => ⟨S4x8x128x1, .f32⟩
  | 115 => ⟨S4x8x1x128, .f32⟩
  | 116 => ⟨S4x8x128x128, .f32⟩
  | 117 => ⟨S4x8x128x128, .f32⟩
  | 118 => ⟨S4x8x128x128, .f32⟩
  | 119 => ⟨S4x8x128x128, .f32⟩
  | 120 => ⟨S4x8x128, .f32⟩
  | 121 => ⟨S4x8x128, .f32⟩
  | 122 => ⟨S_, .f32⟩
  | 123 => ⟨S4x8, .f32⟩
  | 124 => ⟨S4x8x1, .f32⟩
  | 125 => ⟨S_, .f32⟩
  | 126 => ⟨S4x8x1, .f32⟩
  | 127 => ⟨S4x8x1, .f32⟩
  | _ => ⟨S4x8192x1024, .bf16⟩

abbrev hbmTy0_1 (i : Nat) : BufTy := match i % 128 with
  | 0 => ⟨S_, .f32⟩
  | 1 => ⟨S4x8x1, .f32⟩
  | 2 => ⟨S4x8x1, .f32⟩
  | 3 => ⟨S4x8x1, .f32⟩
  | 4 => ⟨S4x8x128, .f32⟩
  | 5 => ⟨S4x8x128, .f32⟩
  | 6 => ⟨S1x1x128, .f32⟩
  | 7 => ⟨S4x8x128, .f32⟩
  | 8 => ⟨S4x8x128, .f32⟩
  | 9 => ⟨S4x1024, .f32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S4x1x1024, .f32⟩
  | 19 => ⟨S4x1024, .f32⟩
  | 20 => ⟨S4x1024, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S4x1x1024, .f32⟩
  | 30 => ⟨S4x1024, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S4x1x1024, .f32⟩
  | 40 => ⟨S4x1024, .f32⟩
  | 41 => ⟨S4x1024, .f32⟩
  | 42 => ⟨S4x1024, .f32⟩
  | 43 => ⟨S4x1024, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S4x1x1024, .f32⟩
  | 53 => ⟨S4x1024, .f32⟩
  | 54 => ⟨S_, .f32⟩
  | 55 => ⟨S4x1024, .f32⟩
  | 56 => ⟨S4x1024, .f32⟩
  | 57 => ⟨S4x1024, .f32⟩
  | 58 => ⟨S4x1024, .f32⟩
  | 59 => ⟨S_, .f32⟩
  | 60 => ⟨S4, .f32⟩
  | 61 => ⟨S4x1, .f32⟩
  | 62 => ⟨S_, .f32⟩
  | 63 => ⟨S4x1, .f32⟩
  | 64 => ⟨S4x1, .f32⟩
  | 65 => ⟨S4x1024, .f32⟩
  | 66 => ⟨S4x1024, .f32⟩
  | 67 => ⟨S4x1024, .f32⟩
  | 68 => ⟨S_, .f32⟩
  | 69 => ⟨S4, .f32⟩
  | 70 => ⟨S4x1, .f32⟩
  | 71 => ⟨S_, .f32⟩
  | 72 => ⟨S4x1, .f32⟩
  | 73 => ⟨S4x1, .f32⟩
  | 74 => ⟨S4x1024, .f32⟩
  | 75 => ⟨S4x1024, .f32⟩
  | 76 => ⟨S_, .f32⟩
  | 77 => ⟨S4x1, .f32⟩
  | 78 => ⟨S4x1, .f32⟩
  | 79 => ⟨S4x1, .f32⟩
  | 80 => ⟨S4x1024, .f32⟩
  | 81 => ⟨S4x1024, .f32⟩
  | 82 => ⟨S1x1024, .f32⟩
  | 83 => ⟨S4x1024, .f32⟩
  | 84 => ⟨S4x1024, .f32⟩
  | 85 => ⟨S1x1024, .f32⟩
  | 86 => ⟨S4x1024, .f32⟩
  | 87 => ⟨S4x1024, .f32⟩
  | 88 => ⟨S4x1x1024, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S4x8192x1024, .f32⟩
  | 98 => ⟨S_, .i32⟩
  | 99 => ⟨S_, .i32⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_c : Ref sig .tc := ⟨.hbm, 28, rfl⟩
abbrev main_c_1 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev main_v13_5 : Ref sig .tc := ⟨.hbm, 35, rfl⟩
abbrev main_v13_6 : Ref sig .tc := ⟨.hbm, 36, rfl⟩
abbrev main_v13_7 : Ref sig .tc := ⟨.hbm, 37, rfl⟩
abbrev main_v13_8 : Ref sig .tc := ⟨.hbm, 38, rfl⟩
abbrev main_v13_9 : Ref sig .tc := ⟨.hbm, 39, rfl⟩
abbrev main_v13_10 : Ref sig .tc := ⟨.hbm, 40, rfl⟩
abbrev main_v13_11 : Ref sig .tc := ⟨.hbm, 41, rfl⟩
abbrev main_v13_12 : Ref sig .tc := ⟨.hbm, 42, rfl⟩
abbrev main_v13_13 : Ref sig .tc := ⟨.hbm, 43, rfl⟩
abbrev main_v13_14 : Ref sig .tc := ⟨.hbm, 44, rfl⟩
abbrev main_v13_15 : Ref sig .tc := ⟨.hbm, 45, rfl⟩
abbrev main_v13_16 : Ref sig .tc := ⟨.hbm, 46, rfl⟩
abbrev main_v13_17 : Ref sig .tc := ⟨.hbm, 47, rfl⟩
abbrev main_while0c_c_19 : Ref sig .tc := ⟨.hbm, 48, rfl⟩
abbrev main_while0c_v14 : Ref sig .tc := ⟨.hbm, 49, rfl⟩
abbrev main_while0b_c_19 : Ref sig .tc := ⟨.hbm, 50, rfl⟩
abbrev main_while0b_v14 : Ref sig .tc := ⟨.hbm, 51, rfl⟩
abbrev main_while0b_call0_c : Ref sig .tc := ⟨.hbm, 52, rfl⟩
abbrev main_while0b_call0_v0 : Ref sig .tc := ⟨.hbm, 53, rfl⟩
abbrev main_while0b_call0_v1 : Ref sig .tc := ⟨.hbm, 54, rfl⟩
abbrev main_while0b_call0_c_0 : Ref sig .tc := ⟨.hbm, 55, rfl⟩
abbrev main_while0b_call0_v2 : Ref sig .tc := ⟨.hbm, 56, rfl⟩
abbrev main_while0b_call0_v3 : Ref sig .tc := ⟨.hbm, 57, rfl⟩
abbrev main_while0b_call0_c_1 : Ref sig .tc := ⟨.hbm, 58, rfl⟩
abbrev main_while0b_call0_c_2 : Ref sig .tc := ⟨.hbm, 59, rfl⟩
abbrev main_while0b_call0_c_3 : Ref sig .tc := ⟨.hbm, 60, rfl⟩
abbrev main_while0b_call0_v4 : Ref sig .tc := ⟨.hbm, 61, rfl⟩
abbrev main_while0b_v15 : Ref sig .tc := ⟨.hbm, 62, rfl⟩
abbrev main_while0b_call1_c : Ref sig .tc := ⟨.hbm, 63, rfl⟩
abbrev main_while0b_call1_v0 : Ref sig .tc := ⟨.hbm, 64, rfl⟩
abbrev main_while0b_call1_v1 : Ref sig .tc := ⟨.hbm, 65, rfl⟩
abbrev main_while0b_call1_c_0 : Ref sig .tc := ⟨.hbm, 66, rfl⟩
abbrev main_while0b_call1_v2 : Ref sig .tc := ⟨.hbm, 67, rfl⟩
abbrev main_while0b_call1_v3 : Ref sig .tc := ⟨.hbm, 68, rfl⟩
abbrev main_while0b_call1_c_1 : Ref sig .tc := ⟨.hbm, 69, rfl⟩
abbrev main_while0b_call1_c_2 : Ref sig .tc := ⟨.hbm, 70, rfl⟩
abbrev main_while0b_call1_c_3 : Ref sig .tc := ⟨.hbm, 71, rfl⟩
abbrev main_while0b_call1_v4 : Ref sig .tc := ⟨.hbm, 72, rfl⟩
abbrev main_while0b_v16 : Ref sig .tc := ⟨.hbm, 73, rfl⟩
abbrev main_while0b_call2_c : Ref sig .tc := ⟨.hbm, 74, rfl⟩
abbrev main_while0b_call2_v0 : Ref sig .tc := ⟨.hbm, 75, rfl⟩
abbrev main_while0b_call2_v1 : Ref sig .tc := ⟨.hbm, 76, rfl⟩
abbrev main_while0b_call2_c_0 : Ref sig .tc := ⟨.hbm, 77, rfl⟩
abbrev main_while0b_call2_v2 : Ref sig .tc := ⟨.hbm, 78, rfl⟩
abbrev main_while0b_call2_v3 : Ref sig .tc := ⟨.hbm, 79, rfl⟩
abbrev main_while0b_call2_c_1 : Ref sig .tc := ⟨.hbm, 80, rfl⟩
abbrev main_while0b_call2_c_2 : Ref sig .tc := ⟨.hbm, 81, rfl⟩
abbrev main_while0b_call2_c_3 : Ref sig .tc := ⟨.hbm, 82, rfl⟩
abbrev main_while0b_call2_v4 : Ref sig .tc := ⟨.hbm, 83, rfl⟩
abbrev main_while0b_v17 : Ref sig .tc := ⟨.hbm, 84, rfl⟩
abbrev main_while0b_call3_c : Ref sig .tc := ⟨.hbm, 85, rfl⟩
abbrev main_while0b_call3_v0 : Ref sig .tc := ⟨.hbm, 86, rfl⟩
abbrev main_while0b_call3_v1 : Ref sig .tc := ⟨.hbm, 87, rfl⟩
abbrev main_while0b_call3_c_0 : Ref sig .tc := ⟨.hbm, 88, rfl⟩
abbrev main_while0b_call3_v2 : Ref sig .tc := ⟨.hbm, 89, rfl⟩
abbrev main_while0b_call3_v3 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v4 : Ref sig .tc := ⟨.hbm, 93, rfl⟩
abbrev main_while0b_v18 : Ref sig .tc := ⟨.hbm, 94, rfl⟩
abbrev main_while0b_call4_c : Ref sig .tc := ⟨.hbm, 95, rfl⟩
abbrev main_while0b_call4_v0 : Ref sig .tc := ⟨.hbm, 96, rfl⟩
abbrev main_while0b_call4_v1 : Ref sig .tc := ⟨.hbm, 97, rfl⟩
abbrev main_while0b_call4_c_0 : Ref sig .tc := ⟨.hbm, 98, rfl⟩
abbrev main_while0b_call4_v2 : Ref sig .tc := ⟨.hbm, 99, rfl⟩
abbrev main_while0b_call4_v3 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v4 : Ref sig .tc := ⟨.hbm, 103, rfl⟩
abbrev main_while0b_v19 : Ref sig .tc := ⟨.hbm, 104, rfl⟩
abbrev main_while0b_v20 : Ref sig .tc := ⟨.hbm, 105, rfl⟩
abbrev main_while0b_v21 : Ref sig .tc := ⟨.hbm, 106, rfl⟩
abbrev main_while0b_v22 : Ref sig .tc := ⟨.hbm, 107, rfl⟩
abbrev main_while0b_v23 : Ref sig .tc := ⟨.hbm, 108, rfl⟩
abbrev main_while0b_v24 : Ref sig .tc := ⟨.hbm, 109, rfl⟩
abbrev main_while0b_v25 : Ref sig .tc := ⟨.hbm, 110, rfl⟩
abbrev main_while0b_v26 : Ref sig .tc := ⟨.hbm, 111, rfl⟩
abbrev main_while0b_v27 : Ref sig .tc := ⟨.hbm, 112, rfl⟩
abbrev main_while0b_v28 : Ref sig .tc := ⟨.hbm, 113, rfl⟩
abbrev main_while0b_v29 : Ref sig .tc := ⟨.hbm, 114, rfl⟩
abbrev main_while0b_v30 : Ref sig .tc := ⟨.hbm, 115, rfl⟩
abbrev main_while0b_v31 : Ref sig .tc := ⟨.hbm, 116, rfl⟩
abbrev main_while0b_v32 : Ref sig .tc := ⟨.hbm, 117, rfl⟩
abbrev main_while0b_v33 : Ref sig .tc := ⟨.hbm, 118, rfl⟩
abbrev main_while0b_v34 : Ref sig .tc := ⟨.hbm, 119, rfl⟩
abbrev main_while0b_v35 : Ref sig .tc := ⟨.hbm, 120, rfl⟩
abbrev main_while0b_v36 : Ref sig .tc := ⟨.hbm, 121, rfl⟩
abbrev main_while0b_cst_20 : Ref sig .tc := ⟨.hbm, 122, rfl⟩
abbrev main_while0b_v37 : Ref sig .tc := ⟨.hbm, 123, rfl⟩
abbrev main_while0b_v38 : Ref sig .tc := ⟨.hbm, 124, rfl⟩
abbrev main_while0b_cst_21 : Ref sig .tc := ⟨.hbm, 125, rfl⟩
abbrev main_while0b_v39 : Ref sig .tc := ⟨.hbm, 126, rfl⟩
abbrev main_while0b_v40 : Ref sig .tc := ⟨.hbm, 127, rfl⟩
abbrev main_while0b_cst_22 : Ref sig .tc := ⟨.hbm, 128, rfl⟩
abbrev main_while0b_v41 : Ref sig .tc := ⟨.hbm, 129, rfl⟩
abbrev main_while0b_v42 : Ref sig .tc := ⟨.hbm, 130, rfl⟩
abbrev main_while0b_v43 : Ref sig .tc := ⟨.hbm, 131, rfl⟩
abbrev main_while0b_v44 : Ref sig .tc := ⟨.hbm, 132, rfl⟩
abbrev main_while0b_v45 : Ref sig .tc := ⟨.hbm, 133, rfl⟩
abbrev main_while0b_v46 : Ref sig .tc := ⟨.hbm, 134, rfl⟩
abbrev main_while0b_v47 : Ref sig .tc := ⟨.hbm, 135, rfl⟩
abbrev main_while0b_v48 : Ref sig .tc := ⟨.hbm, 136, rfl⟩
abbrev main_while0b_v49 : Ref sig .tc := ⟨.hbm, 137, rfl⟩
abbrev main_while0b_call5_c : Ref sig .tc := ⟨.hbm, 138, rfl⟩
abbrev main_while0b_call5_v0 : Ref sig .tc := ⟨.hbm, 139, rfl⟩
abbrev main_while0b_call5_v1 : Ref sig .tc := ⟨.hbm, 140, rfl⟩
abbrev main_while0b_call5_c_0 : Ref sig .tc := ⟨.hbm, 141, rfl⟩
abbrev main_while0b_call5_v2 : Ref sig .tc := ⟨.hbm, 142, rfl⟩
abbrev main_while0b_call5_v3 : Ref sig .tc := ⟨.hbm, 143, rfl⟩
abbrev main_while0b_call5_c_1 : Ref sig .tc := ⟨.hbm, 144, rfl⟩
abbrev main_while0b_call5_c_2 : Ref sig .tc := ⟨.hbm, 145, rfl⟩
abbrev main_while0b_call5_v4 : Ref sig .tc := ⟨.hbm, 146, rfl⟩
abbrev main_while0b_v50 : Ref sig .tc := ⟨.hbm, 147, rfl⟩
abbrev main_while0b_v51 : Ref sig .tc := ⟨.hbm, 148, rfl⟩
abbrev main_while0b_call6_c : Ref sig .tc := ⟨.hbm, 149, rfl⟩
abbrev main_while0b_call6_v0 : Ref sig .tc := ⟨.hbm, 150, rfl⟩
abbrev main_while0b_call6_v1 : Ref sig .tc := ⟨.hbm, 151, rfl⟩
abbrev main_while0b_call6_c_0 : Ref sig .tc := ⟨.hbm, 152, rfl⟩
abbrev main_while0b_call6_v2 : Ref sig .tc := ⟨.hbm, 153, rfl⟩
abbrev main_while0b_call6_v3 : Ref sig .tc := ⟨.hbm, 154, rfl⟩
abbrev main_while0b_call6_c_1 : Ref sig .tc := ⟨.hbm, 155, rfl⟩
abbrev main_while0b_call6_c_2 : Ref sig .tc := ⟨.hbm, 156, rfl⟩
abbrev main_while0b_call6_v4 : Ref sig .tc := ⟨.hbm, 157, rfl⟩
abbrev main_while0b_v52 : Ref sig .tc := ⟨.hbm, 158, rfl⟩
abbrev main_while0b_call7_c : Ref sig .tc := ⟨.hbm, 159, rfl⟩
abbrev main_while0b_call7_v0 : Ref sig .tc := ⟨.hbm, 160, rfl⟩
abbrev main_while0b_call7_v1 : Ref sig .tc := ⟨.hbm, 161, rfl⟩
abbrev main_while0b_call7_c_0 : Ref sig .tc := ⟨.hbm, 162, rfl⟩
abbrev main_while0b_call7_v2 : Ref sig .tc := ⟨.hbm, 163, rfl⟩
abbrev main_while0b_call7_v3 : Ref sig .tc := ⟨.hbm, 164, rfl⟩
abbrev main_while0b_call7_c_1 : Ref sig .tc := ⟨.hbm, 165, rfl⟩
abbrev main_while0b_call7_c_2 : Ref sig .tc := ⟨.hbm, 166, rfl⟩
abbrev main_while0b_call7_v4 : Ref sig .tc := ⟨.hbm, 167, rfl⟩
abbrev main_while0b_v53 : Ref sig .tc := ⟨.hbm, 168, rfl⟩
abbrev main_while0b_v54 : Ref sig .tc := ⟨.hbm, 169, rfl⟩
abbrev main_while0b_v55 : Ref sig .tc := ⟨.hbm, 170, rfl⟩
abbrev main_while0b_v56 : Ref sig .tc := ⟨.hbm, 171, rfl⟩
abbrev main_while0b_call8_c : Ref sig .tc := ⟨.hbm, 172, rfl⟩
abbrev main_while0b_call8_v0 : Ref sig .tc := ⟨.hbm, 173, rfl⟩
abbrev main_while0b_call8_v1 : Ref sig .tc := ⟨.hbm, 174, rfl⟩
abbrev main_while0b_call8_c_0 : Ref sig .tc := ⟨.hbm, 175, rfl⟩
abbrev main_while0b_call8_v2 : Ref sig .tc := ⟨.hbm, 176, rfl⟩
abbrev main_while0b_call8_v3 : Ref sig .tc := ⟨.hbm, 177, rfl⟩
abbrev main_while0b_call8_c_1 : Ref sig .tc := ⟨.hbm, 178, rfl⟩
abbrev main_while0b_call8_c_2 : Ref sig .tc := ⟨.hbm, 179, rfl⟩
abbrev main_while0b_call8_v4 : Ref sig .tc := ⟨.hbm, 180, rfl⟩
abbrev main_while0b_v57 : Ref sig .tc := ⟨.hbm, 181, rfl⟩
abbrev main_while0b_cst_23 : Ref sig .tc := ⟨.hbm, 182, rfl⟩
abbrev main_while0b_v58 : Ref sig .tc := ⟨.hbm, 183, rfl⟩
abbrev main_while0b_v59 : Ref sig .tc := ⟨.hbm, 184, rfl⟩
abbrev main_while0b_v60 : Ref sig .tc := ⟨.hbm, 185, rfl⟩
abbrev main_while0b_v61 : Ref sig .tc := ⟨.hbm, 186, rfl⟩
abbrev main_while0b_cst_24 : Ref sig .tc := ⟨.hbm, 187, rfl⟩
abbrev main_while0b_v62 : Ref sig .tc := ⟨.hbm, 188, rfl⟩
abbrev main_while0b_v63 : Ref sig .tc := ⟨.hbm, 189, rfl⟩
abbrev main_while0b_cst_25 : Ref sig .tc := ⟨.hbm, 190, rfl⟩
abbrev main_while0b_v64 : Ref sig .tc := ⟨.hbm, 191, rfl⟩
abbrev main_while0b_v65 : Ref sig .tc := ⟨.hbm, 192, rfl⟩
abbrev main_while0b_v66 : Ref sig .tc := ⟨.hbm, 193, rfl⟩
abbrev main_while0b_v67 : Ref sig .tc := ⟨.hbm, 194, rfl⟩
abbrev main_while0b_v68 : Ref sig .tc := ⟨.hbm, 195, rfl⟩
abbrev main_while0b_cst_26 : Ref sig .tc := ⟨.hbm, 196, rfl⟩
abbrev main_while0b_v69 : Ref sig .tc := ⟨.hbm, 197, rfl⟩
abbrev main_while0b_v70 : Ref sig .tc := ⟨.hbm, 198, rfl⟩
abbrev main_while0b_cst_27 : Ref sig .tc := ⟨.hbm, 199, rfl⟩
abbrev main_while0b_v71 : Ref sig .tc := ⟨.hbm, 200, rfl⟩
abbrev main_while0b_v72 : Ref sig .tc := ⟨.hbm, 201, rfl⟩
abbrev main_while0b_v73 : Ref sig .tc := ⟨.hbm, 202, rfl⟩
abbrev main_while0b_v74 : Ref sig .tc := ⟨.hbm, 203, rfl⟩
abbrev main_while0b_cst_28 : Ref sig .tc := ⟨.hbm, 204, rfl⟩
abbrev main_while0b_v75 : Ref sig .tc := ⟨.hbm, 205, rfl⟩
abbrev main_while0b_v76 : Ref sig .tc := ⟨.hbm, 206, rfl⟩
abbrev main_while0b_v77 : Ref sig .tc := ⟨.hbm, 207, rfl⟩
abbrev main_while0b_v78 : Ref sig .tc := ⟨.hbm, 208, rfl⟩
abbrev main_while0b_v79 : Ref sig .tc := ⟨.hbm, 209, rfl⟩
abbrev main_while0b_v80 : Ref sig .tc := ⟨.hbm, 210, rfl⟩
abbrev main_while0b_v81 : Ref sig .tc := ⟨.hbm, 211, rfl⟩
abbrev main_while0b_v82 : Ref sig .tc := ⟨.hbm, 212, rfl⟩
abbrev main_while0b_v83 : Ref sig .tc := ⟨.hbm, 213, rfl⟩
abbrev main_while0b_v84 : Ref sig .tc := ⟨.hbm, 214, rfl⟩
abbrev main_while0b_v85 : Ref sig .tc := ⟨.hbm, 215, rfl⟩
abbrev main_while0b_call9_v0 : Ref sig .tc := ⟨.hbm, 216, rfl⟩
abbrev main_while0b_call9_c : Ref sig .tc := ⟨.hbm, 217, rfl⟩
abbrev main_while0b_call9_v1 : Ref sig .tc := ⟨.hbm, 218, rfl⟩
abbrev main_while0b_call9_v2 : Ref sig .tc := ⟨.hbm, 219, rfl⟩
abbrev main_while0b_call9_c_0 : Ref sig .tc := ⟨.hbm, 220, rfl⟩
abbrev main_while0b_call9_v3 : Ref sig .tc := ⟨.hbm, 221, rfl⟩
abbrev main_while0b_call9_v4 : Ref sig .tc := ⟨.hbm, 222, rfl⟩
abbrev main_while0b_call9_c_1 : Ref sig .tc := ⟨.hbm, 223, rfl⟩
abbrev main_while0b_call9_c_2 : Ref sig .tc := ⟨.hbm, 224, rfl⟩
abbrev main_while0b_v86 : Ref sig .tc := ⟨.hbm, 225, rfl⟩
abbrev main_while0b_c_29 : Ref sig .tc := ⟨.hbm, 226, rfl⟩
abbrev main_while0b_v87 : Ref sig .tc := ⟨.hbm, 227, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x1024 : Shape := ⟨3, ![4, 8192, 1024]⟩
abbrev S1024x9232 : Shape := ⟨2, ![1024, 9232]⟩
abbrev S31x1024 : Shape := ⟨2, ![31, 1024]⟩
abbrev S1024 : Shape := ⟨1, ![1024]⟩
abbrev S1024x1024 : Shape := ⟨2, ![1024, 1024]⟩
abbrev S4x3072 : Shape := ⟨2, ![4, 3072]⟩
abbrev S8 : Shape := ⟨1, ![8]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S1024x2048 : Shape := ⟨2, ![1024, 2048]⟩
abbrev S32x1024 : Shape := ⟨2, ![32, 1024]⟩
abbrev S8x3072 : Shape := ⟨2, ![8, 3072]⟩
abbrev S1x8 : Shape := ⟨2, ![1, 8]⟩
abbrev S1x128 : Shape := ⟨2, ![1, 128]⟩
abbrev S1x1024 : Shape := ⟨2, ![1, 1024]⟩
abbrev S4x8192x128 : Shape := ⟨3, ![4, 8192, 128]⟩
abbrev S1x256x1024 : Shape := ⟨3, ![1, 256, 1024]⟩
abbrev S1x256x128 : Shape := ⟨3, ![1, 256, 128]⟩
abbrev S288x1024 : Shape := ⟨2, ![288, 1024]⟩
abbrev S264x3072 : Shape := ⟨2, ![264, 3072]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x3072 : Shape := ⟨2, ![256, 3072]⟩

abbrev nBuf : Space → Nat
  | .hbm => 48
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S1024x9232, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S4x3072, .f32⟩
  | .hbm, ⟨8, _⟩ => ⟨S8, .f32⟩
  | .hbm, ⟨9, _⟩ => ⟨S8, .f32⟩
  | .hbm, ⟨10, _⟩ => ⟨S1024x3072, .f32⟩
  | .hbm, ⟨11, _⟩ => ⟨S1024x3072, .bf16⟩
  | .hbm, ⟨12, _⟩ => ⟨S1024x3072, .f32⟩
  | .hbm, ⟨13, _⟩ => ⟨S1024x3072, .bf16⟩
  | .hbm, ⟨14, _⟩ => ⟨S1024x1024, .f32⟩
  | .hbm, ⟨15, _⟩ => ⟨S1024x1024, .bf16⟩
  | .hbm, ⟨16, _⟩ => ⟨S1024x16, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1024x2048, .f32⟩
  | .hbm, ⟨22, _⟩ => ⟨S1024x2048, .bf16⟩
  | .hbm, ⟨23, _⟩ => ⟨S_, .i32⟩
  | .hbm, ⟨24, _⟩ => ⟨S_, .f32⟩
  | .hbm, ⟨25, _⟩ => ⟨S32x1024, .f32⟩
  | .hbm, ⟨26, _⟩ => ⟨S_, .i32⟩
  | .hbm, ⟨27, _⟩ => ⟨S_, .f32⟩
  | .hbm, ⟨28, _⟩ => ⟨S8x3072, .f32⟩
  | .hbm, ⟨29, _⟩ => ⟨S1x8, .f32⟩
  | .hbm, ⟨30, _⟩ => ⟨S_, .i32⟩
  | .hbm, ⟨31, _⟩ => ⟨S_, .f32⟩
  | .hbm, ⟨32, _⟩ => ⟨S1x128, .f32⟩
  | .hbm, ⟨33, _⟩ => ⟨S1x8, .f32⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1024x1024, .bf16⟩
  | .hbm, ⟨41, _⟩ => ⟨S4x8192x1024, .bf16⟩
  | .hbm, ⟨42, _⟩ => ⟨S4x8192x1024, .bf16⟩
  | .hbm, ⟨43, _⟩ => ⟨S4x8192x1024, .bf16⟩
  | .hbm, ⟨44, _⟩ => ⟨S4x8192x1024, .bf16⟩
  | .hbm, ⟨45, _⟩ => ⟨S4x8192x1024, .bf16⟩
  | .hbm, ⟨46, _⟩ => ⟨S4x8192x1024, .bf16⟩
  | .hbm, ⟨47, _⟩ => ⟨S4x8192x128, .f32⟩
  | .local _ .vmem, ⟨0, _⟩ => ⟨S1x256x1024, .f32⟩
  | .local _ .vmem, ⟨1, _⟩ => ⟨S1x256x1024, .f32⟩
  | .local _ .vmem, ⟨2, _⟩ => ⟨S1024x3072, .bf16⟩
  | .local _ .vmem, ⟨3, _⟩ => ⟨S1024x3072, .bf16⟩
  | .local _ .vmem, ⟨4, _⟩ => ⟨S1024x1024, .bf16⟩
  | .local _ .vmem, ⟨5, _⟩ => ⟨S1024x128, .bf16⟩
  | .local _ .vmem, ⟨6, _⟩ => ⟨S1024x2048, .bf16⟩
  | .local _ .vmem, ⟨7, _⟩ => ⟨S32x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S8x3072, .f32⟩
  | .local _ .vmem, ⟨13, _⟩ => ⟨S1x128, .f32⟩
  | .local _ .vmem, ⟨14, _⟩ => ⟨S1x128, .f32⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x128, .f32⟩
  | .local _ .vmem, ⟨28, _⟩ => ⟨S1x256x128, .f32⟩
  | .local _ .vmem, ⟨29, _⟩ => ⟨S288x1024, .f32⟩
  | .local _ .vmem, ⟨30, _⟩ => ⟨S264x3072, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_c_1 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_call3_v0 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_call4_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_v21_3 : Ref sig .tc := ⟨.hbm, 44, rfl⟩
abbrev main_v21_4 : Ref sig .tc := ⟨.hbm, 45, rfl⟩
abbrev main_v21_5 : Ref sig .tc := ⟨.hbm, 46, rfl⟩
abbrev main_v21_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S4x8192x1024 : Shape := ⟨3, ![4, 8192, 1024]⟩
abbrev S1024x9232 : Shape := ⟨2, ![1024, 9232]⟩
abbrev S31x1024 : Shape := ⟨2, ![31, 1024]⟩
abbrev S1024 : Shape := ⟨1, ![1024]⟩
abbrev S1024x1024 : Shape := ⟨2, ![1024, 1024]⟩
abbrev S4x3072 : Shape := ⟨2, ![4, 3072]⟩
abbrev S8 : Shape := ⟨1, ![8]⟩
abbrev S_ : Shape := ⟨0, ![]⟩
abbrev S4x8222x1024 : Shape := ⟨3, ![4, 8222, 1024]⟩
abbrev S1x1024 : Shape := ⟨2, ![1, 1024]⟩
abbrev S1x1x1024 : Shape := ⟨3, ![1, 1, 1024]⟩
abbrev S4x8192 : Shape := ⟨2, ![4, 8192]⟩
abbrev S4x8192x1 : Shape := ⟨3, ![4, 8192, 1]⟩
abbrev S1024x3072 : Shape := ⟨2, ![1024, 3072]⟩
abbrev S4x8192x3072 : Shape := ⟨3, ![4, 8192, 3072]⟩
abbrev S4x8195x3072 : Shape := ⟨3, ![4, 8195, 3072]⟩
abbrev S1x3072 : Shape := ⟨2, ![1, 3072]⟩
abbrev S3072 : Shape := ⟨1, ![3072]⟩
abbrev S1x1x3072 : Shape := ⟨3, ![1, 1, 3072]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1024x8 : Shape := ⟨2, ![1024, 8]⟩
abbrev S1x1x8 : Shape := ⟨3, ![1, 1, 8]⟩
abbrev S4x8192x112 : Shape := ⟨3, ![4, 8192, 112]⟩
abbrev S4x8192x128 : Shape := ⟨3, ![4, 8192, 128]⟩

abbrev nBuf : Space → Nat
  | .hbm => 457
  | .vmem => 0
  | .smem => 0
  | _ => 0

abbrev hbmTy0_0 (i : Nat) : BufTy := match i % 128 with
  | 0 => ⟨S4x8192x1024, .f32⟩
  | 1 => ⟨S1024x9232, .f32⟩
  | 2 => ⟨S31x1024, .f32⟩
  | 3 => ⟨S1024, .f32⟩
  | 4 => ⟨S1024, .f32⟩
  | 5 => ⟨S1024, .f32⟩
  | 6 => ⟨S1024x1024, .f32⟩
  | 7 => ⟨S4x3072, .f32⟩
  | 8 => ⟨S8, .f32⟩
  | 9 => ⟨S8, .f32⟩
  | 10 => ⟨S1024x1024, .f32⟩
  | 11 => ⟨S4x8192x1024, .f32⟩
  | 12 => ⟨S1024x1024, .f32⟩
  | 13 => ⟨S4x8192x1024, .f32⟩
  | 14 => ⟨S4x8192x1024, .f32⟩
  | 15 => ⟨S4x8192x1024, .f32⟩
  | 16 => ⟨S_, .f32⟩
  | 17 => ⟨S4x8192x1024, .f32⟩
  | 18 => ⟨S4x8192x1024, .f32⟩
  | 19 => ⟨S_, .f32⟩
  | 20 => ⟨S4x8192x1024, .f32⟩
  | 21 => ⟨S4x8192x1024, .f32⟩
  | 22 => ⟨S4x8192x1024, .f32⟩
  | 23 => ⟨S_, .i32⟩
  | 24 => ⟨S_, .f32⟩
  | 25 => ⟨S4x8222x1024, .f32⟩
  | 26 => ⟨S4x8192x1024, .f32⟩
  | 27 => ⟨S1x1024, .f32⟩
  | 28 => ⟨S1024, .f32⟩
  | 29 => ⟨S1x1x1024, .f32⟩
  | 30 => ⟨S4x8192x1024, .f32⟩
  | 31 => ⟨S4x8192x1024, .f32⟩
  | 32 => ⟨S4x8192x1024, .f32⟩
  | 33 => ⟨S1x1024, .f32⟩
  | 34 => ⟨S1024, .f32⟩
  | 35 => ⟨S1x1x1024, .f32⟩
  | 36 => ⟨S4x8192x1024, .f32⟩
  | 37 => ⟨S4x8192x1024, .f32⟩
  | 38 => ⟨S4x8192x1024, .f32⟩
  | 39 => ⟨S4x8192x1024, .f32⟩
  | 40 => ⟨S1x1024, .f32⟩
  | 41 => ⟨S1024, .f32⟩
  | 42 => ⟨S1x1x1024, .f32⟩
  | 43 => ⟨S4x8192x1024, .f32⟩
  | 44 => ⟨S4x8192x1024, .f32⟩
  | 45 => ⟨S4x8192x1024, .f32⟩
  | 46 => ⟨S4x8192x1024, .f32⟩
  | 47 => ⟨S1x1024, .f32⟩
  | 48 => ⟨S1024, .f32⟩
  | 49 => ⟨S1x1x1024, .f32⟩
  | 50 => ⟨S4x8192x1024, .f32⟩
  | 51 => ⟨S4x8192x1024, .f32⟩
  | 52 => ⟨S4x8192x1024, .f32⟩
  | 53 => ⟨S4x8192x1024, .f32⟩
  | 54 => ⟨S1x1024, .f32⟩
  | 55 => ⟨S1024, .f32⟩
  | 56 => ⟨S1x1x1024, .f32⟩
  | 57 => ⟨S4x8192x1024, .f32⟩
  | 58 => ⟨S4x8192x1024, .f32⟩
  | 59 => ⟨S4x8192x1024, .f32⟩
  | 60 => ⟨S4x8192x1024, .f32⟩
  | 61 => ⟨S1x1024, .f32⟩
  | 62 => ⟨S1024, .f32⟩
  | 63 => ⟨S1x1x1024, .f32⟩
  | 64 => ⟨S4x8192x1024, .f32⟩
  | 65 => ⟨S4x8192x1024, .f32⟩
  | 66 => ⟨S4x8192x1024, .f32⟩
  | 67 => ⟨S4x8192x1024, .f32⟩
  | 68 => ⟨S1x1024, .f32⟩
  | 69 => ⟨S1024, .f32⟩
  | 70 => ⟨S1x1x1024, .f32⟩
  | 71 => ⟨S4x8192x1024, .f32⟩
  | 72 => ⟨S4x8192x1024, .f32⟩
  | 73 => ⟨S4x8192x1024, .f32⟩
  | 74 => ⟨S4x8192x1024, .f32⟩
  | 75 => ⟨S1x1024, .f32⟩
  | 76 => ⟨S1024, .f32⟩
  | 77 => ⟨S1x1x1024, .f32⟩
  | 78 => ⟨S4x8192x1024, .f32⟩
  | 79 => ⟨S4x8192x1024, .f32⟩
  | 80 => ⟨S4x8192x1024, .f32⟩
  | 81 => ⟨S4x8192x1024, .f32⟩
  | 82 => ⟨S1x1024, .f32⟩
  | 83 => ⟨S1024, .f32⟩
  | 84 => ⟨S1x1x1024, .f32⟩
  | 85 => ⟨S4x8192x1024, .f32⟩
  | 86 => ⟨S4x8192x1024, .f32⟩
  | 87 => ⟨S4x8192x1024, .f32⟩
  | 88 => ⟨S4x8192x1024, .f32⟩
  | 89 => ⟨S1x1024, .f32⟩
  | 90 => ⟨S1024, .f32⟩
  | 91 => ⟨S1x1x1024, .f32⟩
  | 92 => ⟨S4x8192x1024, .f32⟩
  | 93 => ⟨S4x8192x1024, .f32⟩
  | 94 => ⟨S4x8192x1024, .f32⟩
  | 95 => ⟨S4x8192x1024, .f32⟩
  | 96 => ⟨S1x1024, .f32⟩
  | 97 => ⟨S1024, .f32⟩
  | 98 => ⟨S1x1x1024, .f32⟩
  | 99 => ⟨S4x8192x1024, .f32⟩
  | 100 => ⟨S4x8192x1024, .f32⟩
  | 101 => ⟨S4x8192x1024, .f32⟩
  | 102 => ⟨S4x8192x1024, .f32⟩
  | 103 => ⟨S1x1024, .f32⟩
  | 104 => ⟨S1024, .f32⟩
  | 105 => ⟨S1x1x1024, .f32⟩
  | 106 => ⟨S4x8192x1024, .f32⟩
  | 107 => ⟨S4x8192x1024, .f32⟩
  | 108 => ⟨S4x8192x1024, .f32⟩
  | 109 => ⟨S4x8192x1024, .f32⟩
  | 110 => ⟨S1x1024, .f32⟩
  | 111 => ⟨S1024, .f32⟩
  | 112 => ⟨S1x1x1024, .f32⟩
  | 113 => ⟨S4x8192x1024, .f32⟩
  | 114 => ⟨S4x8192x1024, .f32⟩
  | 115 => ⟨S4x8192x1024, .f32⟩
  | 116 => ⟨S4x8192x1024, .f32⟩
  | 117 => ⟨S1x1024, .f32⟩
  | 118 => ⟨S1024, .f32⟩
  | 119 => ⟨S1x1x1024, .f32⟩
  | 120 => ⟨S4x8192x1024, .f32⟩
  | 121 => ⟨S4x8192x1024, .f32⟩
  | 122 => ⟨S4x8192x1024, .f32⟩
  | 123 => ⟨S4x8192x1024, .f32⟩
  | 124 => ⟨S1x1024, .f32⟩
  | 125 => ⟨S1024, .f32⟩
  | 126 => ⟨S1x1x1024, .f32⟩
  | 127 => ⟨S4x8192x1024, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S4x8192x1024, .f32⟩
  | 3 => ⟨S1x1024, .f32⟩
  | 4 => ⟨S1024, .f32⟩
  | 5 => ⟨S1x1x1024, .f32⟩
  | 6 => ⟨S4x8192x1024, .f32⟩
  | 7 => ⟨S4x8192x1024, .f32⟩
  | 8 => ⟨S4x8192x1024, .f32⟩
  | 9 => ⟨S4x8192x1024, .f32⟩
  | 10 => ⟨S1x1024, .f32⟩
  | 11 => ⟨S1024, .f32⟩
  | 12 => ⟨S1x1x1024, .f32⟩
  | 13 => ⟨S4x8192x1024, .f32⟩
  | 14 => ⟨S4x8192x1024, .f32⟩
  | 15 => ⟨S4x8192x1024, .f32⟩
  | 16 => ⟨S4x8192x1024, .f32⟩
  | 17 => ⟨S1x1024, .f32⟩
  | 18 => ⟨S1024, .f32⟩
  | 19 => ⟨S1x1x1024, .f32⟩
  | 20 => ⟨S4x8192x1024, .f32⟩
  | 21 => ⟨S4x8192x1024, .f32⟩
  | 22 => ⟨S4x8192x1024, .f32⟩
  | 23 => ⟨S4x8192x1024, .f32⟩
  | 24 => ⟨S1x1024, .f32⟩
  | 25 => ⟨S1024, .f32⟩
  | 26 => ⟨S1x1x1024, .f32⟩
  | 27 => ⟨S4x8192x1024, .f32⟩
  | 28 => ⟨S4x8192x1024, .f32⟩
  | 29 => ⟨S4x8192x1024, .f32⟩
  | 30 => ⟨S4x8192x1024, .f32⟩
  | 31 => ⟨S1x1024, .f32⟩
  | 32 => ⟨S1024, .f32⟩
  | 33 => ⟨S1x1x1024, .f32⟩
  | 34 => ⟨S4x8192x1024, .f32⟩
  | 35 => ⟨S4x8192x1024, .f32⟩
  | 36 => ⟨S4x8192x1024, .f32⟩
  | 37 => ⟨S4x8192x1024, .f32⟩
  | 38 => ⟨S1x1024, .f32⟩
  | 39 => ⟨S1024, .f32⟩
  | 40 => ⟨S1x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S1x1024, .f32⟩
  | 46 => ⟨S1024, .f32⟩
  | 47 => ⟨S1x1x1024, .f32⟩
  | 48 => ⟨S4x8192x1024, .f32⟩
  | 49 => ⟨S4x8192x1024, .f32⟩
  | 50 => ⟨S4x8192x1024, .f32⟩
  | 51 => ⟨S4x8192x1024, .f32⟩
  | 52 => ⟨S1x1024, .f32⟩
  | 53 => ⟨S1024, .f32⟩
  | 54 => ⟨S1x1x1024, .f32⟩
  | 55 => ⟨S4x8192x1024, .f32⟩
  | 56 => ⟨S4x8192x1024, .f32⟩
  | 57 => ⟨S4x8192x1024, .f32⟩
  | 58 => ⟨S4x8192x1024, .f32⟩
  | 59 => ⟨S1x1024, .f32⟩
  | 60 => ⟨S1024, .f32⟩
  | 61 => ⟨S1x1x1024, .f32⟩
  | 62 => ⟨S4x8192x1024, .f32⟩
  | 63 => ⟨S4x8192x1024, .f32⟩
  | 64 => ⟨S4x8192x1024, .f32⟩
  | 65 => ⟨S4x8192x1024, .f32⟩
  | 66 => ⟨S1x1024, .f32⟩
  | 67 => ⟨S1024, .f32⟩
  | 68 => ⟨S1x1x1024, .f32⟩
  | 69 => ⟨S4x8192x1024, .f32⟩
  | 70 => ⟨S4x8192x1024, .f32⟩
  | 71 => ⟨S4x8192x1024, .f32⟩
  | 72 => ⟨S4x8192x1024, .f32⟩
  | 73 => ⟨S1x1024, .f32⟩
  | 74 => ⟨S1024, .f32⟩
  | 75 => ⟨S1x1x1024, .f32⟩
  | 76 => ⟨S4x8192x1024, .f32⟩
  | 77 => ⟨S4x8192x1024, .f32⟩
  | 78 => ⟨S4x8192x1024, .f32⟩
  | 79 => ⟨S4x8192x1024, .f32⟩
  | 80 => ⟨S1x1024, .f32⟩
  | 81 => ⟨S1024, .f32⟩
  | 82 => ⟨S1x1x1024, .f32⟩
  | 83 => ⟨S4x8192x1024, .f32⟩
  | 84 => ⟨S4x8192x1024, .f32⟩
  | 85 => ⟨S4x8192x1024, .f32⟩
  | 86 => ⟨S4x8192x1024, .f32⟩
  | 87 => ⟨S1x1024, .f32⟩
  | 88 => ⟨S1024, .f32⟩
  | 89 => ⟨S1x1x1024, .f32⟩
  | 90 => ⟨S4x8192x1024, .f32⟩
  | 91 => ⟨S4x8192x1024, .f32⟩
  | 92 => ⟨S4x8192x1024, .f32⟩
  | 93 => ⟨S4x8192x1024, .f32⟩
  | 94 => ⟨S1x1024, .f32⟩
  | 95 => ⟨S1024, .f32⟩
  | 96 => ⟨S1x1x1024, .f32⟩
  | 97 => ⟨S4x8192x1024, .f32⟩
  | 98 => ⟨S4x8192x1024, .f32⟩
  | 99 => ⟨S4x8192x1024, .f32⟩
  | 100 => ⟨S4x8192x1024, .f32⟩
  | 101 => ⟨S1x1024, .f32⟩
  | 102 => ⟨S1024, .f32⟩
  | 103 => ⟨S1x1x1024, .f32⟩
  | 104 => ⟨S4x8192x1024, .f32⟩
  | 105 => ⟨S4x8192x1024, .f32⟩
  | 106 => ⟨S4x8192x1024, .f32⟩
  | 107 => ⟨S4x8192x1024, .f32⟩
  | 108 => ⟨S1x1024, .f32⟩
  | 109 => ⟨S1024, .f32⟩
  | 110 => ⟨S1x1x1024, .f32⟩
  | 111 => ⟨S4x8192x1024, .f32⟩
  | 112 => ⟨S4x8192x1024, .f32⟩
  | 113 => ⟨S4x8192x1024, .f32⟩
  | 114 => ⟨S1x1x1024, .f32⟩
  | 115 => ⟨S4x8192x1024, .f32⟩
  | 116 => ⟨S4x8192x1024, .f32⟩
  | 117 => ⟨S_, .f32⟩
  | 118 => ⟨S4x8192, .f32⟩
  | 119 => ⟨S4x8192x1, .f32⟩
  | 120 => ⟨S_, .f32⟩
  | 121 => ⟨S4x8192x1, .f32⟩
  | 122 => ⟨S4x8192x1, .f32⟩
  | 123 => ⟨S4x8192x1024, .f32⟩
  | 124 => ⟨S4x8192x1024, .f32⟩
  | 125 => ⟨S4x8192x1024, .f32⟩
  | 126 => ⟨S_, .f32⟩
  | 127 => ⟨S4x8192, .f32⟩
  | _ => ⟨S4x8192x1024, .f32⟩

abbrev hbmTy0_2 (i : Nat) : BufTy := match i % 128 with
  | 0 => ⟨S4x8192x1, .f32⟩
  | 1 => ⟨S_, .f32⟩
  | 2 => ⟨S4x8192x1, .f32⟩
  | 3 => ⟨S4x8192x1, .f32⟩
  | 4 => ⟨S4x8192x1024, .f32⟩
  | 5 => ⟨S4x8192x1024, .f32⟩
  | 6 => ⟨S_, .f32⟩
  | 7 => ⟨S4x8192x1, .f32⟩
  | 8 => ⟨S4x8192x1, .f32⟩
  | 9 => ⟨S4x8192x1, .f32⟩
  | 10 => ⟨S4x8192x1024, .f32⟩
  | 11 => ⟨S4x8192x1024, .f32⟩
  | 12 => ⟨S1x1x1024, .f32⟩
  | 13 => ⟨S4x8192x1024, .f32⟩
  | 14 => ⟨S4x8192x1024, .f32⟩
  | 15 => ⟨S1x1x1024, .f32⟩
  | 16 => ⟨S4x8192x1024, .f32⟩
  | 17 => ⟨S4x8192x1024, .f32⟩
  | 18 => ⟨S4x8192x1024, .f32⟩
  | 19 => ⟨S4x8192x1024, .f32⟩
  | 20 => ⟨S_, .f32⟩
  | 21 => ⟨S4x8192x1024, .f32⟩
  | 22 => ⟨S4x8192x1024, .f32⟩
  | 23 => ⟨S_, .f32⟩
  | 24 => ⟨S4x8192x1024, .f32⟩
  | 25 => ⟨S4x8192x1024, .f32⟩
  | 26 => ⟨S4x8192x1024, .f32⟩
  | 27 => ⟨S1024x1024, .f32⟩
  | 28 => ⟨S4x8192x1024, .f32⟩
  | 29 => ⟨S4x8192x1024, .f32⟩
  | 30 => ⟨S4x8192x1024, .f32⟩
  | 31 => ⟨S_, .f32⟩
  | 32 => ⟨S4x8192x1024, .f32⟩
  | 33 => ⟨S4x8192x1024, .f32⟩
  | 34 => ⟨S_, .f32⟩
  | 35 => ⟨S4x8192x1024, .f32⟩
  | 36 => ⟨S4x8192x1024, .f32⟩
  | 37 => ⟨S4x8192x1024, .f32⟩
  | 38 => ⟨S4x8192x1024, .f32⟩
  | 39 => ⟨S4x8192x1024, .f32⟩
  | 40 => ⟨S1024x1024, .f32⟩
  | 41 => ⟨S4x8192x1024, .f32⟩
  | 42 => ⟨S4x8192x1024, .f32⟩
  | 43 => ⟨S4x8192x1024, .f32⟩
  | 44 => ⟨S_, .f32⟩
  | 45 => ⟨S4x8192x1024, .f32⟩
  | 46 => ⟨S4x8192x1024, .f32⟩
  | 47 => ⟨S_, .f32⟩
  | 48 => ⟨S4x8192x1024, .f32⟩
  | 49 => ⟨S4x8192x1024, .f32⟩
  | 50 => ⟨S4x8192x1024, .f32⟩
  | 51 => ⟨S1024x1024, .f32⟩
  | 52 => ⟨S4x8192x1024, .f32⟩
  | 53 => ⟨S4x8192x1024, .f32⟩
  | 54 => ⟨S4x8192x1024, .f32⟩
  | 55 => ⟨S_, .f32⟩
  | 56 => ⟨S4x8192x1024, .f32⟩
  | 57 => ⟨S4x8192x1024, .f32⟩
  | 58 => ⟨S_, .f32⟩
  | 59 => ⟨S4x8192x1024, .f32⟩
  | 60 => ⟨S4x8192x1024, .f32⟩
  | 61 => ⟨S1024x3072, .f32⟩
  | 62 => ⟨S4x8192x3072, .f32⟩
  | 63 => ⟨S_, .i32⟩
  | 64 => ⟨S_, .f32⟩
  | 65 => ⟨S4x8195x3072, .f32⟩
  | 66 => ⟨S4x8192x3072, .f32⟩
  | 67 => ⟨S1x3072, .f32⟩
  | 68 => ⟨S3072, .f32⟩
  | 69 => ⟨S1x1x3072, .f32⟩
  | 70 => ⟨S4x8192x3072, .f32⟩
  | 71 => ⟨S4x8192x3072, .f32⟩
  | 72 => ⟨S4x8192x3072, .f32⟩
  | 73 => ⟨S1x3072, .f32⟩
  | 74 => ⟨S3072, .f32⟩
  | 75 => ⟨S1x1x3072, .f32⟩
  | 76 => ⟨S4x8192x3072, .f32⟩
  | 77 => ⟨S4x8192x3072, .f32⟩
  | 78 => ⟨S4x8192x3072, .f32⟩
  | 79 => ⟨S4x8192x3072, .f32⟩
  | 80 => ⟨S1x3072, .f32⟩
  | 81 => ⟨S3072, .f32⟩
  | 82 => ⟨S1x1x3072, .f32⟩
  | 83 => ⟨S4x8192x3072, .f32⟩
  | 84 => ⟨S4x8192x3072, .f32⟩
  | 85 => ⟨S4x8192x3072, .f32⟩
  | 86 => ⟨S4x8192x3072, .f32⟩
  | 87 => ⟨S1x3072, .f32⟩
  | 88 => ⟨S3072, .f32⟩
  | 89 => ⟨S1x1x3072, .f32⟩
  | 90 => ⟨S4x8192x3072, .f32⟩
  | 91 => ⟨S4x8192x3072, .f32⟩
  | 92 => ⟨S4x8192x3072, .f32⟩
  | 93 => ⟨S4x8192x3072, .f32⟩
  | 94 => ⟨S4x8192x3072, .f32⟩
  | 95 => ⟨S_, .f32⟩
  | 96 => ⟨S4x8192x3072, .f32⟩
  | 97 => ⟨S4x8192x3072, .f32⟩
  | 98 => ⟨S_, .f32⟩
  | 99 => ⟨S4x8192x3072, .f32⟩
  | 100 => ⟨S4x8192x3072, .f32⟩
  | 101 => ⟨S4x8192x3072, .f32⟩
  | 102 => ⟨S4x8192x1024, .f32⟩
  | 103 => ⟨S4x8192x8x128, .f32⟩
  | 104 => ⟨S4x8192x1024, .f32⟩
  | 105 => ⟨S4x8192x8x128, .f32⟩
  | 106 => ⟨S4x8192x8x128, .f32⟩
  | 107 => ⟨S_, .f32⟩
  | 108 => ⟨S4x8192x8, .f32⟩
  | 109 => ⟨S4x8192x8x1, .f32⟩
  | 110 => ⟨S_, .f32⟩
  | 111 => ⟨S4x8192x8x1, .f32⟩
  | 112 => ⟨S4x8192x8x1, .f32⟩
  | 113 => ⟨S4x8192x8x1, .f32⟩
  | 114 => ⟨S4x8192x8x128, .f32⟩
  | 115 => ⟨S4x8192x8x128, .f32⟩
  | 116 => ⟨S_, .f32⟩
  | 117 => ⟨S4x8192x8x128, .f32⟩
  | 118 => ⟨S4x8192x8x128, .f32⟩
  | 119 => ⟨S4x8192x8x128, .f32⟩
  | 120 => ⟨S_, .f32⟩
  | 121 => ⟨S4x8192x8, .f32⟩
  | 122 => ⟨S4x8192x8x1, .f32⟩
  | 123 => ⟨S_, .f32⟩
  | 124 => ⟨S4x8192x8x1, .f32⟩
  | 125 => ⟨S4x8192x8x1, .f32⟩
  | 126 => ⟨S4x8192x8x1, .f32⟩
  | 127 => ⟨S4x8192x8x128, .f32⟩
  | _ => ⟨S4x8192x1024, .f32⟩

abbrev hbmTy0_3 (i : Nat) : BufTy := match i % 128 with
  | 0 => ⟨S4x8192x8x128, .f32⟩
  | 1 => ⟨S4x8192x1024, .f32⟩
  | 2 => ⟨S1024x1024, .f32⟩
  | 3 => ⟨S4x8192x1024, .f32⟩
  | 4 => ⟨S4x8192x1024, .f32⟩
  | 5 => ⟨S4x8192x1024, .f32⟩
  | 6 => ⟨S_, .f32⟩
  | 7 => ⟨S4x8192x1024, .f32⟩
  | 8 => ⟨S4x8192x1024, .f32⟩
  | 9 => ⟨S_, .f32⟩
  | 10 => ⟨S4x8192x1024, .f32⟩
  | 11 => ⟨S4x8192x1024, .f32⟩
  | 12 => ⟨S4x8192x1024, .f32⟩
  | 13 => ⟨S1024x8, .f32⟩
  | 14 => ⟨S4x8192x8, .f32⟩
  | 15 => ⟨S4x8192x8, .f32⟩
  | 16 => ⟨S4x8192x8, .f32⟩
  | 17 => ⟨S_, .f32⟩
  | 18 => ⟨S4x8192x8, .f32⟩
  | 19 => ⟨S4x8192x8, .f32⟩
  | 20 => ⟨S_, .f32⟩
  | 21 => ⟨S4x8192x8, .f32⟩
  | 22 => ⟨S4x8192x8, .f32⟩
  | 23 => ⟨S8, .f32⟩
  | 24 => ⟨S8, .f32⟩
  | 25 => ⟨S1024x8, .f32⟩
  | 26 => ⟨S4x8192x8, .f32⟩
  | 27 => ⟨S1x1x8, .f32⟩
  | 28 => ⟨S4x8192x8, .f32⟩
  | 29 => ⟨S4x8192x8, .f32⟩
  | 30 => ⟨S_, .f32⟩
  | 31 => ⟨S4x8192x8, .f32⟩
  | 32 => ⟨S4x8192x8, .f32⟩
  | 33 => ⟨S4x8192x8, .f32⟩
  | 34 => ⟨S4x8192x8, .f32⟩
  | 35 => ⟨S4x8192x8, .i1⟩
  | 36 => ⟨S4x8192x8, .f32⟩
  | 37 => ⟨S4x8192x8, .f32⟩
  | 38 => ⟨S4x8192x8, .f32⟩
  | 39 => ⟨S4x8192x8, .f32⟩
  | 40 => ⟨S4x8192x8, .f32⟩
  | 41 => ⟨S4x8192x8, .f32⟩
  | 42 => ⟨S4x8192x8, .f32⟩
  | 43 => ⟨S4x8192x8, .f32⟩
  | 44 => ⟨S1x1x8, .f32⟩
  | 45 => ⟨S4x8192x8, .f32⟩
  | 46 => ⟨S4x8192x8, .f32⟩
  | 47 => ⟨S_, .f32⟩
  | 48 => ⟨S4x8192x112, .f32⟩
  | 49 => ⟨S_, .f32⟩
  | 50 => ⟨S4x8192x112, .f32⟩
  | 51 => ⟨S4x8192x112, .f32⟩
  | 52 => ⟨S4x8192x112, .f32⟩
  | 53 => ⟨S4x8192x112, .f32⟩
  | 54 => ⟨S4x8192x112, .i1⟩
  | 55 => ⟨S4x8192x112, .f32⟩
  | 56 => ⟨S4x8192x112, .f32⟩
  | 57 => ⟨S4x8192x112, .f32⟩
  | 58 => ⟨S4x8192x112, .f32⟩
  | 59 => ⟨S4x8192x112, .f32⟩
  | 60 => ⟨S4x8192x112, .f32⟩
  | 61 => ⟨S4x8192x112, .f32⟩
  | 62 => ⟨S4x8192x112, .f32⟩
  | 63 => ⟨S4x8192x112, .f32⟩
  | 64 => ⟨S4x8192x128, .f32⟩
  | 65 => ⟨S4x8192x1024, .bf16⟩
  | 66 => ⟨S4x8192x1024, .f32⟩
  | 67 => ⟨S4x8192x1024, .bf16⟩
  | 68 => ⟨S4x8192x1024, .f32⟩
  | 69 => ⟨S4x8192x1024, .bf16⟩
  | 70 => ⟨S4x8192x1024, .bf16⟩
  | 71 => ⟨S4x8192x1024, .bf16⟩
  | 72 => ⟨S4x8192x1024, .bf16⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_cst_1 : Ref sig .tc := ⟨.hbm, 245, rfl⟩
abbrev main_v231 : Ref sig .tc := ⟨.hbm, 246, rfl⟩
abbrev main_v232 : Ref sig .tc := ⟨.hbm, 247, rfl⟩
abbrev main_cst_2 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_cst_3 : Ref sig .tc := ⟨.hbm, 254, rfl⟩
abbrev main_v238 : Ref sig .tc := ⟨.hbm, 255, rfl⟩
abbrev main_v239 : Ref sig .tc := ⟨.hbm, 256, rfl⟩
abbrev main_cst_4 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_cst_5 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_call1_v0 : Ref sig .tc := ⟨.hbm, 274, rfl⟩
abbrev main_call1_v1 : Ref sig .tc := ⟨.hbm, 275, rfl⟩
abbrev main_call1_cst : Ref sig .tc := ⟨.hbm, 276, rfl⟩
abbrev main_call1_v2 : Ref sig .tc := ⟨.hbm, 277, rfl⟩
abbrev main_call1_v3 : Ref sig .tc := ⟨.hbm, 278, rfl⟩
abbrev main_call1_cst_0 : Ref sig .tc := ⟨.hbm, 279, rfl⟩
abbrev main_call1_v4 : Ref sig .tc := ⟨.hbm, 280, rfl⟩
abbrev main_call1_v5 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_call2_v0 : Ref sig .tc := ⟨.hbm, 285, rfl⟩
abbrev main_call2_v1 : Ref sig .tc := ⟨.hbm, 286, rfl⟩
abbrev main_call2_cst : Ref sig .tc := ⟨.hbm, 287, rfl⟩
abbrev main_call2_v2 : Ref sig .tc := ⟨.hbm, 288, rfl⟩
abbrev main_call2_v3 : Ref sig .tc := ⟨.hbm, 289, rfl⟩
abbrev main_call2_cst_0 : Ref sig .tc := ⟨.hbm, 290, rfl⟩
abbrev main_call2_v4 : Ref sig .tc := ⟨.hbm, 291, rfl⟩
abbrev main_call2_v5 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_cst_6 : Ref sig .tc := ⟨.hbm, 300, rfl⟩
abbrev main_v265 : Ref sig .tc := ⟨.hbm, 301, rfl⟩
abbrev main_v266 : Ref sig .tc := ⟨.hbm, 302, rfl⟩
abbrev main_cst_7 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_cst_8 : Ref sig .tc := ⟨.hbm, 311, rfl⟩
abbrev main_v274 : Ref sig .tc := ⟨.hbm, 312, rfl⟩
abbrev main_v275 : Ref sig .tc := ⟨.hbm, 313, rfl⟩
abbrev main_cst_9 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_c_10 : Ref sig .tc := ⟨.hbm, 319, rfl⟩
abbrev main_call3_v0 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_call4_v0 : Ref sig .tc := ⟨.hbm, 349, rfl⟩
abbrev main_call4_v1 : Ref sig .tc := ⟨.hbm, 350, rfl⟩
abbrev main_call4_cst : Ref sig .tc := ⟨.hbm, 351, rfl⟩
abbrev main_call4_v2 : Ref sig .tc := ⟨.hbm, 352, rfl⟩
abbrev main_call4_v3 : Ref sig .tc := ⟨.hbm, 353, rfl⟩
abbrev main_call4_cst_0 : Ref sig .tc := ⟨.hbm, 354, rfl⟩
abbrev main_call4_v4 : Ref sig .tc := ⟨.hbm, 355, rfl⟩
abbrev main_call4_v5 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_cst_11 : Ref sig .tc := ⟨.hbm, 363, rfl⟩
abbrev main_v314 : Ref sig .tc := ⟨.hbm, 364, rfl⟩
abbrev main_v315 : Ref sig .tc := ⟨.hbm, 365, rfl⟩
abbrev main_cst_12 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_cst_13 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_cst_14 : Ref sig .tc := ⟨.hbm, 376, rfl⟩
abbrev main_v324 : Ref sig .tc := ⟨.hbm, 377, rfl⟩
abbrev main_v325 : Ref sig .tc := ⟨.hbm, 378, rfl⟩
abbrev main_cst_15 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_call5_v0 : Ref sig .tc := ⟨.hbm, 388, rfl⟩
abbrev main_call5_v1 : Ref sig .tc := ⟨.hbm, 389, rfl⟩
abbrev main_call5_cst : Ref sig .tc := ⟨.hbm, 390, rfl⟩
abbrev main_call5_v2 : Ref sig .tc := ⟨.hbm, 391, rfl⟩
abbrev main_call5_v3 : Ref sig .tc := ⟨.hbm, 392, rfl⟩
abbrev main_call5_cst_0 : Ref sig .tc := ⟨.hbm, 393, rfl⟩
abbrev main_call5_v4 : Ref sig .tc := ⟨.hbm, 394, rfl⟩
abbrev main_call5_v5 : Ref sig .tc := ⟨.hbm, 395, rfl⟩
abbrev main_v334 : Ref sig .tc := ⟨.hbm, 396, rfl⟩
abbrev main_v335 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_cst_16 : Ref sig .tc := ⟨.hbm, 401, rfl⟩
abbrev main_v339 : Ref sig .tc := ⟨.hbm, 402, rfl⟩
abbrev main_v340 : Ref sig .tc := ⟨.hbm, 403, rfl⟩
abbrev main_cst_17 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_call6_cst : Ref sig .tc := ⟨.hbm, 414, rfl⟩
abbrev main_call6_v0 : Ref sig .tc := ⟨.hbm, 415, rfl⟩
abbrev main_call6_v1 : Ref sig .tc := ⟨.hbm, 416, rfl⟩
abbrev main_call6_v2 : Ref sig .tc := ⟨.hbm, 417, rfl⟩
abbrev main_call6_v3 : Ref sig .tc := ⟨.hbm, 418, rfl⟩
abbrev main_call6_v4 : Ref sig .tc := ⟨.hbm, 419, rfl⟩
abbrev main_call6_v5 : Ref sig .tc := ⟨.hbm, 420, rfl⟩
abbrev main_call6_v6 : Ref sig .tc := ⟨.hbm, 421, rfl⟩
abbrev main_call6_v7 : Ref sig .tc := ⟨.hbm, 422, rfl⟩
abbrev main_call6_v8 : Ref sig .tc := ⟨.hbm, 423, rfl⟩
abbrev main_call6_v9 : Ref sig .tc := ⟨.hbm, 424, rfl⟩
abbrev main_call6_v10 : Ref sig .tc := ⟨.hbm, 425, rfl⟩
abbrev main_call6_v11 : Ref sig .tc := ⟨.hbm, 426, rfl⟩
abbrev main_v350 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_cst_18 : Ref sig .tc := ⟨.hbm, 431, rfl⟩
abbrev main_v354 : Ref sig .tc := ⟨.hbm, 432, rfl⟩
abbrev main_call7_cst : Ref sig .tc := ⟨.hbm, 433, rfl⟩
abbrev main_call7_v0 : Ref sig .tc := ⟨.hbm, 434, rfl⟩
abbrev main_call7_v1 : Ref sig .tc := ⟨.hbm, 435, rfl⟩
abbrev main_call7_v2 : Ref sig .tc := ⟨.hbm, 436, rfl⟩
abbrev main_call7_v3 : Ref sig .tc := ⟨.hbm, 437, rfl⟩
abbrev main_call7_v4 : Ref sig .tc := ⟨.hbm, 438, rfl⟩
abbrev main_call7_v5 : Ref sig .tc := ⟨.hbm, 439, rfl⟩
abbrev main_call7_v6 : Ref sig .tc := ⟨.hbm, 440, rfl⟩
abbrev main_call7_v7 : Ref sig .tc := ⟨.hbm, 441, rfl⟩
abbrev main_call7_v8 : Ref sig .tc := ⟨.hbm, 442, rfl⟩
abbrev main_call7_v9 : Ref sig .tc := ⟨.hbm, 443, rfl⟩
abbrev main_call7_v10 : Ref sig .tc := ⟨.hbm, 444, rfl⟩
abbrev main_call7_v11 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩

abbrev nD : Nat := 1
abbrev τ : Topo := Topo.v7x

variable {F : FTy → Type} [FloatOps F]
-- ==== Proof.DeltaMath.lean ====
module

public import Mathlib.LinearAlgebra.Matrix.NonsingularInverse
public import Mathlib.Analysis.SpecialFunctions.Exp
public import Mathlib.Tactic.Ring
public import Mathlib.Tactic.NoncommRing
public import Mathlib.Tactic.NormNum

@[expose] public section

noncomputable section

/-! The chunked form of the gated delta rule equals its recurrence, over the reals. -/

namespace Cert.Delta

open Finset

/-! ### The inverse of a unit lower triangular matrix as a product -/

section Neumann

variable {C : ℕ}

/-- The powers of a strictly lower triangular matrix move down the diagonals. -/
theorem pow_entry_zero {L : Matrix (Fin C) (Fin C) ℝ} (h : ∀ i j, ¬ j < i → L i j = 0) (n : ℕ) :
    ∀ i j : Fin C, (i : ℕ) < j + n → (L ^ n) i j = 0 := by
  induction n with
  | zero =>
    intro i j hij
    have : i ≠ j := by rintro rfl; omega
    simp [Matrix.one_apply_ne this]
  | succ n ih =>
    intro i j hij
    rw [pow_succ, Matrix.mul_apply]
    refine sum_eq_zero fun k _ => ?_
    by_cases hk : j < k
    · rw [ih i k (by have := Fin.lt_def.1 hk; omega), zero_mul]
    · rw [h k j hk, mul_zero]

theorem pow_eq_zero_of_strict {L : Matrix (Fin C) (Fin C) ℝ} (h : ∀ i j, ¬ j < i → L i j = 0) {n : ℕ}
    (hn : C ≤ n) : L ^ n = 0 := by
  ext i j
  rw [pow_entry_zero h n i j (by omega)]; rfl

/-- One doubling of the product: the inverse so far against the square of the power so far. -/
theorem neumann_double {L I P : Matrix (Fin C) (Fin C) ℝ} (h : (1 + L) * I = 1 - P) :
    (1 + L) * (I + I * P) = 1 - P * P := by
  rw [mul_add, ← mul_assoc, h]; noncomm_ring

/-- `(I - L)(I + L²)(I + L⁴)…(I + L⁶⁴)` as the kernel forms it. -/
def neumann (L : Matrix (Fin C) (Fin C) ℝ) : Matrix (Fin C) (Fin C) ℝ :=
  let i1 := 1 - L
  let p1 := L * L
  let i2 := i1 + i1 * p1
  let p2 := p1 * p1
  let i3 := i2 + i2 * p2
  let p3 := p2 * p2
  let i4 := i3 + i3 * p3
  let p4 := p3 * p3
  let i5 := i4 + i4 * p4
  let p5 := p4 * p4
  let i6 := i5 + i5 * p5
  let p6 := p5 * p5
  i6 + i6 * p6

theorem neumann_right {L : Matrix (Fin C) (Fin C) ℝ} (h : ∀ i j, ¬ j < i → L i j = 0) (hC : C ≤ 128) :
    (1 + L) * neumann L = 1 := by
  have e : L * L * (L * L) * (L * L * (L * L)) * (L * L * (L * L) * (L * L * (L * L)))
      * (L * L * (L * L) * (L * L * (L * L)) * (L * L * (L * L) * (L * L * (L * L)))) = L ^ 32 := by
    simp only [← pow_two, ← pow_mul]; norm_num
  have z := pow_eq_zero_of_strict h hC
  have h1 : (1 + L) * (1 - L) = 1 - L * L := by noncomm_ring
  have h7 := neumann_double (neumann_double (neumann_double (neumann_double (neumann_double (neumann_double h1)))))
  unfold neumann
  rw [h7, e]
  have : L ^ 32 * L ^ 32 * (L ^ 32 * L ^ 32) = 0 := by rw [← pow_add, ← pow_add]; exact z
  rw [this, sub_zero]

theorem neumann_left {L : Matrix (Fin C) (Fin C) ℝ} (h : ∀ i j, ¬ j < i → L i j = 0) (hC : C ≤ 128) :
    neumann L * (1 + L) = 1 := mul_eq_one_comm.1 (neumann_right h hC)

end Neumann

/-! ### The recurrence -/

section Recurrence

variable {d e : ℕ} (q k : ℕ → Fin d → ℝ) (v : ℕ → Fin e → ℝ) (g b : ℕ → ℝ)

/-- The value a token writes, of the state before it. -/
def tokU (t : ℕ) (S : Fin d → Fin e → ℝ) (w : Fin e) : ℝ :=
  b t * (v t w - ∑ i, k t i * (Real.exp (g t) * S i w))

/-- The state after token `t`, of the state before it. -/
def tokS (t : ℕ) (S : Fin d → Fin e → ℝ) (i : Fin d) (w : Fin e) : ℝ :=
  Real.exp (g t) * S i w + k t i * tokU k v g b t S w

/-- The state before token `t`. -/
def stateAt : ℕ → Fin d → Fin e → ℝ
  | 0 => fun _ _ => 0
  | t + 1 => tokS k v g b t (stateAt t)

/-- The output of token `t`. -/
def outAt (t : ℕ) (w : Fin e) : ℝ := ∑ i, q t i * stateAt k v g b (t + 1) i w

/-- The decay exponent summed over the first `n` tokens from `T`. -/
def cum (T n : ℕ) : ℝ := ∑ j ∈ range n, g (T + j)

/-- The value written by the `j`-th token from `T`. -/
def uAt (T j : ℕ) (w : Fin e) : ℝ := tokU k v g b (T + j) (stateAt k v g b (T + j)) w

theorem cum_succ (T n : ℕ) : cum g T (n + 1) = cum g T n + g (T + n) := by
  unfold cum; rw [sum_range_succ]

/-- The state within a chunk, from the state at its start and the values written since. -/
theorem stateAt_chunk (T n : ℕ) (i : Fin d) (w : Fin e) :
    stateAt k v g b (T + n) i w = Real.exp (cum g T n) * stateAt k v g b T i w
      + ∑ j ∈ range n, Real.exp (cum g T n - cum g T (j + 1)) * k (T + j) i * uAt k v g b T j w := by
  induction n with
  | zero => simp [cum]
  | succ n ih =>
    have : stateAt k v g b (T + (n + 1)) i w = tokS k v g b (T + n) (stateAt k v g b (T + n)) i w := rfl
    rw [this, tokS, ih, sum_range_succ, sub_self, Real.exp_zero, one_mul, mul_add, ← mul_assoc, ← Real.exp_add,
      cum_succ, add_comm (g (T + n)), mul_sum, add_assoc]
    congr 1
    refine congrArg₂ (· + ·) (sum_congr rfl fun j _ => ?_) rfl
    rw [← mul_assoc, ← mul_assoc, ← Real.exp_add]
    congr 3
    ring

theorem uAt_chunk (T n : ℕ) (w : Fin e) :
    uAt k v g b T n w + ∑ j ∈ range n, ((∑ i, k (T + n) i * b (T + n) * k (T + j) i)
        * Real.exp (cum g T (n + 1) - cum g T (j + 1))) * uAt k v g b T j w
      = v (T + n) w * b (T + n) - ∑ i, k (T + n) i * b (T + n) * Real.exp (cum g T (n + 1)) * stateAt k v g b T i w := by
  have hs : ∑ i, k (T + n) i * (Real.exp (g (T + n)) * stateAt k v g b (T + n) i w)
      = ∑ i, k (T + n) i * Real.exp (cum g T (n + 1)) * stateAt k v g b T i w
        + ∑ j ∈ range n, ((∑ i, k (T + n) i * k (T + j) i)
            * Real.exp (cum g T (n + 1) - cum g T (j + 1))) * uAt k v g b T j w := by
    simp only [stateAt_chunk k v g b T n, mul_add, sum_add_distrib]
    congr 1
    · refine sum_congr rfl fun i _ => ?_
      rw [cum_succ, Real.exp_add]; ring
    · simp only [mul_sum, sum_mul]
      rw [sum_comm]
      refine sum_congr rfl fun j _ => sum_congr rfl fun i _ => ?_
      rw [cum_succ g T n, show cum g T n + g (T + n) - cum g T (j + 1) = g (T + n) + (cum g T n - cum g T (j + 1)) by ring,
        Real.exp_add]
      ring
  rw [uAt, tokU, hs]
  simp only [mul_sub, mul_add, mul_sum, sum_mul]
  rw [show ∀ a c x y z : ℝ, a = z → c = y → b (T + n) * v (T + n) w - (a + c) + y = v (T + n) w * b (T + n) - z from
    fun a c x y z h1 h2 => by rw [h1, h2]; ring]
  · exact 0
  · refine sum_congr rfl fun i _ => ?_; ring
  · refine sum_congr rfl fun j _ => sum_congr rfl fun i _ => ?_; ring

end Recurrence

/-! ### The chunk -/

/-- A function of two indices as a matrix. -/
abbrev mx {m n : ℕ} (f : Fin m → Fin n → ℝ) : Matrix (Fin m) (Fin n) ℝ := f

section Chunk

variable {C d e : ℕ} (Q K : Matrix (Fin C) (Fin d) ℝ) (V : Matrix (Fin C) (Fin e) ℝ) (b gc : Fin C → ℝ) (gl : ℝ)
  (S : Matrix (Fin d) (Fin e) ℝ)

def chunkL : Matrix (Fin C) (Fin C) ℝ := fun i j =>
  if j < i then (∑ c, K i c * b i * K j c) * Real.exp (gc i - gc j) else 0

def chunkA : Matrix (Fin C) (Fin C) ℝ := fun i j =>
  if j ≤ i then (∑ c, Q i c * K j c) * Real.exp (gc i - gc j) else 0

/-- The values the chunk's tokens write. -/
def chunkU : Matrix (Fin C) (Fin e) ℝ :=
  neumann (chunkL K b gc) * mx (fun i w => V i w * b i)
    - (neumann (chunkL K b gc) * mx (fun i c => K i c * b i * Real.exp (gc i))) * S

def chunkO : Matrix (Fin C) (Fin e) ℝ :=
  mx (fun i c => Q i c * Real.exp (gc i)) * S + chunkA Q K gc * chunkU K V b gc S

def chunkS : Matrix (Fin d) (Fin e) ℝ := fun i w =>
  S i w * Real.exp gl + ∑ j, K j i * Real.exp (gl - gc j) * chunkU K V b gc S j w

end Chunk

section Agree

variable {C d e : ℕ} (q k : ℕ → Fin d → ℝ) (v : ℕ → Fin e → ℝ) (g b : ℕ → ℝ) (T : ℕ)

theorem sum_fin_lt {C : ℕ} (f : ℕ → ℝ) (i : Fin C) : (∑ j : Fin C, if j < i then f j else 0) = ∑ j ∈ range i, f j := by
  rw [← sum_filter]
  refine sum_bij (fun j _ => (j : ℕ)) ?_ ?_ ?_ ?_
  · intro j hj; simpa using hj
  · intro a _ c _ h; exact Fin.ext h
  · intro j hj; exact ⟨⟨j, by have := mem_range.1 hj; omega⟩, mem_filter.2 ⟨mem_univ _, Fin.lt_def.2 (mem_range.1 hj)⟩, rfl⟩
  · intro j _; rfl

theorem sum_fin_le {C : ℕ} (f : ℕ → ℝ) (i : Fin C) :
    (∑ j : Fin C, if j ≤ i then f j else 0) = ∑ j ∈ range (i + 1), f j := by
  rw [← sum_filter]
  refine sum_bij (fun j _ => (j : ℕ)) ?_ ?_ ?_ ?_
  · intro j hj; have := Fin.le_def.1 (mem_filter.1 hj).2; exact mem_range.2 (by omega)
  · intro a _ c _ h; exact Fin.ext h
  · intro j hj; have := mem_range.1 hj
    exact ⟨⟨j, by omega⟩, mem_filter.2 ⟨mem_univ _, Fin.le_def.2 (Nat.lt_succ_iff.1 this)⟩, rfl⟩
  · intro j _; rfl

variable (hC : C ≤ 128)
include hC

theorem chunkU_eq (i : Fin C) (w : Fin e) :
    chunkU (mx fun i : Fin C => k (T + i)) (mx fun i : Fin C => v (T + i)) (fun i => b (T + i)) (fun i => cum g T (i + 1))
      (mx (stateAt k v g b T)) i w = uAt k v g b T i w := by
  set L := chunkL (mx fun i : Fin C => k (T + i)) (fun i => b (T + i)) (fun i => cum g T (i + 1)) with hL
  have hz : ∀ i j, ¬ j < i → L i j = 0 := fun i j h => by rw [hL, chunkL, if_neg h]
  let U : Matrix (Fin C) (Fin e) ℝ := fun i w => uAt k v g b T i w
  let R1 : Matrix (Fin C) (Fin e) ℝ := fun i w => v (T + i) w * b (T + i)
  let R2 : Matrix (Fin C) (Fin d) ℝ := fun i c => k (T + i) c * b (T + i) * Real.exp (cum g T (i + 1))
  have key : (1 + L) * U = R1 - R2 * mx (stateAt k v g b T) := by
    ext i w
    rw [Matrix.add_mul, Matrix.one_mul, Matrix.add_apply, Matrix.sub_apply, Matrix.mul_apply, Matrix.mul_apply]
    have := uAt_chunk k v g b T i w
    rw [← this]
    congr 1
    rw [← sum_fin_lt (fun j => ((∑ c, k (T + i) c * b (T + i) * k (T + j) c)
        * Real.exp (cum g T (i + 1) - cum g T (j + 1))) * uAt k v g b T j w)]
    refine sum_congr rfl fun j _ => ?_
    rw [hL, chunkL]
    by_cases h : j < i
    · rw [if_pos h, if_pos h]
    · rw [if_neg h, if_neg h, zero_mul]
  have : neumann L * (R1 - R2 * mx (stateAt k v g b T)) = U := by
    rw [← key, ← Matrix.mul_assoc, neumann_left hz hC, Matrix.one_mul]
  rw [Matrix.mul_sub, ← Matrix.mul_assoc] at this
  exact congrFun (congrFun this i) w

/-- The chunk's outputs are the recurrence's. -/
theorem chunkO_eq (i : Fin C) (w : Fin e) :
    chunkO (mx fun i : Fin C => q (T + i)) (mx fun i : Fin C => k (T + i)) (mx fun i : Fin C => v (T + i)) (fun i => b (T + i))
      (fun i => cum g T (i + 1)) (mx (stateAt k v g b T)) i w = outAt q k v g b (T + i) w := by
  rw [chunkO, Matrix.add_apply, Matrix.mul_apply, Matrix.mul_apply]
  simp only [chunkU_eq k v g b T hC]
  rw [outAt, show T + (i : ℕ) + 1 = T + (i + 1) from rfl]
  simp only [stateAt_chunk k v g b T, mul_add, sum_add_distrib]
  congr 1
  · refine sum_congr rfl fun c _ => ?_; ring
  · simp only [mul_sum]
    rw [sum_comm, ← sum_fin_le (fun j => ∑ c, q (T + i) c * (Real.exp (cum g T (i + 1) - cum g T (j + 1)) * k (T + j) c
      * uAt k v g b T j w))]
    refine sum_congr rfl fun j _ => ?_
    rw [chunkA]
    by_cases h : j ≤ i
    · rw [if_pos h, if_pos h, sum_mul, sum_mul]
      refine sum_congr rfl fun c _ => ?_; ring
    · rw [if_neg h, if_neg h, zero_mul]

/-- The chunk's last state is the recurrence's. -/
theorem chunkS_eq (i : Fin d) (w : Fin e) :
    chunkS (mx fun i : Fin C => k (T + i)) (mx fun i : Fin C => v (T + i)) (fun i => b (T + i)) (fun i => cum g T (i + 1))
      (cum g T C) (mx (stateAt k v g b T)) i w = stateAt k v g b (T + C) i w := by
  rw [chunkS, stateAt_chunk k v g b T C]
  simp only [chunkU_eq k v g b T hC]
  rw [mul_comm, ← Fin.sum_univ_eq_sum_range (fun j => Real.exp (cum g T C - cum g T (j + 1)) * k (T + j) i
    * uAt k v g b T j w)]
  congr 1
  refine sum_congr rfl fun j _ => ?_; ring

end Agree

end Cert.Delta

end
-- ==== Proof.Spec.lean ====
module

public import proofs.«01_k».proof.Proof.DeltaMath
public import Idealize.ShloMosaic.PureOps.Ideal

@[expose] public section

noncomputable section

/-! The part of the layer from the delta rule on, row by row, over the extended reals: what the kernel and the reference are both shown to compute. -/

namespace Cert.Spec

open Idealize.ShloMosaic

/-- The arguments, as functions of their indices: the queries, keys and values of the eight heads side by side, the writing
strengths (lanes 0 to 7) and the decay exponents (lanes 8 to 15), the two gates, the other branch, the layer's input, and
the weights. -/
structure Args where
  aq : Fin 4 → Fin 8192 → Fin 1024 → EReal
  ak : Fin 4 → Fin 8192 → Fin 1024 → EReal
  av : Fin 4 → Fin 8192 → Fin 1024 → EReal
  bg : Fin 4 → Fin 8192 → Fin 128 → EReal
  gz : Fin 4 → Fin 8192 → Fin 1024 → EReal
  gg : Fin 4 → Fin 8192 → Fin 1024 → EReal
  hc : Fin 4 → Fin 8192 → Fin 1024 → EReal
  x : Fin 4 → Fin 8192 → Fin 1024 → EReal
  ng : Fin 128 → EReal
  gwo : Fin 1024 → Fin 1024 → EReal
  wo : Fin 1024 → Fin 1024 → EReal
  pg : Fin 1024 → EReal
  pb : Fin 1024 → EReal

/-- Token `t` of row `b` of an array; zero past the end. -/
def tok {n : ℕ} (X : Fin 4 → Fin 8192 → Fin n → EReal) (b : Fin 4) (t : ℕ) (c : Fin n) : EReal :=
  if h : t < 8192 then X b ⟨t, h⟩ c else 0

theorem tok_fin {n : ℕ} (X : Fin 4 → Fin 8192 → Fin n → EReal) (b : Fin 4) (t : Fin 8192) (c : Fin n) :
    tok X b t c = X b t c := dif_pos t.isLt

/-! The constants of both programs. -/

def e5 : EReal := Ideal.ofBits .f32 0x3727C5AC#32
def e6 : EReal := Ideal.ofBits .f32 0x358637BD#32
def c1024 : EReal := Ideal.ofBits .f32 0x44800000#32
def c128 : EReal := Ideal.ofBits .f32 0x43000000#32
def alpha : EReal := Ideal.ofBits .f32 0x3F9837F0#32

/-- The layer norm of a row of 1024 channels. -/
def lnorm (y g b : Fin 1024 → EReal) (c : Fin 1024) : EReal :=
  (y c - Ideal.div (∑ i, y i) c1024)
    * Ideal.rsqrt (Ideal.div (∑ j, (y j - Ideal.div (∑ i, y i) c1024) * (y j - Ideal.div (∑ i, y i) c1024)) c1024 + e5)
    * g c + b c

namespace Args

variable (A : Args) (b : Fin 4)

def q (t : ℕ) (h : Fin 8) (i : Fin 128) : EReal := tok A.aq b t ⟨128 * h + i, by omega⟩
def k (t : ℕ) (h : Fin 8) (i : Fin 128) : EReal := tok A.ak b t ⟨128 * h + i, by omega⟩
def v (t : ℕ) (h : Fin 8) (w : Fin 128) : EReal := tok A.av b t ⟨128 * h + w, by omega⟩
def beta (t : ℕ) (h : Fin 8) : EReal := tok A.bg b t ⟨h, by omega⟩
def gate (t : ℕ) (h : Fin 8) : EReal := tok A.bg b t ⟨8 + h, by omega⟩

/-! The same as real numbers, and the recurrence over them. -/

def qR (h : Fin 8) (t : ℕ) (i : Fin 128) : ℝ := (A.q b t h i).toReal
def kR (h : Fin 8) (t : ℕ) (i : Fin 128) : ℝ := (A.k b t h i).toReal
def vR (h : Fin 8) (t : ℕ) (w : Fin 128) : ℝ := (A.v b t h w).toReal
def betaR (h : Fin 8) (t : ℕ) : ℝ := (A.beta b t h).toReal
def gateR (h : Fin 8) (t : ℕ) : ℝ := (A.gate b t h).toReal

/-- The state of head `h` before token `t`. -/
def st (h : Fin 8) (t : ℕ) (i w : Fin 128) : EReal :=
  ((Delta.stateAt (A.kR b h) (A.vR b h) (A.gateR b h) (A.betaR b h) t i w : ℝ) : EReal)

/-- The delta rule's output. -/
def o (t : ℕ) (h : Fin 8) (w : Fin 128) : EReal :=
  ((Delta.outAt (A.qR b h) (A.kR b h) (A.vR b h) (A.gateR b h) (A.betaR b h) t w : ℝ) : EReal)

/-- The head's output under its norm and its gate. -/
def og (t : ℕ) (h : Fin 8) (w : Fin 128) : EReal :=
  A.o b t h w * Ideal.rsqrt (Ideal.div (∑ j, A.o b t h j * A.o b t h j) c128 + e6) * A.ng w
    * tok A.gz b t ⟨128 * h + w, by omega⟩

/-! The merge, the output projection and the post-norm. -/

def ogc (t : ℕ) (c : Fin 1024) : EReal := A.og b t ⟨c / 128, by omega⟩ ⟨c % 128, by omega⟩

def ygdn (t : ℕ) (d : Fin 1024) : EReal := ∑ c, A.ogc b t c * A.gwo c d

def hmix (t : ℕ) (d : Fin 1024) : EReal :=
  tok A.hc b t d + tok A.gg b t d * A.ygdn b t d

def pre (t : ℕ) (e : Fin 1024) : EReal := alpha * tok A.x b t e + ∑ d, A.hmix b t d * A.wo d e

def out (t : ℕ) (e : Fin 1024) : EReal := lnorm (A.pre b t) A.pg A.pb e

/-- Every quantity of the recurrence is a real number. -/
structure Fine : Prop where
  q : ∀ b t h i, A.q b t h i = (A.qR b h t i : EReal)
  k : ∀ b t h i, A.k b t h i = (A.kR b h t i : EReal)
  v : ∀ b t h w, A.v b t h w = (A.vR b h t w : EReal)
  beta : ∀ b t h, A.beta b t h = (A.betaR b h t : EReal)
  gate : ∀ b t h, A.gate b t h = (A.gateR b h t : EReal)

end Args

theorem coe_sum {ι : Type*} (s : Finset ι) (f : ι → ℝ) : ((∑ i ∈ s, f i : ℝ) : EReal) = ∑ i ∈ s, (f i : EReal) := by
  induction s using Finset.cons_induction with
  | empty => rfl
  | cons a s h ih => rw [Finset.sum_cons, Finset.sum_cons, EReal.coe_add, ih]

end Cert.Spec

end
-- ==== Proof.Chunk.lean ====
module

public import proofs.«01_k».proof.Proof.Gen.KernelIdeal.Skeleton
public import proofs.«01_k».proof.Proof.Spec
public import Idealize.ShloMosaic.Lib.Pointwise

@[expose] public section

set_option maxRecDepth 16384

noncomputable section

/-! One chunk of 128 tokens of one head, as the kernel computes it: the operations, and their value over the reals. -/

namespace Cert.Chunk

open Idealize.ShloMosaic Cert.KernelIdeal Cert.KernelIdeal.Gen

section Ops

variable {F : FTy → Type} [FloatOps F]

/-- A 128 by 128 matrix of words. -/
abbrev Mat (F : FTy → Type) [FloatOps F] := FVec F S128x128 .f32

/-- A head's queries, keys or values. -/
def up (x : Vec F S1x128x128 .bf16) : Mat F :=
  extf .f32 (shapeCast S128x128 x shapeCasts_S1x128x128_S128x128 : FVec F S128x128 .bf16) bitsLt_bf16_f32

/-- The writing strengths and decay exponents of the chunk, lane by lane. -/
def lanes (bg : Vec F S1x128x128 .f32) : Mat F := shapeCast S128x128 bg shapeCasts_S1x128x128_S128x128

/-- The running sums of the lanes over the chunk. -/
def sums (bg : Vec F S1x128x128 .f32) : Mat F :=
  matmul dot_S128x128_S128x128_S128x128_1_0_0_1_n_n (some .fp32) (k0_pay5 (F := F)) (lanes bg) (constant S128x128 .f32 0x00000000#32)

theorem slicesCol (h : ℕ) (hh : h < 128) : S128x128.Slices ![0, h] S128x1 :=
  ⟨rfl, by intro a; fin_cases a <;> simp <;> omega⟩

theorem slicesRow (h : ℕ) (hh : h < 128) : S128x128.Slices ![h, 0] S1x128 :=
  ⟨rfl, by intro a; fin_cases a <;> simp <;> omega⟩

def colOf (X : Mat F) (h : ℕ) (hh : h < 128) : FVec F S128x1 .f32 := extractStridedSlice S128x1 ![0, h] X (slicesCol h hh)

def rowOf (X : Mat F) (h : ℕ) (hh : h < 128) : FVec F S1x128 .f32 :=
  extractStridedSlice S1x128 ![h, 0] (transpose S128x128 [1, 0] X transposes_S128x128_p1_0_S128x128) (slicesRow h hh)

/-- The rows of a matrix, each times its entry of a column. -/
def scale (X : Mat F) (c : FVec F S128x1 .f32) : Mat F := mulf X (broadcastTo S128x128 c broadcasts_S128x1_S128x128)

def stack (X Y : Mat F) : FVec F S256x128 .f32 :=
  concatenate S256x128 0 [⟨S128x128, X⟩, ⟨S128x128, Y⟩] concatenates_S128x128_S128x128_S256x128_d0

def top (X : FVec F S256x128 .f32) : Mat F := extractStridedSlice S128x128 ![0, 0] X slices_S256x128_o0_0_S128x128
def bot (X : FVec F S256x128 .f32) : Mat F := extractStridedSlice S128x128 ![128, 0] X slices_S256x128_o128_0_S128x128

def dot (X Y : Mat F) : Mat F :=
  matmul dot_S128x128_S128x128_S128x128_1_0_0_1_n_n none (truncf .bf16 X bitsLt_bf16_f32) (truncf .bf16 Y bitsLt_bf16_f32)
    (constant S128x128 .f32 0x00000000#32)

/-- Two products with one right factor, as one product of twice the rows. -/
def dot2 (X X' Y : Mat F) : FVec F S256x128 .f32 :=
  matmul dot_S256x128_S128x128_S256x128_1_0_0_1_n_n none (truncf .bf16 (stack X X') bitsLt_bf16_f32) (truncf .bf16 Y bitsLt_bf16_f32)
    (constant S256x128 .f32 0x00000000#32)

/-- The same, with the right factor transposed. -/
def dot2T (X X' Y : Mat F) : FVec F S256x128 .f32 :=
  matmul dot_S256x128_S128x128_S256x128_1_1_0_0_n_n none (truncf .bf16 (stack X X') bitsLt_bf16_f32) (truncf .bf16 Y bitsLt_bf16_f32)
    (constant S256x128 .f32 0x00000000#32)

/-- The product with the left factor transposed. -/
def dotT (X Y : Mat F) : Mat F :=
  matmul dot_S128x128_S128x128_S128x128_0_0_1_1_n_n none (truncf .bf16 X bitsLt_bf16_f32) (truncf .bf16 Y bitsLt_bf16_f32)
    (constant S128x128 .f32 0x00000000#32)

def zeros : Mat F := broadcast S128x128 (Scalar.ofBits .f32 0x00000000#32)

def decay (gc : FVec F S128x1 .f32) (gr : FVec F S1x128 .f32) : Mat F :=
  exp (select k0_pay3 (subf (broadcastTo S128x128 gc broadcasts_S128x1_S128x128) (broadcastTo S128x128 gr broadcasts_S1x128_S128x128)) zeros)

def strictPart (X D : Mat F) : Mat F := select k0_pay4 (subf zeros (mulf X D)) zeros
def causalPart (X D : Mat F) : Mat F := select k0_pay3 (mulf X D) zeros

/-- One doubling: the inverse so far and the power so far. -/
def double (p : Mat F × Mat F) : Mat F × Mat F := (addf p.1 (top (dot2 p.1 p.2 p.2)), bot (dot2 p.1 p.2 p.2))

def inverse (m : Mat F) : Mat F :=
  let p := double (double (double (double (double (addf (k0_pay6 (F := F)) m, dot m m)))))
  addf p.1 (dot p.1 p.2)

def wide (m X Y : Mat F) : FVec F S128x256 .f32 :=
  matmul dot_S128x128_S128x256_S128x256_1_0_0_1_n_n none (truncf .bf16 m bitsLt_bf16_f32)
    (truncf .bf16 (concatenate S128x256 1 [⟨S128x128, X⟩, ⟨S128x128, Y⟩] concatenates_S128x128_S128x128_S128x256_d1) bitsLt_bf16_f32)
    (constant S128x256 .f32 0x00000000#32)

def left (X : FVec F S128x256 .f32) : Mat F := extractStridedSlice S128x128 ![0, 0] X slices_S128x256_o0_0_S128x128
def right (X : FVec F S128x256 .f32) : Mat F := extractStridedSlice S128x128 ![0, 128] X slices_S128x256_o0_128_S128x128

variable (q k v : Vec F S1x128x128 .bf16) (bg S : Vec F S1x128x128 .f32) (h : ℕ) (hh : h < 8)

def beta : FVec F S128x1 .f32 := colOf (lanes bg) h (by omega)
def gcol : FVec F S128x1 .f32 := colOf (sums bg) (8 + h) (by omega)
def kb : Mat F := scale (up k) (beta bg h hh)
def kq : FVec F S256x128 .f32 := dot2T (kb k bg h hh) (up q) (up k)
def dec : Mat F := decay (gcol bg h hh) (rowOf (sums bg) (8 + h) (by omega))
def inv : Mat F := inverse (strictPart (top (kq q k bg h hh)) (dec bg h hh))
def intra : Mat F := causalPart (bot (kq q k bg h hh)) (dec bg h hh)
def uw : FVec F S128x256 .f32 :=
  wide (inv q k bg h hh) (scale (up v) (beta bg h hh)) (scale (kb k bg h hh) (exp (gcol bg h hh)))
def st0 : Mat F := shapeCast S128x128 S shapeCasts_S1x128x128_S128x128
def r2 : FVec F S256x128 .f32 := dot2 (right (uw q k v bg h hh)) (scale (up q) (exp (gcol bg h hh))) (st0 S)
def vnew : Mat F := subf (left (uw q k v bg h hh)) (top (r2 q k v bg S h hh))

/-- The chunk's output. -/
def outM : Mat F := addf (bot (r2 q k v bg S h hh)) (dot (intra q k bg h hh) (vnew q k v bg S h hh))

def glast : FVec F S1x1 .f32 := extractStridedSlice S1x1 ![127, 0] (gcol bg h hh) slices_S128x1_o127_0_S1x1
def kdec : Mat F := scale (up k) (exp (subf (broadcastTo S128x1 (glast bg h hh) broadcasts_S1x1_S128x1) (gcol bg h hh)))

/-- The state after the chunk. -/
def stM : Mat F := addf (mulf (st0 S) (broadcastTo S128x128 (exp (glast bg h hh)) broadcasts_S1x1_S128x128))
  (dotT (kdec k bg h hh) (vnew q k v bg S h hh))

def stP : FVec F S1x128x128 .f32 := shapeCast S1x128x128 (stM q k v bg S h hh) shapeCasts_S128x128_S1x128x128

/-- The output under its norm and its gate. -/
def normed (o : Mat F) (ng : Vec F S1x128 .f32) (gz : Vec F S1x128x128 .bf16) : Mat F :=
  mulf (mulf (mulf o (broadcastTo S128x128 (rsqrt (addf (divf (shapeCast S128x1
      (multiReduction .add [1] S128 (mulf o o) 0x00000000#32 reduces_S128x128_S128 (.inl rfl) rfl) shapeCasts_S128_S128x1)
      (broadcast S128x1 (Scalar.ofBits .f32 0x43000000#32))) (broadcast S128x1 (Scalar.ofBits .f32 0x358637BD#32))))
      broadcasts_S128x1_S128x128))
    (broadcastTo S128x128 (shapeCast S1x128 ng shapeCasts_S1x128_S1x128) broadcasts_S1x128_S128x128)) (up gz)

def outP (ng : Vec F S1x128 .f32) (gz : Vec F S1x128x128 .bf16) : Mat F :=
  shapeCast S128x128 (normed (outM q k v bg S h hh) ng gz) shapeCasts_S128x128_S128x128

end Ops

end Cert.Chunk

end
-- ==== Proof.ChunkValue.lean ====
module

public import proofs.«01_k».proof.Proof.Chunk
public import Idealize.ShloMosaic.Lib.WordCmp

@[expose] public section

noncomputable section

/-! The kernel's chunk over the extended reals: from real inputs it computes the chunk formulas of the delta rule. -/

namespace Cert.Chunk

open Idealize.ShloMosaic Cert.KernelIdeal Cert.KernelIdeal.Gen Cert.Delta

abbrev RMat := Matrix (Fin 128) (Fin 128) ℝ

/-- A matrix of words, of which every entry is a real number. -/
def Is (X : Mat Ideal) (A : RMat) : Prop := ∀ i j, X (ix2 i j) = (A i j : EReal)

/-- The same for a column. -/
def IsC (X : FVec Ideal S128x1 .f32) (c : Fin 128 → ℝ) : Prop := ∀ i, X (ix2 i 0) = (c i : EReal)

/-- The same for a row. -/
def IsR (X : FVec Ideal S1x128 .f32) (c : Fin 128 → ℝ) : Prop := ∀ i, X (ix2 0 i) = (c i : EReal)

/-! The masks. -/

theorem pay3_at (i j : Fin 128) : k0_pay3 (ix2 i j) = BitVec.ofBool (decide (j ≤ i)) := by
  pointwise [k0_pay3]
  rw [WordCmp.cmpi_sge_ofNat (by omega) (by omega)]; rfl

theorem pay4_at (i j : Fin 128) : k0_pay4 (ix2 i j) = BitVec.ofBool (decide (j < i)) := by
  pointwise [k0_pay4]
  rw [WordCmp.cmpi_sgt_ofNat (by omega) (by omega)]; rfl

theorem sel_ofBool (p : Prop) [Decidable p] (x y : EReal) :
    Scalar.select (BitVec.ofBool (decide p)) x y = if p then x else y := by
  by_cases h : p <;> simp [Scalar.select, h]

theorem ind_ofBool (p : Prop) [Decidable p] :
    (FloatOps.sitofp .f32 (BitVec.setWidth 32 (BitVec.ofBool (decide p))) : Ideal .f32) = ((if p then 1 else 0 : ℝ) : EReal) := by
  by_cases h : p
  · simp only [h, decide_true, if_true]
    show (((BitVec.setWidth 32 (BitVec.ofBool true)).toInt : ℝ) : EReal) = _
    rw [show (BitVec.setWidth 32 (BitVec.ofBool true)).toInt = 1 by decide]; norm_num
  · simp only [h, decide_false, if_false]
    show (((BitVec.setWidth 32 (BitVec.ofBool false)).toInt : ℝ) : EReal) = _
    rw [show (BitVec.setWidth 32 (BitVec.ofBool false)).toInt = 0 by decide]; norm_num

theorem tri_at (i j : Fin 128) : k0_pay5 (F := Ideal) (ix2 i j) = ((if j ≤ i then 1 else 0 : ℝ) : EReal) := by
  pointwise [k0_pay5]
  rw [pay3_at]; exact ind_ofBool _

theorem eye_is : Is (k0_pay6 (F := Ideal)) 1 := by
  intro i j
  pointwise [k0_pay6]
  rw [WordCmp.cmpi_eq_ofNat (by omega) (by omega), Matrix.one_apply]
  refine (ind_ofBool _).trans ?_
  simp only [Fin.ext_iff]

/-! Products. -/

theorem sum_coe {A B : Fin 128 → ℝ} : ∑ x, (A x : EReal) * (B x : EReal) = ((∑ x, A x * B x : ℝ) : EReal) := by
  rw [Spec.coe_sum]; simp only [EReal.coe_mul]

section Products

variable {X X' Y : Mat Ideal} {A A' B : RMat}

theorem dot_is (hX : Is X A) (hY : Is Y B) : Is (dot X Y) (A * B) := by
  intro i j
  have e : dot X Y (ix2 i j) = ∑ x, X (ix2 i x) * Y (ix2 x j) := by pointwise [dot]
  rw [e, Matrix.mul_apply, ← sum_coe]; exact Finset.sum_congr rfl fun x _ => by rw [hX, hY]

theorem dotT_at : ∀ i j, dotT X Y (ix2 i j) = ∑ x, X (ix2 x i) * Y (ix2 x j) := by
  intro i j; pointwise [dotT]

theorem dot2_top (hX : Is X A) (hY : Is Y B) : Is (top (dot2 X X' Y)) (A * B) := by
  intro i j
  have e : top (dot2 X X' Y) (ix2 i j) = ∑ x, X (ix2 i x) * Y (ix2 x j) := by pointwise [top, dot2, stack]
  rw [e, Matrix.mul_apply, ← sum_coe]; exact Finset.sum_congr rfl fun x _ => by rw [hX, hY]

theorem dot2_bot (hX : Is X' A) (hY : Is Y B) : Is (bot (dot2 X X' Y)) (A * B) := by
  intro i j
  have e : bot (dot2 X X' Y) (ix2 i j) = ∑ x, X' (ix2 i x) * Y (ix2 x j) := by pointwise [bot, dot2, stack]
  rw [e, Matrix.mul_apply, ← sum_coe]; exact Finset.sum_congr rfl fun x _ => by rw [hX, hY]

theorem dot2T_top (hX : Is X A) (hY : Is Y B) : Is (top (dot2T X X' Y)) (fun i j => ∑ c, A i c * B j c) := by
  intro i j
  have e : top (dot2T X X' Y) (ix2 i j) = ∑ x, X (ix2 i x) * Y (ix2 j x) := by pointwise [top, dot2T, stack]
  rw [e, ← sum_coe]; exact Finset.sum_congr rfl fun x _ => by rw [hX, hY]

theorem dot2T_bot (hX : Is X' A) (hY : Is Y B) : Is (bot (dot2T X X' Y)) (fun i j => ∑ c, A i c * B j c) := by
  intro i j
  have e : bot (dot2T X X' Y) (ix2 i j) = ∑ x, X' (ix2 i x) * Y (ix2 j x) := by pointwise [bot, dot2T, stack]
  rw [e, ← sum_coe]; exact Finset.sum_congr rfl fun x _ => by rw [hX, hY]

theorem wide_left (hX : Is X A) (hY : Is Y B) : Is (left (wide X Y X')) (A * B) := by
  intro i j
  have e : left (wide X Y X') (ix2 i j) = ∑ x, X (ix2 i x) * Y (ix2 x j) := by pointwise [left, wide]
  rw [e, Matrix.mul_apply, ← sum_coe]; exact Finset.sum_congr rfl fun x _ => by rw [hX, hY]

theorem wide_right (hX : Is X A) (hY : Is Y B) : Is (right (wide X X' Y)) (A * B) := by
  intro i j
  have e : right (wide X X' Y) (ix2 i j) = ∑ x, X (ix2 i x) * Y (ix2 x j) := by pointwise [right, wide]
  rw [e, Matrix.mul_apply, ← sum_coe]; exact Finset.sum_congr rfl fun x _ => by rw [hX, hY]

theorem add_is (hX : Is X A) (hY : Is Y B) : Is (addf X Y) (A + B) := by
  intro i j
  have e : addf X Y (ix2 i j) = X (ix2 i j) + Y (ix2 i j) := rfl
  rw [e, hX, hY, Matrix.add_apply, EReal.coe_add]

theorem sub_is (hX : Is X A) (hY : Is Y B) : Is (subf X Y) (A - B) := by
  intro i j
  have e : subf X Y (ix2 i j) = X (ix2 i j) - Y (ix2 i j) := rfl
  rw [e, hX, hY, Matrix.sub_apply, EReal.coe_sub]

theorem scale_is {C : FVec Ideal S128x1 .f32} {c : Fin 128 → ℝ} (hX : Is X A) (hC : IsC C c) :
    Is (scale X C) (fun i j => A i j * c i) := by
  intro i j
  have e : scale X C (ix2 i j) = X (ix2 i j) * C (ix2 i 0) := by pointwise [scale]
  rw [e, hX, hC, EReal.coe_mul]

theorem exp_isC {C : FVec Ideal S128x1 .f32} {c : Fin 128 → ℝ} (hC : IsC C c) : IsC (exp C) (fun i => Real.exp (c i)) := by
  intro i
  have e : exp C (ix2 i 0) = Ideal.exp (C (ix2 i 0)) := rfl
  rw [e, hC, Ideal.exp_coe]

theorem decay_is {f : FVec Ideal S128x1 .f32} {g : FVec Ideal S1x128 .f32} {c : Fin 128 → ℝ} (hf : IsC f c) (hg : IsR g c) :
    Is (decay f g) (fun i j => Real.exp (if j ≤ i then c i - c j else 0)) := by
  intro i j
  have e : decay f g (ix2 i j) = Ideal.exp (Scalar.select (k0_pay3 (ix2 i j)) (f (ix2 i 0) - g (ix2 0 j)) 0) := by
    pointwise [decay, zeros]
  rw [e, pay3_at, sel_ofBool, hf, hg]
  show Ideal.exp (if j ≤ i then (c i : EReal) - (c j : EReal) else 0)
    = ((Real.exp (if j ≤ i then c i - c j else 0) : ℝ) : EReal)
  by_cases h : j ≤ i
  · rw [if_pos h, if_pos h, ← EReal.coe_sub, Ideal.exp_coe]
  · rw [if_neg h, if_neg h, ← EReal.coe_zero, Ideal.exp_coe]

theorem strict_is (hX : Is X A) (hY : Is Y B) : Is (strictPart X Y) (fun i j => if j < i then - (A i j * B i j) else 0) := by
  intro i j
  have e : strictPart X Y (ix2 i j) = Scalar.select (k0_pay4 (ix2 i j)) (0 - X (ix2 i j) * Y (ix2 i j)) 0 := by
    pointwise [strictPart, zeros]
  rw [e, pay4_at, sel_ofBool, hX, hY]
  show (if j < i then 0 - (A i j : EReal) * (B i j : EReal) else 0) = ((if j < i then - (A i j * B i j) else 0 : ℝ) : EReal)
  by_cases h : j < i
  · rw [if_pos h, if_pos h, ← EReal.coe_mul, ← EReal.coe_zero, ← EReal.coe_sub, zero_sub]
  · rw [if_neg h, if_neg h, EReal.coe_zero]

theorem causal_is (hX : Is X A) (hY : Is Y B) : Is (causalPart X Y) (fun i j => if j ≤ i then A i j * B i j else 0) := by
  intro i j
  have e : causalPart X Y (ix2 i j) = Scalar.select (k0_pay3 (ix2 i j)) (X (ix2 i j) * Y (ix2 i j)) 0 := by
    pointwise [causalPart, zeros]
  rw [e, pay3_at, sel_ofBool, hX, hY]
  show (if j ≤ i then (A i j : EReal) * (B i j : EReal) else 0) = ((if j ≤ i then A i j * B i j else 0 : ℝ) : EReal)
  by_cases h : j ≤ i
  · rw [if_pos h, if_pos h, ← EReal.coe_mul]
  · rw [if_neg h, if_neg h, EReal.coe_zero]

theorem double_is {p : Mat Ideal × Mat Ideal} (h1 : Is p.1 A) (h2 : Is p.2 B) :
    Is (double p).1 (A + A * B) ∧ Is (double p).2 (B * B) :=
  ⟨add_is h1 (dot2_top h1 h2), dot2_bot h2 h2⟩

theorem inverse_is {L : RMat} (hX : Is X (-L)) : Is (inverse X) (neumann L) := by
  have p0 : Is (addf (k0_pay6 (F := Ideal)) X) (1 - L) := by rw [sub_eq_add_neg]; exact add_is eye_is hX
  have q0 : Is (dot X X) (L * L) := by have := dot_is hX hX; rwa [neg_mul_neg] at this
  have d1 := double_is (p := (addf (k0_pay6 (F := Ideal)) X, dot X X)) p0 q0
  have d2 := double_is d1.1 d1.2
  have d3 := double_is d2.1 d2.2
  have d4 := double_is d3.1 d3.2
  have d5 := double_is d4.1 d4.2
  exact add_is d5.1 (dot_is d5.1 d5.2)

end Products

/-! A head's chunk. -/

section Head

/-- The chunk's inputs are real numbers. -/
structure Reals (q k v : Vec Ideal S1x128x128 .bf16) (bg S : Vec Ideal S1x128x128 .f32) (h : ℕ) (hh : h < 8)
    (Q K V : RMat) (b g : Fin 128 → ℝ) (M₀ : RMat) : Prop where
  q : ∀ i j, q (ix3 0 i j) = (Q i j : EReal)
  k : ∀ i j, k (ix3 0 i j) = (K i j : EReal)
  v : ∀ i j, v (ix3 0 i j) = (V i j : EReal)
  b : ∀ i, bg (ix3 0 i ⟨h, by omega⟩) = (b i : EReal)
  g : ∀ i, bg (ix3 0 i ⟨8 + h, by omega⟩) = (g i : EReal)
  S : ∀ i j, S (ix3 0 i j) = (M₀ i j : EReal)

variable {q k v : Vec Ideal S1x128x128 .bf16} {bg S : Vec Ideal S1x128x128 .f32} {h : ℕ} {hh : h < 8}
variable {Q K V : RMat} {b g : Fin 128 → ℝ} {M₀ : RMat}

theorem up_is {x : Vec Ideal S1x128x128 .bf16} {A : RMat} (hx : ∀ i j, x (ix3 0 i j) = (A i j : EReal)) : Is (up x) A := by
  intro i j
  have e : up x (ix2 i j) = x (ix3 0 i j) := by pointwise [up]
  rw [e, hx]

/-- The running sum of the decay exponents. -/
def gc (g : Fin 128 → ℝ) (i : Fin 128) : ℝ := ∑ x, if x ≤ i then g x else 0

theorem sums_at (H : Reals q k v bg S h hh Q K V b g M₀) (i : Fin 128) :
    sums bg (ix2 i ⟨8 + h, by omega⟩) = (gc g i : EReal) := by
  have e : sums bg (ix2 i ⟨8 + h, by omega⟩) = ∑ x, k0_pay5 (F := Ideal) (ix2 i x) * bg (ix3 0 x ⟨8 + h, by omega⟩) := by
    pointwise [sums, lanes]
  rw [e, gc, Spec.coe_sum]
  refine Finset.sum_congr rfl fun x _ => ?_
  rw [tri_at, H.g, ← EReal.coe_mul, ite_mul, one_mul, zero_mul]

theorem colOf_at (X : Mat Ideal) (l : ℕ) (hl : l < 128) (i : Fin 128) : colOf X l hl (ix2 i 0) = X (ix2 i ⟨l, hl⟩) := by
  pointwise [colOf]

theorem rowOf_at (X : Mat Ideal) (l : ℕ) (hl : l < 128) (i : Fin 128) : rowOf X l hl (ix2 0 i) = X (ix2 i ⟨l, hl⟩) := by
  pointwise [rowOf]

variable (H : Reals q k v bg S h hh Q K V b g M₀)
include H

theorem gcol_is : IsC (gcol bg h hh) (gc g) := fun i => by rw [gcol, colOf_at, sums_at H]

theorem grow_is : IsR (rowOf (sums bg) (8 + h) (by omega)) (gc g) := fun i => by rw [rowOf_at, sums_at H]

theorem beta_is : IsC (beta bg h hh) b := fun i => by
  rw [beta, colOf_at]
  have e : lanes bg (ix2 i ⟨h, by omega⟩) = bg (ix3 0 i ⟨h, by omega⟩) := by pointwise [lanes]
  rw [e, H.b]

theorem kb_is : Is (kb k bg h hh) (fun i c => K i c * b i) := scale_is (up_is H.k) (beta_is H)

theorem dec_is : Is (dec bg h hh) (fun i j => Real.exp (if j ≤ i then gc g i - gc g j else 0)) :=
  decay_is (gcol_is H) (grow_is H)

theorem inv_is : Is (inv q k bg h hh) (neumann (chunkL K b (gc g))) := by
  refine inverse_is fun i j => ?_
  refine (strict_is (dot2T_top (X' := up q) (kb_is H) (up_is H.k)) (dec_is H) i j).trans (congrArg _ ?_)
  show (if j < i then -((∑ c, K i c * b i * K j c) * Real.exp (if j ≤ i then gc g i - gc g j else 0)) else 0)
    = - (if j < i then (∑ c, K i c * b i * K j c) * Real.exp (gc g i - gc g j) else 0)
  by_cases h : j < i
  · simp only [if_pos h, if_pos h.le]
  · simp only [if_neg h, neg_zero]

theorem intra_is : Is (intra q k bg h hh) (chunkA Q K (gc g)) := by
  intro i j
  refine (causal_is (dot2T_bot (X := kb k bg h hh) (up_is H.q) (up_is H.k)) (dec_is H) i j).trans (congrArg _ ?_)
  show (if j ≤ i then (∑ c, Q i c * K j c) * Real.exp (if j ≤ i then gc g i - gc g j else 0) else 0)
    = (if j ≤ i then (∑ c, Q i c * K j c) * Real.exp (gc g i - gc g j) else 0)
  by_cases h : j ≤ i
  · simp only [if_pos h]
  · simp only [if_neg h]

theorem st0_is : Is (st0 S) M₀ := fun i j => by
  have e : st0 S (ix2 i j) = S (ix3 0 i j) := by pointwise [st0]
  rw [e, H.S]

theorem vnew_is : Is (vnew q k v bg S h hh) (chunkU K V b (gc g) M₀) :=
  sub_is (wide_left (inv_is H) (scale_is (up_is H.v) (beta_is H)))
    (dot2_top (wide_right (inv_is H) (scale_is (kb_is H) (exp_isC (gcol_is H)))) (st0_is H))

/-- The chunk's output is the delta rule's. -/
theorem outM_is : Is (outM q k v bg S h hh) (chunkO Q K V b (gc g) M₀) :=
  add_is (dot2_bot (scale_is (up_is H.q) (exp_isC (gcol_is H))) (st0_is H)) (dot_is (intra_is H) (vnew_is H))

theorem kdec_at (i j : Fin 128) : kdec k bg h hh (ix2 i j) = ((K i j * Real.exp (gc g 127 - gc g i) : ℝ) : EReal) := by
  have e : kdec k bg h hh (ix2 i j) = k (ix3 0 i j) * Ideal.exp (gcol bg h hh (ix2 127 0) - gcol bg h hh (ix2 i 0)) := by
    pointwise [kdec, scale, up, glast]
  rw [e, H.k, gcol_is H, gcol_is H, ← EReal.coe_sub, Ideal.exp_coe, EReal.coe_mul]

theorem stM_is : Is (stM q k v bg S h hh) (chunkS K V b (gc g) (gc g 127) M₀) := by
  intro i j
  have e : stM q k v bg S h hh (ix2 i j) = S (ix3 0 i j) * Ideal.exp (gcol bg h hh (ix2 127 0))
      + dotT (kdec k bg h hh) (vnew q k v bg S h hh) (ix2 i j) := by
    pointwise [stM, st0, glast]
  rw [e, H.S, gcol_is H, Ideal.exp_coe, dotT_at]
  have hv : ∀ x, vnew q k v bg S h hh (ix2 x j) = ((chunkU K V b (gc g) M₀ x j : ℝ) : EReal) := fun x => vnew_is H x j
  simp only [kdec_at H, hv]
  rw [sum_coe, ← EReal.coe_mul, ← EReal.coe_add]
  rfl

/-- The state after the chunk is the delta rule's. -/
theorem stP_at (i j : Fin 128) : stP q k v bg S h hh (ix3 0 i j) = (chunkS K V b (gc g) (gc g 127) M₀ i j : EReal) := by
  have e : stP q k v bg S h hh (ix3 0 i j) = stM q k v bg S h hh (ix2 i j) := by pointwise [stP]
  rw [e, stM_is H]

end Head

theorem outP_at (q k v : Vec Ideal S1x128x128 .bf16) (bg S : Vec Ideal S1x128x128 .f32) (h : ℕ) (hh : h < 8)
    (ng : Vec Ideal S1x128 .f32) (gz : Vec Ideal S1x128x128 .bf16) (O : Fin 128 → Fin 128 → EReal)
    (hO : ∀ i j, outM q k v bg S h hh (ix2 i j) = O i j) (i j : Fin 128) :
    outP q k v bg S h hh ng gz (ix2 i j)
      = O i j * Ideal.rsqrt (Ideal.div (∑ x, O i x * O i x) Spec.c128 + Spec.e6) * ng (ix2 0 j) * gz (ix3 0 i j) := by
  simp only [← hO]
  generalize ho : outM q k v bg S h hh = o
  have e : outP q k v bg S h hh ng gz (ix2 i j) = normed o ng gz (ix2 i j) := by
    rw [outP, ho]; pointwise
  rw [e]
  pointwise [normed, up]
  rfl

end Cert.Chunk

end
-- ==== Proof.Reads.lean ====
module

public import proofs.«01_k».proof.Proof.Gen.KernelIdeal.Value
public import proofs.«01_k».proof.Proof.ChunkValue

@[expose] public section

noncomputable section

/-! The 128 by 128 pieces the kernel loads of its blocks. -/

namespace Cert.Chunk

open Idealize.ShloMosaic Cert.KernelIdeal Cert.KernelIdeal.Gen

variable {F : FTy → Type} [FloatOps F]

/-- A head's chunk of a block of 256 tokens. -/
def rdA (M : Memref sig .tc .vmem S1x256x1024 .bf16) (hM : M.IsWhole) (x : Vec F S1x256x1024 .bf16) (o : Fin 3 → ℕ)
    (inb : ∀ a : Fin S1x256x1024.rank, o a + S1x128x128.size a ≤ S1x256x1024.size a) : Vec F S1x128x128 .bf16 :=
  View.readAt (Elt F) M.view (Rect.unit (s := S1x256x1024) o S1x128x128.size inb).toLoadRect (hM.unread x)

/-- The chunk's lanes of strengths and exponents. -/
def rdG (M : Memref sig .tc .vmem S1x256x128 .f32) (hM : M.IsWhole) (x : Vec F S1x256x128 .f32) (o : Fin 3 → ℕ)
    (inb : ∀ a : Fin S1x256x128.rank, o a + S1x128x128.size a ≤ S1x256x128.size a) : Vec F S1x128x128 .f32 :=
  View.readAt (Elt F) M.view (Rect.unit (s := S1x256x128) o S1x128x128.size inb).toLoadRect (hM.unread x)

/-- A head's state. -/
def rdS (M : Memref sig .tc .vmem S8x128x128 .f32) (hM : M.IsWhole) (x : Vec F S8x128x128 .f32) (o : Fin 3 → ℕ)
    (inb : ∀ a : Fin S8x128x128.rank, o a + S1x128x128.size a ≤ S8x128x128.size a) : Vec F S1x128x128 .f32 :=
  View.readAt (Elt F) M.view (Rect.unit (s := S8x128x128) o S1x128x128.size inb).toLoadRect (hM.unread x)

/-- A head's state, read back from the stores made so far. -/
def rdC (M : Memref sig .tc .vmem S8x128x128 .f32) (L : List (View.Piece (Elt F) S8x128x128 .f32)) (o : Fin 3 → ℕ)
    (inb : ∀ a : Fin S8x128x128.rank, o a + S1x128x128.size a ≤ S8x128x128.size a) : Vec F S1x128x128 .f32 :=
  M.view.readCov L (Rect.unit (s := S8x128x128) o S1x128x128.size inb).toLoadRect

/-- The norm's weights. -/
def rdN (M : Memref sig .tc .vmem S1x128 .f32) (hM : M.IsWhole) (x : Vec F S1x128 .f32) : Vec F S1x128 .f32 :=
  View.readAt (Elt F) M.view (Rect.unit (s := S1x128) ![0, 0] S1x128.size inb_S1x128_S1x128_0_0).toLoadRect (hM.unread x)

end Cert.Chunk

end
-- ==== Proof.Tile.lean ====
module

public import proofs.«01_k».proof.Proof.Reads

@[expose] public section

set_option maxRecDepth 16384

noncomputable section

/-! What one grid point of the kernel stores: sixteen states (a head's after each of the two chunks), sixteen outputs, and the
finished block. -/

namespace Cert.Chunk

open Idealize.ShloMosaic Cert.KernelIdeal Cert.KernelIdeal.Gen Idealize.ShloMosaic.Tactic

section

variable {F : FTy → Type} [FloatOps F]

/-- The loads of a point: each chunk's and head's queries, keys, values and gate, each chunk's lanes, the norm's weights. -/
structure Blk (F : FTy → Type) [FloatOps F] where
  q : Fin 2 → Fin 8 → Vec F S1x128x128 .bf16
  k : Fin 2 → Fin 8 → Vec F S1x128x128 .bf16
  v : Fin 2 → Fin 8 → Vec F S1x128x128 .bf16
  gz : Fin 2 → Fin 8 → Vec F S1x128x128 .bf16
  bg : Fin 2 → Vec F S1x128x128 .f32
  ng : Vec F S1x128 .f32

theorem inbA (c : Fin 2) (h : Fin 8) (a : Fin S1x256x1024.rank) :
    (![0, 128 * c.val, 128 * h.val] : Fin 3 → ℕ) a + S1x128x128.size a ≤ S1x256x1024.size a := by
  have := c.isLt; have := h.isLt
  fin_cases a <;> simp <;> omega

theorem inbG (c : Fin 2) (a : Fin S1x256x128.rank) :
    (![0, 128 * c.val, 0] : Fin 3 → ℕ) a + S1x128x128.size a ≤ S1x256x128.size a := by
  have := c.isLt
  fin_cases a <;> simp <;> omega

theorem inbS (h : Fin 8) (a : Fin S8x128x128.rank) :
    (![h.val, 0, 0] : Fin 3 → ℕ) a + S1x128x128.size a ≤ S8x128x128.size a := by
  have := h.isLt
  fin_cases a <;> simp <;> omega

theorem inbO (c : Fin 2) (h : Fin 8) (a : Fin S256x1024.rank) :
    (![128 * c.val, 128 * h.val] : Fin 2 → ℕ) a + S128x128.size a ≤ S256x1024.size a := by
  have := c.isLt; have := h.isLt
  fin_cases a <;> simp <;> omega

variable (B : Blk F)

/-- The store of a head's state. -/
def pcS (c : Fin 2) (h : Fin 8) (S : Vec F S1x128x128 .f32) : View.Piece (Elt F) S8x128x128 .f32 :=
  ⟨Rect.unit (s := S8x128x128) ![h.val, 0, 0] S1x128x128.size (inbS h), stP (B.q c h) (B.k c h) (B.v c h) (B.bg c) S h.val h.isLt⟩

/-- The store of a head's output. -/
def pcO (c : Fin 2) (h : Fin 8) (S : Vec F S1x128x128 .f32) : View.Piece (Elt F) S256x1024 .f32 :=
  ⟨Rect.unit (s := S256x1024) ![128 * c.val, 128 * h.val] S128x128.size (inbO c h),
    outP (B.q c h) (B.k c h) (B.v c h) (B.bg c) S h.val h.isLt B.ng (B.gz c h)⟩

/-- The heads, last first. -/
def heads : List (Fin 8) := [7, 6, 5, 4, 3, 2, 1, 0]

def L8 (c : Fin 2) (S : Fin 8 → Vec F S1x128x128 .f32) : List (View.Piece (Elt F) S8x128x128 .f32) :=
  heads.map fun h => pcS B c h (S h)

def L16 (S0 S1 : Fin 8 → Vec F S1x128x128 .f32) : List (View.Piece (Elt F) S256x1024 .f32) :=
  (heads.map fun h => pcO B 1 h (S1 h)) ++ (heads.map fun h => pcO B 0 h (S0 h))

/-- The merge, the projections and the post-norm of a block. -/
def fin (ob : Vec F S256x1024 .f32) (gwo : Vec F S1024x1024 .bf16) (hc gg : Vec F S1x256x1024 .bf16) (wo : Vec F S1024x1024 .bf16)
    (x : Vec F S1x256x1024 .f32) (pg pb : Vec F S1x1024 .f32) : FVec F S1x256x1024 .f32 :=
  k0_pay1 (k0_pay629 (k0_pay627 ob gwo hc gg wo) (k0_pay628 x)) (k0_pay630 pg) (k0_pay631 pb)

/-- The store that clears the states. -/
def Z : List (View.Piece (Elt F) S8x128x128 .f32) :=
  [⟨Rect.unit (s := S8x128x128) ![0, 0, 0] S8x128x128.size inb_S8x128x128_S8x128x128_0_0_0, k0_pay2⟩]

end

section Runs

variable {F : FTy → Type} [FloatOps F]
variable (c : Dev nD) (i : grid0.Coords)
variable (arg2 : Memref sig .tc .vmem S1x256x1024 .bf16) (harg2 : arg2.IsWhole)
variable (arg3 : Memref sig .tc .vmem S1x256x1024 .bf16) (harg3 : arg3.IsWhole)
variable (arg4 : Memref sig .tc .vmem S1x256x1024 .bf16) (harg4 : arg4.IsWhole)
variable (arg5 : Memref sig .tc .vmem S1x256x128 .f32) (harg5 : arg5.IsWhole)
variable (arg6 : Memref sig .tc .vmem S1x256x1024 .bf16) (harg6 : arg6.IsWhole)
variable (arg7 : Memref sig .tc .vmem S1x256x1024 .bf16) (harg7 : arg7.IsWhole)
variable (arg8 : Memref sig .tc .vmem S1x256x1024 .bf16) (harg8 : arg8.IsWhole)
variable (arg9 : Memref sig .tc .vmem S1x256x1024 .f32) (harg9 : arg9.IsWhole)
variable (arg10 : Memref sig .tc .vmem S1x128 .f32) (harg10 : arg10.IsWhole)
variable (arg11 : Memref sig .tc .vmem S1024x1024 .bf16) (harg11 : arg11.IsWhole)
variable (arg12 : Memref sig .tc .vmem S1024x1024 .bf16) (harg12 : arg12.IsWhole)
variable (arg13 : Memref sig .tc .vmem S1x1024 .f32) (harg13 : arg13.IsWhole)
variable (arg14 : Memref sig .tc .vmem S1x1024 .f32) (harg14 : arg14.IsWhole)
variable (arg15 : Memref sig .tc .vmem S1x256x1024 .f32) (harg15 : arg15.IsWhole)
variable (arg16 : Memref sig .tc .vmem S8x128x128 .f32) (harg16 : arg16.IsWhole)
variable (arg17 : Memref sig .tc .vmem S256x1024 .f32) (harg17 : arg17.IsWhole)
variable (x0 : Vec F S1x256x1024 .bf16)
variable (x1 : Vec F S1x256x1024 .bf16)
variable (x2 : Vec F S1x256x1024 .bf16)
variable (x3 : Vec F S1x256x128 .f32)
variable (x4 : Vec F S1x256x1024 .bf16)
variable (x5 : Vec F S1x256x1024 .bf16)
variable (x6 : Vec F S1x256x1024 .bf16)
variable (x7 : Vec F S1x256x1024 .f32)
variable (x8 : Vec F S1x128 .f32)
variable (x9 : Vec F S1024x1024 .bf16)
variable (x10 : Vec F S1024x1024 .bf16)
variable (x11 : Vec F S1x1024 .f32)
variable (x12 : Vec F S1x1024 .f32)
variable (xs0 : Vec F S8x128x128 .f32)

def blk : Blk F where
  q c h := rdA arg2 harg2 x0 ![0, 128 * c.val, 128 * h.val] (inbA c h)
  k c h := rdA arg3 harg3 x1 ![0, 128 * c.val, 128 * h.val] (inbA c h)
  v c h := rdA arg4 harg4 x2 ![0, 128 * c.val, 128 * h.val] (inbA c h)
  gz c h := rdA arg6 harg6 x4 ![0, 128 * c.val, 128 * h.val] (inbA c h)
  bg c := rdG arg5 harg5 x3 ![0, 128 * c.val, 0] (inbG c)
  ng := rdN arg10 harg10 x8

def rdW (M : Memref sig .tc .vmem S1024x1024 .bf16) (hM : M.IsWhole) (x : Vec F S1024x1024 .bf16) : Vec F S1024x1024 .bf16 :=
  View.readAt (Elt F) M.view (Rect.unit (s := S1024x1024) ![0, 0] S1024x1024.size inb_S1024x1024_S1024x1024_0_0).toLoadRect (hM.unread x)

def rdB (M : Memref sig .tc .vmem S1x256x1024 .bf16) (hM : M.IsWhole) (x : Vec F S1x256x1024 .bf16) : Vec F S1x256x1024 .bf16 :=
  View.readAt (Elt F) M.view (Rect.unit (s := S1x256x1024) ![0, 0, 0] S1x256x1024.size inb_S1x256x1024_S1x256x1024_0_0_0).toLoadRect (hM.unread x)

def rdX (M : Memref sig .tc .vmem S1x256x1024 .f32) (hM : M.IsWhole) (x : Vec F S1x256x1024 .f32) : Vec F S1x256x1024 .f32 :=
  View.readAt (Elt F) M.view (Rect.unit (s := S1x256x1024) ![0, 0, 0] S1x256x1024.size inb_S1x256x1024_S1x256x1024_0_0_0).toLoadRect (hM.unread x)

def rdP (M : Memref sig .tc .vmem S1x1024 .f32) (hM : M.IsWhole) (x : Vec F S1x1024 .f32) : Vec F S1x1024 .f32 :=
  View.readAt (Elt F) M.view (Rect.unit (s := S1x1024) ![0, 0] S1x1024.size inb_S1x1024_S1x1024_0_0).toLoadRect (hM.unread x)

/-- The outputs read back. -/
def rdO (M : Memref sig .tc .vmem S256x1024 .f32) (L : List (View.Piece (Elt F) S256x1024 .f32)) : Vec F S256x1024 .f32 :=
  M.view.readCov L (Rect.unit (s := S256x1024) ![0, 0] S256x1024.size inb_S256x1024_S256x1024_0_0).toLoadRect

/-- The finished block of a point whose outputs were stored by `LO`. -/
def tile (LO : List (View.Piece (Elt F) S256x1024 .f32)) : FVec F S1x256x1024 .f32 :=
  fin (rdO arg17 LO)
    (rdW arg11 harg11 x9) (rdB arg8 harg8 x6) (rdB arg7 harg7 x5) (rdW arg12 harg12 x10) (rdX arg9 harg9 x7) (rdP arg13 harg13 x11)
    (rdP arg14 harg14 x12)

/-- The states loaded before the first chunk, in the row's later points. -/
def loadS (h : Fin 8) : Vec F S1x128x128 .f32 := rdS arg16 harg16 xs0 ![h.val, 0, 0] (inbS h)

/-- The states read back from stores. -/
def backS (M : Memref sig .tc .vmem S8x128x128 .f32) (L : List (View.Piece (Elt F) S8x128x128 .f32)) (h : Fin 8) : Vec F S1x128x128 .f32 :=
  rdC M L ![h.val, 0, 0] (inbS h)

/-- The first chunk's stores in the row's first point: the states are read back from the clearing store. -/
def L8A (B : Blk F) (M : Memref sig .tc .vmem S8x128x128 .f32) : List (View.Piece (Elt F) S8x128x128 .f32) := L8 B 0 (backS M Z) ++ Z

end Runs

end Cert.Chunk

end
-- ==== Proof.TileValue.lean ====
module

public import proofs.«01_k».proof.Proof.Tile
public import Idealize.ShloMosaic.Lib.Pipeline.CanonAppend
public import Idealize.ShloMosaic.Lib.Pipeline.ValueKit.Geometry

@[expose] public section

noncomputable section

/-! The values of a grid point's stores over the extended reals. -/

namespace Cert.Chunk

open Idealize.ShloMosaic Cert.KernelIdeal Cert.KernelIdeal.Gen Cert.Delta

/-- The point's loads are the tokens from `T` on of row `b`. -/
structure BlkIs (B : Blk Ideal) (A : Spec.Args) (b : Fin 4) (T : ℕ) : Prop where
  q : ∀ c h i j, B.q c h (ix3 0 i j) = A.q b (T + 128 * c.val + i.val) h j
  k : ∀ c h i j, B.k c h (ix3 0 i j) = A.k b (T + 128 * c.val + i.val) h j
  v : ∀ c h i j, B.v c h (ix3 0 i j) = A.v b (T + 128 * c.val + i.val) h j
  gz : ∀ c (h : Fin 8) i (j : Fin 128), B.gz c h (ix3 0 i j) = Spec.tok A.gz b (T + 128 * c.val + i.val) ⟨128 * h.val + j.val, by omega⟩
  bg : ∀ c i l, B.bg c (ix3 0 i l) = Spec.tok A.bg b (T + 128 * c.val + i.val) l
  ng : ∀ j, B.ng (ix2 0 j) = A.ng j

section Point

variable {B : Blk Ideal} {A : Spec.Args} {b : Fin 4} {T : ℕ} (f : A.Fine) (H : BlkIs B A b T)
include f H

theorem reals (c : Fin 2) (h : Fin 8) (S : Vec Ideal S1x128x128 .f32)
    (hS : ∀ i w, S (ix3 0 i w) = A.st b h (T + 128 * c.val) i w) :
    Reals (B.q c h) (B.k c h) (B.v c h) (B.bg c) S h.val h.isLt
      (mx fun i : Fin 128 => A.qR b h (T + 128 * c.val + i.val)) (mx fun i : Fin 128 => A.kR b h (T + 128 * c.val + i.val))
      (mx fun i : Fin 128 => A.vR b h (T + 128 * c.val + i.val))
      (fun i => A.betaR b h (T + 128 * c.val + i.val)) (fun i => A.gateR b h (T + 128 * c.val + i.val))
      (mx (stateAt (A.kR b h) (A.vR b h) (A.gateR b h) (A.betaR b h) (T + 128 * c.val))) where
  q i j := (H.q c h i j).trans (f.q b _ h j)
  k i j := (H.k c h i j).trans (f.k b _ h j)
  v i j := (H.v c h i j).trans (f.v b _ h j)
  b i := (H.bg c i _).trans (f.beta b _ h)
  g i := (H.bg c i _).trans (f.gate b _ h)
  S i w := hS i w

omit f H in
theorem gc_eq (g : ℕ → ℝ) (T' : ℕ) (i : Fin 128) : gc (fun j => g (T' + j.val)) i = cum g T' (i.val + 1) :=
  sum_fin_le (fun j => g (T' + j)) i

theorem stP_value (c : Fin 2) (h : Fin 8) (S : Vec Ideal S1x128x128 .f32)
    (hS : ∀ i w, S (ix3 0 i w) = A.st b h (T + 128 * c.val) i w) (i w : Fin 128) :
    stP (B.q c h) (B.k c h) (B.v c h) (B.bg c) S h.val h.isLt (ix3 0 i w) = A.st b h (T + 128 * c.val + 128) i w := by
  have e : gc (fun j => A.gateR b h (T + 128 * c.val + j.val)) = fun i : Fin 128 => cum (A.gateR b h) (T + 128 * c.val) (i.val + 1) :=
    funext fun i => gc_eq _ _ i
  have e' : gc (fun j => A.gateR b h (T + 128 * c.val + j.val)) 127 = cum (A.gateR b h) (T + 128 * c.val) 128 := gc_eq _ _ 127
  rw [stP_at (reals f H c h S hS), e', e, chunkS_eq _ _ _ _ _ (le_refl 128)]
  rfl

theorem outP_value (c : Fin 2) (h : Fin 8) (S : Vec Ideal S1x128x128 .f32)
    (hS : ∀ i w, S (ix3 0 i w) = A.st b h (T + 128 * c.val) i w) (i w : Fin 128) :
    outP (B.q c h) (B.k c h) (B.v c h) (B.bg c) S h.val h.isLt B.ng (B.gz c h) (ix2 i w)
      = A.og b (T + 128 * c.val + i.val) h w := by
  have e : gc (fun j => A.gateR b h (T + 128 * c.val + j.val)) = fun i : Fin 128 => cum (A.gateR b h) (T + 128 * c.val) (i.val + 1) :=
    funext fun i => gc_eq _ _ i
  have ho : ∀ i w, outM (B.q c h) (B.k c h) (B.v c h) (B.bg c) S h.val h.isLt (ix2 i w) = A.o b (T + 128 * c.val + i.val) h w := by
    intro i w
    rw [outM_is (reals f H c h S hS), e, chunkO_eq _ _ _ _ _ _ (le_refl 128)]
    rfl
  rw [outP_at _ _ _ _ _ _ _ _ _ (fun i w => A.o b (T + 128 * c.val + i.val) h w) ho, H.ng, H.gz]
  rfl

/-- The states as one array. -/
def stG (A : Spec.Args) (b : Fin 4) (T : ℕ) (y : S8x128x128.Idx) : EReal := A.st b (y 0) T (y 1) (y 2)

/-- The gated outputs of a block as one array. -/
def ogG (A : Spec.Args) (b : Fin 4) (T : ℕ) (y : S256x1024.Idx) : EReal := A.ogc b (T + (y 0).val) (y 1)

omit f H in
theorem mem_heads : ∀ h : Fin 8, h ∈ heads := by decide

theorem L8_agree (c : Fin 2) (S : Fin 8 → Vec Ideal S1x128x128 .f32)
    (hS : ∀ h i w, S h (ix3 0 i w) = A.st b h (T + 128 * c.val) i w) :
    ∀ p ∈ L8 B c S, ∀ x : p.1.shape.Idx, p.2 x = stG A b (T + 128 * c.val + 128) (p.1.emb x) := by
  intro p hp
  obtain ⟨h, _, rfl⟩ := List.mem_map.1 hp
  intro x
  have ex : x = ix3 (n0 := 1) (n1 := 128) (n2 := 128) 0 (x 1) (x 2) := by
    have h0 : @Eq (Fin 1) (x 0) 0 := @Subsingleton.elim (Fin 1) _ _ _
    refine (ix3_eta (n0 := 1) (n1 := 128) (n2 := 128) x).symm.trans ?_
    exact congrArg (fun z : Fin 1 => ix3 (n0 := 1) (n1 := 128) (n2 := 128) z (x 1) (x 2)) h0
  have e0 : (pcS B c h (S h)).1.emb x 0 = h := Fin.ext <| by
    refine (ValueKit.rect_emb_unit_val (s := S8x128x128) _ _ (inbS h) x 0).trans ?_
    have := (x 0).isLt
    have : (x 0).val = 0 := Nat.lt_one_iff.1 this
    simp [this]
  have e1 : (pcS B c h (S h)).1.emb x 1 = x 1 := Fin.ext <| by
    refine (ValueKit.rect_emb_unit_val (s := S8x128x128) _ _ (inbS h) x 1).trans ?_
    simp
  have e2 : (pcS B c h (S h)).1.emb x 2 = x 2 := Fin.ext <| by
    refine (ValueKit.rect_emb_unit_val (s := S8x128x128) _ _ (inbS h) x 2).trans ?_
    simp
  have e3 : stG A b (T + 128 * c.val + 128) ((pcS B c h (S h)).1.emb x) = A.st b h (T + 128 * c.val + 128) (x 1) (x 2) := by
    rw [stG, e0, e1, e2]
  rw [e3, ← stP_value f H c h (S h) (hS h) (x 1) (x 2)]
  exact congrArg (stP (B.q c h) (B.k c h) (B.v c h) (B.bg c) (S h) h.val h.isLt) ex

omit f H in
theorem L8_cover (c : Fin 2) (S : Fin 8 → Vec Ideal S1x128x128 .f32) (y : S8x128x128.Idx) : ∃ p ∈ L8 B c S, y ∈ p.1.set := by
  refine ⟨pcS B c (y 0) (S (y 0)), List.mem_map.2 ⟨y 0, mem_heads _, rfl⟩,
    (Rect.mem_set_unit (s := S8x128x128) (inb := inbS (y 0))).2 fun a => ?_⟩
  have h1 := (y 1).isLt
  have h2 := (y 2).isLt
  fin_cases a
  · exact ⟨le_refl _, Nat.lt_succ_self _⟩
  · exact ⟨Nat.zero_le _, by simpa using h1⟩
  · exact ⟨Nat.zero_le _, by simpa using h2⟩

/-- The states after a chunk's stores, whatever was stored before. -/
theorem L8_canon (c : Fin 2) (S : Fin 8 → Vec Ideal S1x128x128 .f32)
    (hS : ∀ h i w, S h (ix3 0 i w) = A.st b h (T + 128 * c.val) i w) (L : List (View.Piece (Elt Ideal) S8x128x128 .f32))
    (y : S8x128x128.Idx) : View.canon (L8 B c S ++ L) y = stG A b (T + 128 * c.val + 128) y :=
  View.canon_append_of_pieces _ L _ (L8_agree f H c S hS) y (L8_cover c S y)

omit f H in
/-- A head's state read back from stores. -/
theorem backS_at (M : Memref sig .tc .vmem S8x128x128 .f32) (L : List (View.Piece (Elt Ideal) S8x128x128 .f32)) (h : Fin 8)
    (i w : Fin 128) : backS M L h (ix3 0 i w) = View.canon L (ix3 h i w) := by
  rw [backS, rdC, View.readCov_eq_canon']
  refine congrArg (View.canon L) (funext fun a => Fin.ext ?_)
  refine (ValueKit.rect_emb_unit_val (s := S8x128x128) _ _ (inbS h) (ix3 (n0 := 1) (n1 := 128) (n2 := 128) 0 i w) a).trans ?_
  fin_cases a <;> simp

/-- The second chunk's states, read back from the first's stores. -/
theorem back_value (M : Memref sig .tc .vmem S8x128x128 .f32) (S : Fin 8 → Vec Ideal S1x128x128 .f32)
    (hS : ∀ h i w, S h (ix3 0 i w) = A.st b h T i w) (L : List (View.Piece (Elt Ideal) S8x128x128 .f32)) (h : Fin 8)
    (i w : Fin 128) : backS M (L8 B 0 S ++ L) h (ix3 0 i w) = A.st b h (T + 128 * (1 : Fin 2).val) i w := by
  rw [backS_at, L8_canon f H 0 S (by simpa using hS) L]
  rfl

theorem L16_canon (S0 S1 : Fin 8 → Vec Ideal S1x128x128 .f32)
    (h0 : ∀ h i w, S0 h (ix3 0 i w) = A.st b h T i w)
    (h1 : ∀ h i w, S1 h (ix3 0 i w) = A.st b h (T + 128 * (1 : Fin 2).val) i w) (y : S256x1024.Idx) :
    View.canon (L16 B S0 S1) y = ogG A b T y := by
  have key : ∀ (c : Fin 2) (h : Fin 8) (S : Vec Ideal S1x128x128 .f32)
      (hS : ∀ i w, S (ix3 0 i w) = A.st b h (T + 128 * c.val) i w) (x : S128x128.Idx),
      outP (B.q c h) (B.k c h) (B.v c h) (B.bg c) S h.val h.isLt B.ng (B.gz c h) x = ogG A b T ((pcO B c h S).1.emb x) := by
    intro c h S hS x
    have e0 : ((pcO B c h S).1.emb x 0).val = 128 * c.val + (x 0).val :=
      ValueKit.rect_emb_unit_val (s := S256x1024) _ _ (inbO c h) x 0
    have e1 : ((pcO B c h S).1.emb x 1).val = 128 * h.val + (x 1).val :=
      ValueKit.rect_emb_unit_val (s := S256x1024) _ _ (inbO c h) x 1
    have hx : (x 1).val < 128 := (x 1).isLt
    have ex : x = ix2 (n0 := 128) (n1 := 128) (x 0) (x 1) := (ix2_eta (n0 := 128) (n1 := 128) x).symm
    have eh : (⟨((pcO B c h S).1.emb x 1).val / 128, by omega⟩ : Fin 8) = h := Fin.ext (by show _ / 128 = _; omega)
    have ew : (⟨((pcO B c h S).1.emb x 1).val % 128, by omega⟩ : Fin 128) = x 1 := Fin.ext (by show _ % 128 = _; omega)
    have e3 : ogG A b T ((pcO B c h S).1.emb x) = A.og b (T + 128 * c.val + (x 0).val) h (x 1) := by
      show A.og b (T + ((pcO B c h S).1.emb x 0).val) ⟨((pcO B c h S).1.emb x 1).val / 128, _⟩ ⟨((pcO B c h S).1.emb x 1).val % 128, _⟩ = _
      rw [eh, ew, e0, Nat.add_assoc]
    rw [e3, ← outP_value f H c h S hS (x 0) (x 1)]
    exact congrArg (outP (B.q c h) (B.k c h) (B.v c h) (B.bg c) S h.val h.isLt B.ng (B.gz c h)) ex
  refine View.canon_apply_of_pieces _ _ ?_ y ?_
  · intro p hp
    rcases List.mem_append.1 hp with hp | hp
    · obtain ⟨h, _, rfl⟩ := List.mem_map.1 hp
      exact key 1 h (S1 h) (h1 h)
    · obtain ⟨h, _, rfl⟩ := List.mem_map.1 hp
      exact key 0 h (S0 h) (by simpa using h0 h)
  · have hy0 : (y 0).val < 256 := (y 0).isLt
    have hy1 : (y 1).val < 1024 := (y 1).isLt
    have hm : ∀ (c : Fin 2) (S : Vec Ideal S1x128x128 .f32), (y 0).val / 128 = c.val →
        y ∈ (pcO B c ⟨(y 1).val / 128, by omega⟩ S).1.set := by
      intro c S hc
      refine (Rect.mem_set_unit (s := S256x1024) (inb := inbO _ _)).2 fun a => ?_
      fin_cases a
      · show 128 * c.val ≤ (y 0).val ∧ (y 0).val < 128 * c.val + 128; omega
      · show 128 * ((y 1).val / 128) ≤ (y 1).val ∧ (y 1).val < 128 * ((y 1).val / 128) + 128; omega
    by_cases hc : (y 0).val < 128
    · exact ⟨_, List.mem_append.2 (.inr (List.mem_map.2 ⟨_, mem_heads _, rfl⟩)), hm 0 _ (by show _ / 128 = 0; omega)⟩
    · exact ⟨_, List.mem_append.2 (.inl (List.mem_map.2 ⟨_, mem_heads _, rfl⟩)), hm 1 _ (by show _ / 128 = 1; omega)⟩

end Point

/-- The merge, the projections and the post-norm, at an entry. -/
theorem fin_at (ob : Vec Ideal S256x1024 .f32) (gwo : Vec Ideal S1024x1024 .bf16) (hc gg : Vec Ideal S1x256x1024 .bf16)
    (wo : Vec Ideal S1024x1024 .bf16) (x : Vec Ideal S1x256x1024 .f32) (pg pb : Vec Ideal S1x1024 .f32) (r : Fin 256) (e : Fin 1024) :
    fin ob gwo hc gg wo x pg pb (ix3 0 r e)
      = Spec.lnorm (fun e' => Spec.alpha * x (ix3 0 r e')
          + ∑ d, (hc (ix3 0 r d) + gg (ix3 0 r d) * ∑ c, ob (ix2 r c) * gwo (ix2 c d)) * wo (ix2 d e'))
          (fun e' => pg (ix2 0 e')) (fun e' => pb (ix2 0 e')) e := by
  have h1 : ∀ e', k0_pay629 (k0_pay627 ob gwo hc gg wo) (k0_pay628 x) (ix2 r e') = Spec.alpha * x (ix3 0 r e')
          + ∑ d, (hc (ix3 0 r d) + gg (ix3 0 r d) * ∑ c, ob (ix2 r c) * gwo (ix2 c d)) * wo (ix2 d e') := by
    intro e'
    pointwise [k0_pay629, k0_pay627, k0_pay628]
    rfl
  rw [fin]
  simp only [← h1]
  generalize k0_pay629 (k0_pay627 ob gwo hc gg wo) (k0_pay628 x) = y
  pointwise [k0_pay1, k0_pay630, k0_pay631]
  rfl

end Cert.Chunk

end
-- ==== Proof.RunAState.lean ====
module

public import proofs.«01_k».proof.Proof.Tile

@[expose] public section

set_option maxRecDepth 16384

noncomputable section

/-! What the first point of a row leaves in the states. -/

namespace Cert.Chunk

open Idealize.ShloMosaic Cert.KernelIdeal Cert.KernelIdeal.Gen Idealize.ShloMosaic.Tactic

variable {F : FTy → Type} [FloatOps F]
variable (c : Dev nD) (i : grid0.Coords)
variable (arg2 : Memref sig .tc .vmem S1x256x1024 .bf16) (harg2 : arg2.IsWhole)
variable (arg3 : Memref sig .tc .vmem S1x256x1024 .bf16) (harg3 : arg3.IsWhole)
variable (arg4 : Memref sig .tc .vmem S1x256x1024 .bf16) (harg4 : arg4.IsWhole)
variable (arg5 : Memref sig .tc .vmem S1x256x128 .f32) (harg5 : arg5.IsWhole)
variable (arg6 : Memref sig .tc .vmem S1x256x1024 .bf16) (harg6 : arg6.IsWhole)
variable (arg7 : Memref sig .tc .vmem S1x256x1024 .bf16) (harg7 : arg7.IsWhole)
variable (arg8 : Memref sig .tc .vmem S1x256x1024 .bf16) (harg8 : arg8.IsWhole)
variable (arg9 : Memref sig .tc .vmem S1x256x1024 .f32) (harg9 : arg9.IsWhole)
variable (arg10 : Memref sig .tc .vmem S1x128 .f32) (harg10 : arg10.IsWhole)
variable (arg11 : Memref sig .tc .vmem S1024x1024 .bf16) (harg11 : arg11.IsWhole)
variable (arg12 : Memref sig .tc .vmem S1024x1024 .bf16) (harg12 : arg12.IsWhole)
variable (arg13 : Memref sig .tc .vmem S1x1024 .f32) (harg13 : arg13.IsWhole)
variable (arg14 : Memref sig .tc .vmem S1x1024 .f32) (harg14 : arg14.IsWhole)
variable (arg15 : Memref sig .tc .vmem S1x256x1024 .f32) (harg15 : arg15.IsWhole)
variable (arg16 : Memref sig .tc .vmem S8x128x128 .f32) (harg16 : arg16.IsWhole)
variable (arg17 : Memref sig .tc .vmem S256x1024 .f32) (harg17 : arg17.IsWhole)
variable (x0 : Vec F S1x256x1024 .bf16)
variable (x1 : Vec F S1x256x1024 .bf16)
variable (x2 : Vec F S1x256x1024 .bf16)
variable (x3 : Vec F S1x256x128 .f32)
variable (x4 : Vec F S1x256x1024 .bf16)
variable (x5 : Vec F S1x256x1024 .bf16)
variable (x6 : Vec F S1x256x1024 .bf16)
variable (x7 : Vec F S1x256x1024 .f32)
variable (x8 : Vec F S1x128 .f32)
variable (x9 : Vec F S1024x1024 .bf16)
variable (x10 : Vec F S1024x1024 .bf16)
variable (x11 : Vec F S1x1024 .f32)
variable (x12 : Vec F S1x1024 .f32)
variable (xs0 : Vec F S8x128x128 .f32)

theorem runA_state (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12).2.1
    = L8 (blk arg2 harg2 arg3 harg3 arg4 harg4 arg5 harg5 arg6 harg6 arg10 harg10 x0 x1 x2 x3 x4 x8) 1 (backS arg16 (L8A (blk arg2 harg2 arg3 harg3 arg4 harg4 arg5 harg5 arg6 harg6 arg10 harg10 x0 x1 x2 x3 x4 x8) arg16)) ++ (L8A (blk arg2 harg2 arg3 harg3 arg4 harg4 arg5 harg5 arg6 harg6 arg10 harg10 x0 x1 x2 x3 x4 x8) arg16) := by
  sl_kernel_rfl

end Cert.Chunk

end
-- ==== Proof.RunAOut.lean ====
module

public import proofs.«01_k».proof.Proof.Tile

@[expose] public section

set_option maxRecDepth 16384

noncomputable section

/-! The block the first point of a row stores. -/

namespace Cert.Chunk

open Idealize.ShloMosaic Cert.KernelIdeal Cert.KernelIdeal.Gen Idealize.ShloMosaic.Tactic

variable {F : FTy → Type} [FloatOps F]
variable (c : Dev nD) (i : grid0.Coords)
variable (arg2 : Memref sig .tc .vmem S1x256x1024 .bf16) (harg2 : arg2.IsWhole)
variable (arg3 : Memref sig .tc .vmem S1x256x1024 .bf16) (harg3 : arg3.IsWhole)
variable (arg4 : Memref sig .tc .vmem S1x256x1024 .bf16) (harg4 : arg4.IsWhole)
variable (arg5 : Memref sig .tc .vmem S1x256x128 .f32) (harg5 : arg5.IsWhole)
variable (arg6 : Memref sig .tc .vmem S1x256x1024 .bf16) (harg6 : arg6.IsWhole)
variable (arg7 : Memref sig .tc .vmem S1x256x1024 .bf16) (harg7 : arg7.IsWhole)
variable (arg8 : Memref sig .tc .vmem S1x256x1024 .bf16) (harg8 : arg8.IsWhole)
variable (arg9 : Memref sig .tc .vmem S1x256x1024 .f32) (harg9 : arg9.IsWhole)
variable (arg10 : Memref sig .tc .vmem S1x128 .f32) (harg10 : arg10.IsWhole)
variable (arg11 : Memref sig .tc .vmem S1024x1024 .bf16) (harg11 : arg11.IsWhole)
variable (arg12 : Memref sig .tc .vmem S1024x1024 .bf16) (harg12 : arg12.IsWhole)
variable (arg13 : Memref sig .tc .vmem S1x1024 .f32) (harg13 : arg13.IsWhole)
variable (arg14 : Memref sig .tc .vmem S1x1024 .f32) (harg14 : arg14.IsWhole)
variable (arg15 : Memref sig .tc .vmem S1x256x1024 .f32) (harg15 : arg15.IsWhole)
variable (arg16 : Memref sig .tc .vmem S8x128x128 .f32) (harg16 : arg16.IsWhole)
variable (arg17 : Memref sig .tc .vmem S256x1024 .f32) (harg17 : arg17.IsWhole)
variable (x0 : Vec F S1x256x1024 .bf16)
variable (x1 : Vec F S1x256x1024 .bf16)
variable (x2 : Vec F S1x256x1024 .bf16)
variable (x3 : Vec F S1x256x128 .f32)
variable (x4 : Vec F S1x256x1024 .bf16)
variable (x5 : Vec F S1x256x1024 .bf16)
variable (x6 : Vec F S1x256x1024 .bf16)
variable (x7 : Vec F S1x256x1024 .f32)
variable (x8 : Vec F S1x128 .f32)
variable (x9 : Vec F S1024x1024 .bf16)
variable (x10 : Vec F S1024x1024 .bf16)
variable (x11 : Vec F S1x1024 .f32)
variable (x12 : Vec F S1x1024 .f32)
variable (xs0 : Vec F S8x128x128 .f32)

theorem runA_out (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12).1
    = [⟨Rect.unit (s := S1x256x1024) ![0, 0, 0] S1x256x1024.size inb_S1x256x1024_S1x256x1024_0_0_0,
        tile arg7 harg7 arg8 harg8 arg9 harg9 arg11 harg11 arg12 harg12 arg13 harg13 arg14 harg14 arg17 x5 x6 x7 x9 x10 x11 x12 (L16 (blk arg2 harg2 arg3 harg3 arg4 harg4 arg5 harg5 arg6 harg6 arg10 harg10 x0 x1 x2 x3 x4 x8) (backS arg16 Z) (backS arg16 (L8A (blk arg2 harg2 arg3 harg3 arg4 harg4 arg5 harg5 arg6 harg6 arg10 harg10 x0 x1 x2 x3 x4 x8) arg16)))⟩] := by
  sl_kernel_rfl

end Cert.Chunk

end
-- ==== Proof.RunBState.lean ====
module

public import proofs.«01_k».proof.Proof.Tile

@[expose] public section

set_option maxRecDepth 16384

noncomputable section

/-! What a later point of a row leaves in the states. -/

namespace Cert.Chunk

open Idealize.ShloMosaic Cert.KernelIdeal Cert.KernelIdeal.Gen Idealize.ShloMosaic.Tactic

variable {F : FTy → Type} [FloatOps F]
variable (c : Dev nD) (i : grid0.Coords)
variable (arg2 : Memref sig .tc .vmem S1x256x1024 .bf16) (harg2 : arg2.IsWhole)
variable (arg3 : Memref sig .tc .vmem S1x256x1024 .bf16) (harg3 : arg3.IsWhole)
variable (arg4 : Memref sig .tc .vmem S1x256x1024 .bf16) (harg4 : arg4.IsWhole)
variable (arg5 : Memref sig .tc .vmem S1x256x128 .f32) (harg5 : arg5.IsWhole)
variable (arg6 : Memref sig .tc .vmem S1x256x1024 .bf16) (harg6 : arg6.IsWhole)
variable (arg7 : Memref sig .tc .vmem S1x256x1024 .bf16) (harg7 : arg7.IsWhole)
variable (arg8 : Memref sig .tc .vmem S1x256x1024 .bf16) (harg8 : arg8.IsWhole)
variable (arg9 : Memref sig .tc .vmem S1x256x1024 .f32) (harg9 : arg9.IsWhole)
variable (arg10 : Memref sig .tc .vmem S1x128 .f32) (harg10 : arg10.IsWhole)
variable (arg11 : Memref sig .tc .vmem S1024x1024 .bf16) (harg11 : arg11.IsWhole)
variable (arg12 : Memref sig .tc .vmem S1024x1024 .bf16) (harg12 : arg12.IsWhole)
variable (arg13 : Memref sig .tc .vmem S1x1024 .f32) (harg13 : arg13.IsWhole)
variable (arg14 : Memref sig .tc .vmem S1x1024 .f32) (harg14 : arg14.IsWhole)
variable (arg15 : Memref sig .tc .vmem S1x256x1024 .f32) (harg15 : arg15.IsWhole)
variable (arg16 : Memref sig .tc .vmem S8x128x128 .f32) (harg16 : arg16.IsWhole)
variable (arg17 : Memref sig .tc .vmem S256x1024 .f32) (harg17 : arg17.IsWhole)
variable (x0 : Vec F S1x256x1024 .bf16)
variable (x1 : Vec F S1x256x1024 .bf16)
variable (x2 : Vec F S1x256x1024 .bf16)
variable (x3 : Vec F S1x256x128 .f32)
variable (x4 : Vec F S1x256x1024 .bf16)
variable (x5 : Vec F S1x256x1024 .bf16)
variable (x6 : Vec F S1x256x1024 .bf16)
variable (x7 : Vec F S1x256x1024 .f32)
variable (x8 : Vec F S1x128 .f32)
variable (x9 : Vec F S1024x1024 .bf16)
variable (x10 : Vec F S1024x1024 .bf16)
variable (x11 : Vec F S1x1024 .f32)
variable (x12 : Vec F S1x1024 .f32)
variable (xs0 : Vec F S8x128x128 .f32)

theorem runB_state (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0).2.1
    = L8 (blk arg2 harg2 arg3 harg3 arg4 harg4 arg5 harg5 arg6 harg6 arg10 harg10 x0 x1 x2 x3 x4 x8) 1 (backS arg16 (L8 (blk arg2 harg2 arg3 harg3 arg4 harg4 arg5 harg5 arg6 harg6 arg10 harg10 x0 x1 x2 x3 x4 x8) 0 (loadS arg16 harg16 xs0))) ++ L8 (blk arg2 harg2 arg3 harg3 arg4 harg4 arg5 harg5 arg6 harg6 arg10 harg10 x0 x1 x2 x3 x4 x8) 0 (loadS arg16 harg16 xs0) := by
  sl_kernel_rfl

end Cert.Chunk

end
-- ==== Proof.RunBOut.lean ====
module

public import proofs.«01_k».proof.Proof.Tile

@[expose] public section

set_option maxRecDepth 16384

noncomputable section

/-! The block a later point of a row stores. -/

namespace Cert.Chunk

open Idealize.ShloMosaic Cert.KernelIdeal Cert.KernelIdeal.Gen Idealize.ShloMosaic.Tactic

variable {F : FTy → Type} [FloatOps F]
variable (c : Dev nD) (i : grid0.Coords)
variable (arg2 : Memref sig .tc .vmem S1x256x1024 .bf16) (harg2 : arg2.IsWhole)
variable (arg3 : Memref sig .tc .vmem S1x256x1024 .bf16) (harg3 : arg3.IsWhole)
variable (arg4 : Memref sig .tc .vmem S1x256x1024 .bf16) (harg4 : arg4.IsWhole)
variable (arg5 : Memref sig .tc .vmem S1x256x128 .f32) (harg5 : arg5.IsWhole)
variable (arg6 : Memref sig .tc .vmem S1x256x1024 .bf16) (harg6 : arg6.IsWhole)
variable (arg7 : Memref sig .tc .vmem S1x256x1024 .bf16) (harg7 : arg7.IsWhole)
variable (arg8 : Memref sig .tc .vmem S1x256x1024 .bf16) (harg8 : arg8.IsWhole)
variable (arg9 : Memref sig .tc .vmem S1x256x1024 .f32) (harg9 : arg9.IsWhole)
variable (arg10 : Memref sig .tc .vmem S1x128 .f32) (harg10 : arg10.IsWhole)
variable (arg11 : Memref sig .tc .vmem S1024x1024 .bf16) (harg11 : arg11.IsWhole)
variable (arg12 : Memref sig .tc .vmem S1024x1024 .bf16) (harg12 : arg12.IsWhole)
variable (arg13 : Memref sig .tc .vmem S1x1024 .f32) (harg13 : arg13.IsWhole)
variable (arg14 : Memref sig .tc .vmem S1x1024 .f32) (harg14 : arg14.IsWhole)
variable (arg15 : Memref sig .tc .vmem S1x256x1024 .f32) (harg15 : arg15.IsWhole)
variable (arg16 : Memref sig .tc .vmem S8x128x128 .f32) (harg16 : arg16.IsWhole)
variable (arg17 : Memref sig .tc .vmem S256x1024 .f32) (harg17 : arg17.IsWhole)
variable (x0 : Vec F S1x256x1024 .bf16)
variable (x1 : Vec F S1x256x1024 .bf16)
variable (x2 : Vec F S1x256x1024 .bf16)
variable (x3 : Vec F S1x256x128 .f32)
variable (x4 : Vec F S1x256x1024 .bf16)
variable (x5 : Vec F S1x256x1024 .bf16)
variable (x6 : Vec F S1x256x1024 .bf16)
variable (x7 : Vec F S1x256x1024 .f32)
variable (x8 : Vec F S1x128 .f32)
variable (x9 : Vec F S1024x1024 .bf16)
variable (x10 : Vec F S1024x1024 .bf16)
variable (x11 : Vec F S1x1024 .f32)
variable (x12 : Vec F S1x1024 .f32)
variable (xs0 : Vec F S8x128x128 .f32)

theorem runB_out (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0).1
    = [⟨Rect.unit (s := S1x256x1024) ![0, 0, 0] S1x256x1024.size inb_S1x256x1024_S1x256x1024_0_0_0,
        tile arg7 harg7 arg8 harg8 arg9 harg9 arg11 harg11 arg12 harg12 arg13 harg13 arg14 harg14 arg17 x5 x6 x7 x9 x10 x11 x12 (L16 (blk arg2 harg2 arg3 harg3 arg4 harg4 arg5 harg5 arg6 harg6 arg10 harg10 x0 x1 x2 x3 x4 x8) (loadS arg16 harg16 xs0) (backS arg16 (L8 (blk arg2 harg2 arg3 harg3 arg4 harg4 arg5 harg5 arg6 harg6 arg10 harg10 x0 x1 x2 x3 x4 x8) 0 (loadS arg16 harg16 xs0))))⟩] := by
  sl_kernel_rfl

end Cert.Chunk

end
-- ==== Proof.PointValue.lean ====
module

public import proofs.«01_k».proof.Proof.TileValue
public import proofs.«01_k».proof.Proof.RunAState
public import proofs.«01_k».proof.Proof.RunAOut
public import proofs.«01_k».proof.Proof.RunBState
public import proofs.«01_k».proof.Proof.RunBOut
public import proofs.«01_k».proof.Proof.Gen.KernelIdeal.Frame
public import Idealize.ShloMosaic.Lib.WholeRead

@[expose] public section

set_option maxRecDepth 16384

noncomputable section

/-! What a grid point leaves in its block of the output and in the states, over the extended reals. -/

namespace Cert.Chunk

open Idealize.ShloMosaic Cert.KernelIdeal Cert.KernelIdeal.Gen Cert.Delta

/-- A load at an offset, at an entry. -/
theorem read3 {n0 n1 n2 m1 m2 : ℕ} {e : EltTy} (M : Memref sig .tc .vmem ⟨3, ![n0, n1, n2]⟩ e) (hM : M.IsWhole)
    (X : Vec Ideal ⟨3, ![n0, n1, n2]⟩ e) (a b c : ℕ) (inb : ∀ k : Fin 3, (![a, b, c] : Fin 3 → ℕ) k + (![1, m1, m2] : Fin 3 → ℕ) k ≤ (![n0, n1, n2] : Fin 3 → ℕ) k)
    (i : Fin m1) (j : Fin m2) (ha : a < n0) (hb : b + i < n1) (hc : c + j < n2) :
    View.readAt (Elt Ideal) M.view (Rect.unit (s := ⟨3, ![n0, n1, n2]⟩) ![a, b, c] ![1, m1, m2] inb).toLoadRect (hM.unread X)
      (ix3 (n0 := 1) (n1 := m1) (n2 := m2) 0 i j) = X (ix3 ⟨a, ha⟩ ⟨b + i, hb⟩ ⟨c + j, hc⟩) := by
  rw [hM.readAt_unread]
  refine congrArg X (funext fun k => Fin.ext ?_)
  refine (ValueKit.rect_emb_unit_val (s := ⟨3, ![n0, n1, n2]⟩) _ _ inb (ix3 (n0 := 1) (n1 := m1) (n2 := m2) 0 i j) k).trans ?_
  fin_cases k <;> rfl

theorem read2 {n1 n2 : ℕ} {e : EltTy} (M : Memref sig .tc .vmem ⟨2, ![n1, n2]⟩ e) (hM : M.IsWhole)
    (X : Vec Ideal ⟨2, ![n1, n2]⟩ e) (inb : ∀ k : Fin 2, (![0, 0] : Fin 2 → ℕ) k + (![n1, n2] : Fin 2 → ℕ) k ≤ (![n1, n2] : Fin 2 → ℕ) k)
    (i : Fin n1) (j : Fin n2) :
    View.readAt (Elt Ideal) M.view (Rect.unit (s := ⟨2, ![n1, n2]⟩) ![0, 0] ![n1, n2] inb).toLoadRect (hM.unread X)
      (ix2 i j) = X (ix2 i j) := by
  rw [hM.readAt_unread]
  refine congrArg X (funext fun k => Fin.ext ?_)
  refine (ValueKit.rect_emb_unit_val (s := ⟨2, ![n1, n2]⟩) _ _ inb (ix2 i j) k).trans ?_
  fin_cases k <;> simp

variable {c : Dev nD} {i : grid0.Coords}
variable {arg2 : Memref sig .tc .vmem S1x256x1024 .bf16} {harg2 : arg2.IsWhole}
variable {arg3 : Memref sig .tc .vmem S1x256x1024 .bf16} {harg3 : arg3.IsWhole}
variable {arg4 : Memref sig .tc .vmem S1x256x1024 .bf16} {harg4 : arg4.IsWhole}
variable {arg5 : Memref sig .tc .vmem S1x256x128 .f32} {harg5 : arg5.IsWhole}
variable {arg6 : Memref sig .tc .vmem S1x256x1024 .bf16} {harg6 : arg6.IsWhole}
variable {arg7 : Memref sig .tc .vmem S1x256x1024 .bf16} {harg7 : arg7.IsWhole}
variable {arg8 : Memref sig .tc .vmem S1x256x1024 .bf16} {harg8 : arg8.IsWhole}
variable {arg9 : Memref sig .tc .vmem S1x256x1024 .f32} {harg9 : arg9.IsWhole}
variable {arg10 : Memref sig .tc .vmem S1x128 .f32} {harg10 : arg10.IsWhole}
variable {arg11 : Memref sig .tc .vmem S1024x1024 .bf16} {harg11 : arg11.IsWhole}
variable {arg12 : Memref sig .tc .vmem S1024x1024 .bf16} {harg12 : arg12.IsWhole}
variable {arg13 : Memref sig .tc .vmem S1x1024 .f32} {harg13 : arg13.IsWhole}
variable {arg14 : Memref sig .tc .vmem S1x1024 .f32} {harg14 : arg14.IsWhole}
variable {arg15 : Memref sig .tc .vmem S1x256x1024 .f32} {harg15 : arg15.IsWhole}
variable {arg16 : Memref sig .tc .vmem S8x128x128 .f32} {harg16 : arg16.IsWhole}
variable {arg17 : Memref sig .tc .vmem S256x1024 .f32} {harg17 : arg17.IsWhole}
variable {x0 : Vec Ideal S1x256x1024 .bf16}
variable {x1 : Vec Ideal S1x256x1024 .bf16}
variable {x2 : Vec Ideal S1x256x1024 .bf16}
variable {x3 : Vec Ideal S1x256x128 .f32}
variable {x4 : Vec Ideal S1x256x1024 .bf16}
variable {x5 : Vec Ideal S1x256x1024 .bf16}
variable {x6 : Vec Ideal S1x256x1024 .bf16}
variable {x7 : Vec Ideal S1x256x1024 .f32}
variable {x8 : Vec Ideal S1x128 .f32}
variable {x9 : Vec Ideal S1024x1024 .bf16}
variable {x10 : Vec Ideal S1024x1024 .bf16}
variable {x11 : Vec Ideal S1x1024 .f32}
variable {x12 : Vec Ideal S1x1024 .f32}
variable {xs0 : Vec Ideal S8x128x128 .f32}

/-- The point's blocks are the tokens from `T` on of row `b`, and the weights. -/
structure PointIs (A : Spec.Args) (b : Fin 4) (T : ℕ) (x0 x1 x2 : Vec Ideal S1x256x1024 .bf16) (x3 : Vec Ideal S1x256x128 .f32)
    (x4 x5 x6 : Vec Ideal S1x256x1024 .bf16) (x7 : Vec Ideal S1x256x1024 .f32) (x8 : Vec Ideal S1x128 .f32)
    (x9 x10 : Vec Ideal S1024x1024 .bf16) (x11 x12 : Vec Ideal S1x1024 .f32) : Prop where
  q : ∀ (r : Fin 256) c, x0 (ix3 0 r c) = Spec.tok A.aq b (T + r) c
  k : ∀ (r : Fin 256) c, x1 (ix3 0 r c) = Spec.tok A.ak b (T + r) c
  v : ∀ (r : Fin 256) c, x2 (ix3 0 r c) = Spec.tok A.av b (T + r) c
  bg : ∀ (r : Fin 256) c, x3 (ix3 0 r c) = Spec.tok A.bg b (T + r) c
  gz : ∀ (r : Fin 256) c, x4 (ix3 0 r c) = Spec.tok A.gz b (T + r) c
  gg : ∀ (r : Fin 256) c, x5 (ix3 0 r c) = Spec.tok A.gg b (T + r) c
  hc : ∀ (r : Fin 256) c, x6 (ix3 0 r c) = Spec.tok A.hc b (T + r) c
  x : ∀ (r : Fin 256) c, x7 (ix3 0 r c) = Spec.tok A.x b (T + r) c
  ng : ∀ c, x8 (ix2 0 c) = A.ng c
  gwo : ∀ c d, x9 (ix2 c d) = A.gwo c d
  wo : ∀ c d, x10 (ix2 c d) = A.wo c d
  pg : ∀ c, x11 (ix2 0 c) = A.pg c
  pb : ∀ c, x12 (ix2 0 c) = A.pb c

variable {A : Spec.Args} {b : Fin 4} {T : ℕ} (f : A.Fine) (P : PointIs A b T x0 x1 x2 x3 x4 x5 x6 x7 x8 x9 x10 x11 x12)

include P in
theorem blk_is : BlkIs (blk arg2 harg2 arg3 harg3 arg4 harg4 arg5 harg5 arg6 harg6 arg10 harg10 x0 x1 x2 x3 x4 x8) A b T where
  q c h i j := (read3 arg2 harg2 x0 0 (128 * c.val) (128 * h.val) (inbA c h) i j (by omega) (by omega) (by omega)).trans
    ((P.q ⟨128 * c.val + i, by omega⟩ _).trans (by rw [Spec.Args.q, ← Nat.add_assoc]))
  k c h i j := (read3 arg3 harg3 x1 0 (128 * c.val) (128 * h.val) (inbA c h) i j (by omega) (by omega) (by omega)).trans
    ((P.k ⟨128 * c.val + i, by omega⟩ _).trans (by rw [Spec.Args.k, ← Nat.add_assoc]))
  v c h i j := (read3 arg4 harg4 x2 0 (128 * c.val) (128 * h.val) (inbA c h) i j (by omega) (by omega) (by omega)).trans
    ((P.v ⟨128 * c.val + i, by omega⟩ _).trans (by rw [Spec.Args.v, ← Nat.add_assoc]))
  gz c h i j := (read3 arg6 harg6 x4 0 (128 * c.val) (128 * h.val) (inbA c h) i j (by omega) (by omega) (by omega)).trans
    ((P.gz ⟨128 * c.val + i, by omega⟩ _).trans (by rw [← Nat.add_assoc]))
  bg c i l := (read3 arg5 harg5 x3 0 (128 * c.val) 0 (inbG c) i l (by omega) (by omega) (by omega)).trans
    ((P.bg ⟨128 * c.val + i, by omega⟩ _).trans (by
      rw [← Nat.add_assoc]; exact congrArg _ (Fin.ext (Nat.zero_add _))))
  ng j := (read2 arg10 harg10 x8 inb_S1x128_S1x128_0_0 0 j).trans (P.ng j)

theorem rdO_at (M : Memref sig .tc .vmem S256x1024 .f32) (L : List (View.Piece (Elt Ideal) S256x1024 .f32)) (r : Fin 256) (c : Fin 1024) :
    rdO M L (ix2 r c) = View.canon L (ix2 r c) := by
  rw [rdO, View.readCov_eq_canon']
  refine congrArg (View.canon L) (funext fun a => Fin.ext ?_)
  refine (ValueKit.rect_emb_unit_val (s := S256x1024) _ _ inb_S256x1024_S256x1024_0_0 (ix2 (n0 := 256) (n1 := 1024) r c) a).trans ?_
  fin_cases a <;> simp

theorem whole3 {e : EltTy} (M : Memref sig .tc .vmem S1x256x1024 e) (hM : M.IsWhole) (X : Vec Ideal S1x256x1024 e) (r : Fin 256) (c : Fin 1024) :
    View.readAt (Elt Ideal) M.view (Rect.unit (s := S1x256x1024) ![0, 0, 0] S1x256x1024.size inb_S1x256x1024_S1x256x1024_0_0_0).toLoadRect (hM.unread X)
      (ix3 (n0 := 1) (n1 := 256) (n2 := 1024) 0 r c) = X (ix3 0 r c) :=
  (read3 M hM X 0 0 0 inb_S1x256x1024_S1x256x1024_0_0_0 r c (by omega) (by omega) (by omega)).trans
    (congrArg X (funext fun k => Fin.ext (by fin_cases k <;> simp)))

include P in
/-- The finished block, its outputs stored. -/
theorem tile_value (LO : List (View.Piece (Elt Ideal) S256x1024 .f32)) (hO : ∀ y, View.canon LO y = ogG A b T y) (r : Fin 256) (e : Fin 1024) :
    tile arg7 harg7 arg8 harg8 arg9 harg9 arg11 harg11 arg12 harg12 arg13 harg13 arg14 harg14 arg17 x5 x6 x7 x9 x10 x11 x12 LO (ix3 0 r e) = A.out b (T + r) e := by
  have hgg : ∀ c, rdB arg7 harg7 x5 (ix3 0 r c) = Spec.tok A.gg b (T + r) c := fun c => (whole3 arg7 harg7 x5 r c).trans (P.gg r c)
  have hhc : ∀ c, rdB arg8 harg8 x6 (ix3 0 r c) = Spec.tok A.hc b (T + r) c := fun c => (whole3 arg8 harg8 x6 r c).trans (P.hc r c)
  have hx : ∀ c, rdX arg9 harg9 x7 (ix3 0 r c) = Spec.tok A.x b (T + r) c := fun c => (whole3 arg9 harg9 x7 r c).trans (P.x r c)
  have hg : ∀ c d, rdW arg11 harg11 x9 (ix2 c d) = A.gwo c d := fun c d => (read2 arg11 harg11 x9 inb_S1024x1024_S1024x1024_0_0 c d).trans (P.gwo c d)
  have hw : ∀ c d, rdW arg12 harg12 x10 (ix2 c d) = A.wo c d := fun c d => (read2 arg12 harg12 x10 inb_S1024x1024_S1024x1024_0_0 c d).trans (P.wo c d)
  have hpg : ∀ c, rdP arg13 harg13 x11 (ix2 0 c) = A.pg c := fun c => (read2 arg13 harg13 x11 inb_S1x1024_S1x1024_0_0 0 c).trans (P.pg c)
  have hpb : ∀ c, rdP arg14 harg14 x12 (ix2 0 c) = A.pb c := fun c => (read2 arg14 harg14 x12 inb_S1x1024_S1x1024_0_0 0 c).trans (P.pb c)
  have ho : ∀ c, rdO arg17 LO (ix2 r c) = A.ogc b (T + r) c := fun c => (rdO_at arg17 LO r c).trans (hO _)
  rw [tile, fin_at]
  simp only [hgg, hhc, hx, hg, hw, hpg, hpb, ho]
  rfl

theorem loadS_at (hxs : ∀ y, xs0 y = stG A b T y) (h : Fin 8) (i w : Fin 128) : loadS arg16 harg16 xs0 h (ix3 0 i w) = A.st b h T i w :=
  (read3 arg16 harg16 xs0 h.val 0 0 (inbS h) i w h.isLt (by omega) (by omega)).trans ((hxs _).trans (by
    show A.st b _ T _ _ = _
    congr 1 <;> exact Fin.ext (Nat.zero_add _)))

theorem clear_at (M : Memref sig .tc .vmem S8x128x128 .f32) (h : Fin 8) (i w : Fin 128) : backS (F := Ideal) M Z h (ix3 0 i w) = A.st b h 0 i w := by
  rw [backS_at, Z, View.canon_unit_zero (S := S8x128x128) (by decide)]
  have e : A.st b h 0 i w = ((0 : ℝ) : EReal) := rfl
  rw [e]
  pointwise [k0_pay2]
  rfl

include f P

/-- A later point of a row: the states it leaves. -/
theorem soutB_value (hc0 : ¬cond0_0 i) (hxs : ∀ y, xs0 y = stG A b T y) (y : S8x128x128.Idx) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 y = stG A b (T + 256) y := by
  rw [sout0_B_0, View.read_writes_junk_eq_canon, runB_state]
  have H : BlkIs (blk arg2 harg2 arg3 harg3 arg4 harg4 arg5 harg5 arg6 harg6 arg10 harg10 x0 x1 x2 x3 x4 x8) A b T := blk_is P
  exact (L8_canon f H 1 _ (fun h i w => by
    have := back_value f H arg16 (loadS arg16 harg16 xs0) (loadS_at hxs) [] h i w
    rwa [List.append_nil] at this) _ y)

/-- and the block. -/
theorem outB_value (hc0 : ¬cond0_0 i) (hxs : ∀ y, xs0 y = stG A b T y) (r : Fin 256) (e : Fin 1024) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 (ix3 0 r e) = A.out b (T + r) e := by
  rw [out0_B_13, View.read_writes_junk_eq_canon, runB_out, View.canon_unit_zero (S := S1x256x1024) (by decide)]
  have H : BlkIs (blk arg2 harg2 arg3 harg3 arg4 harg4 arg5 harg5 arg6 harg6 arg10 harg10 x0 x1 x2 x3 x4 x8) A b T := blk_is P
  exact tile_value P _ (L16_canon f H _ _ (loadS_at hxs) (fun h i w => by
    have := back_value f H arg16 (loadS arg16 harg16 xs0) (loadS_at hxs) [] h i w
    rwa [List.append_nil] at this)) r e

theorem soutA_value (hT : T = 0) (hc0 : cond0_0 i) (y : S8x128x128.Idx) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 y = stG A b (T + 256) y := by
  subst hT
  rw [sout0_A_0, View.read_writes_junk_eq_canon, runA_state]
  have H : BlkIs (blk arg2 harg2 arg3 harg3 arg4 harg4 arg5 harg5 arg6 harg6 arg10 harg10 x0 x1 x2 x3 x4 x8) A b 0 := blk_is P
  exact L8_canon f H 1 _ (back_value f H arg16 (backS arg16 Z) (clear_at arg16) Z) _ y

theorem outA_value (hT : T = 0) (hc0 : cond0_0 i) (r : Fin 256) (e : Fin 1024) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 (ix3 0 r e) = A.out b (T + r) e := by
  subst hT
  rw [out0_A_13, View.read_writes_junk_eq_canon, runA_out, View.canon_unit_zero (S := S1x256x1024) (by decide)]
  have H : BlkIs (blk arg2 harg2 arg3 harg3 arg4 harg4 arg5 harg5 arg6 harg6 arg10 harg10 x0 x1 x2 x3 x4 x8) A b 0 := blk_is P
  exact tile_value P _ (L16_canon f H _ _ (clear_at arg16) (back_value f H arg16 (backS arg16 Z) (clear_at arg16) Z)) r e

end Cert.Chunk

end
-- ==== Proof.KBlocks.lean ====
module

public import proofs.«01_k».proof.Proof.PointValue
public import proofs.«01_k».proof.Proof.Gen.KernelIdeal.Value
public import Idealize.ShloMosaic.Lib.Pipeline.ValueKit
public import Idealize.ShloMosaic.Lib.Pipeline.ValueKit.Point

@[expose] public section

set_option maxRecDepth 16384

noncomputable section

/-! The kernel's blocks as tokens of its arguments. -/

namespace Cert.KValue

open Idealize.ShloMosaic Idealize.ShloMosaic.TcCoe Cert.KernelIdeal Cert.KernelIdeal.Gen Idealize.ShloMosaic.Tactic

variable (m : (ℓ : Loc nD τ sig) → Buf (Elt Ideal) ℓ) (c : Dev nD)

/-- The arguments, as the specification takes them. -/
def args : Spec.Args where
  aq b t e := m ((c : Thread nD τ).loc main_arg0) (ix3 b t e)
  ak b t e := m ((c : Thread nD τ).loc main_arg1) (ix3 b t e)
  av b t e := m ((c : Thread nD τ).loc main_arg2) (ix3 b t e)
  bg b t e := m ((c : Thread nD τ).loc main_arg3) (ix3 b t e)
  gz b t e := m ((c : Thread nD τ).loc main_arg4) (ix3 b t e)
  gg b t e := m ((c : Thread nD τ).loc main_arg5) (ix3 b t e)
  hc b t e := m ((c : Thread nD τ).loc main_arg6) (ix3 b t e)
  x b t e := m ((c : Thread nD τ).loc main_arg7) (ix3 b t e)
  ng e := m ((c : Thread nD τ).loc main_arg8) (ix1 e)
  gwo d e := m ((c : Thread nD τ).loc main_arg9) (ix2 d e)
  wo d e := m ((c : Thread nD τ).loc main_arg10) (ix2 d e)
  pg e := m ((c : Thread nD τ).loc main_arg11) (ix1 e)
  pb e := m ((c : Thread nD τ).loc main_arg12) (ix1 e)

theorem idx : ∀ t : Fin cfg0.N,
    win0_0.index t = ![t.val / 32, t.val % 32, 0] ∧ win0_1.index t = ![t.val / 32, t.val % 32, 0]
    ∧ win0_2.index t = ![t.val / 32, t.val % 32, 0] ∧ win0_3.index t = ![t.val / 32, t.val % 32, 0]
    ∧ win0_4.index t = ![t.val / 32, t.val % 32, 0] ∧ win0_5.index t = ![t.val / 32, t.val % 32, 0]
    ∧ win0_6.index t = ![t.val / 32, t.val % 32, 0] ∧ win0_7.index t = ![t.val / 32, t.val % 32, 0]
    ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

/-- The row of the batch a point works on. -/
def row (t : Fin cfg0.N) : Fin 4 := ⟨t.val / 32, by have := lt_of_lt_of_eq t.isLt (show cfg0.N = 128 from N_0); omega⟩

theorem bound (t : Fin cfg0.N) (r : Fin 256) : 256 * (t.val % 32) + r.val < 8192 := by omega

theorem blk_arg0 (t : Fin cfg0.N) (r : Fin 256) (e : Fin 1024) :
    iblk m c 0 t (ix3 (n0 := 1) (n1 := 256) (n2 := 1024) 0 r e) = m ((c : Thread nD τ).loc main_arg0) (ix3 (row t) ⟨256 * (t.val % 32) + r.val, bound t r⟩ e) := by
  have e0 := (idx t).1
  blk_ext [iblk, V, e0, row]

theorem blk_arg1 (t : Fin cfg0.N) (r : Fin 256) (e : Fin 1024) :
    iblk m c 1 t (ix3 (n0 := 1) (n1 := 256) (n2 := 1024) 0 r e) = m ((c : Thread nD τ).loc main_arg1) (ix3 (row t) ⟨256 * (t.val % 32) + r.val, bound t r⟩ e) := by
  have e0 := (idx t).2.1
  blk_ext [iblk, V, e0, row]

theorem blk_arg2 (t : Fin cfg0.N) (r : Fin 256) (e : Fin 1024) :
    iblk m c 2 t (ix3 (n0 := 1) (n1 := 256) (n2 := 1024) 0 r e) = m ((c : Thread nD τ).loc main_arg2) (ix3 (row t) ⟨256 * (t.val % 32) + r.val, bound t r⟩ e) := by
  have e0 := (idx t).2.2.1
  blk_ext [iblk, V, e0, row]

theorem blk_arg3 (t : Fin cfg0.N) (r : Fin 256) (e : Fin 128) :
    iblk m c 3 t (ix3 (n0 := 1) (n1 := 256) (n2 := 128) 0 r e) = m ((c : Thread nD τ).loc main_arg3) (ix3 (row t) ⟨256 * (t.val % 32) + r.val, bound t r⟩ e) := by
  have e0 := (idx t).2.2.2.1
  blk_ext [iblk, V, e0, row]

theorem blk_arg4 (t : Fin cfg0.N) (r : Fin 256) (e : Fin 1024) :
    iblk m c 4 t (ix3 (n0 := 1) (n1 := 256) (n2 := 1024) 0 r e) = m ((c : Thread nD τ).loc main_arg4) (ix3 (row t) ⟨256 * (t.val % 32) + r.val, bound t r⟩ e) := by
  have e0 := (idx t).2.2.2.2.1
  blk_ext [iblk, V, e0, row]

theorem blk_arg5 (t : Fin cfg0.N) (r : Fin 256) (e : Fin 1024) :
    iblk m c 5 t (ix3 (n0 := 1) (n1 := 256) (n2 := 1024) 0 r e) = m ((c : Thread nD τ).loc main_arg5) (ix3 (row t) ⟨256 * (t.val % 32) + r.val, bound t r⟩ e) := by
  have e0 := (idx t).2.2.2.2.2.1
  blk_ext [iblk, V, e0, row]

theorem blk_arg6 (t : Fin cfg0.N) (r : Fin 256) (e : Fin 1024) :
    iblk m c 6 t (ix3 (n0 := 1) (n1 := 256) (n2 := 1024) 0 r e) = m ((c : Thread nD τ).loc main_arg6) (ix3 (row t) ⟨256 * (t.val % 32) + r.val, bound t r⟩ e) := by
  have e0 := (idx t).2.2.2.2.2.2.1
  blk_ext [iblk, V, e0, row]

theorem blk_arg7 (t : Fin cfg0.N) (r : Fin 256) (e : Fin 1024) :
    iblk m c 7 t (ix3 (n0 := 1) (n1 := 256) (n2 := 1024) 0 r e) = m ((c : Thread nD τ).loc main_arg7) (ix3 (row t) ⟨256 * (t.val % 32) + r.val, bound t r⟩ e) := by
  have e0 := (idx t).2.2.2.2.2.2.2.1
  blk_ext [iblk, V, e0, row]

theorem blk_arg8 (t : Fin cfg0.N) (e : Fin 128) :
    iblk m c 8 t (ix2 (n0 := 1) (n1 := 128) 0 e) = m ((c : Thread nD τ).loc main_arg8) (ix1 e) := by
  have e0 := (idx t).2.2.2.2.2.2.2.2.1
  blk_ext! [iblk, V, e0]

theorem blk_arg11 (t : Fin cfg0.N) (e : Fin 1024) :
    iblk m c 11 t (ix2 (n0 := 1) (n1 := 1024) 0 e) = m ((c : Thread nD τ).loc main_arg11) (ix1 e) := by
  have e0 := (idx t).2.2.2.2.2.2.2.2.2.2.2.1
  blk_ext! [iblk, V, e0]

theorem blk_arg12 (t : Fin cfg0.N) (e : Fin 1024) :
    iblk m c 12 t (ix2 (n0 := 1) (n1 := 1024) 0 e) = m ((c : Thread nD τ).loc main_arg12) (ix1 e) := by
  have e0 := (idx t).2.2.2.2.2.2.2.2.2.2.2.2
  blk_ext! [iblk, V, e0]

theorem blk_arg9 (t : Fin cfg0.N) (d e : Fin 1024) :
    iblk m c 9 t (ix2 (n0 := 1024) (n1 := 1024) d e) = m ((c : Thread nD τ).loc main_arg9) (ix2 d e) := by
  have e0 := (idx t).2.2.2.2.2.2.2.2.2.1
  blk_ext! [iblk, V, e0]

theorem blk_arg10 (t : Fin cfg0.N) (d e : Fin 1024) :
    iblk m c 10 t (ix2 (n0 := 1024) (n1 := 1024) d e) = m ((c : Thread nD τ).loc main_arg10) (ix2 d e) := by
  have e0 := (idx t).2.2.2.2.2.2.2.2.2.2.1
  blk_ext! [iblk, V, e0]

open Cert.Chunk

theorem point_is (t : Fin cfg0.N) : PointIs (args m c) (row t) (256 * (t.val % 32)) (iblk m c 0 t) (iblk m c 1 t) (iblk m c 2 t)
    (iblk m c 3 t) (iblk m c 4 t) (iblk m c 5 t) (iblk m c 6 t) (iblk m c 7 t) (iblk m c 8 t) (iblk m c 9 t) (iblk m c 10 t)
    (iblk m c 11 t) (iblk m c 12 t) where
  q r e := (blk_arg0 m c t r e).trans (Spec.tok_fin (args m c).aq (row t) ⟨_, bound t r⟩ e).symm
  k r e := (blk_arg1 m c t r e).trans (Spec.tok_fin (args m c).ak (row t) ⟨_, bound t r⟩ e).symm
  v r e := (blk_arg2 m c t r e).trans (Spec.tok_fin (args m c).av (row t) ⟨_, bound t r⟩ e).symm
  bg r e := (blk_arg3 m c t r e).trans (Spec.tok_fin (args m c).bg (row t) ⟨_, bound t r⟩ e).symm
  gz r e := (blk_arg4 m c t r e).trans (Spec.tok_fin (args m c).gz (row t) ⟨_, bound t r⟩ e).symm
  gg r e := (blk_arg5 m c t r e).trans (Spec.tok_fin (args m c).gg (row t) ⟨_, bound t r⟩ e).symm
  hc r e := (blk_arg6 m c t r e).trans (Spec.tok_fin (args m c).hc (row t) ⟨_, bound t r⟩ e).symm
  x r e := (blk_arg7 m c t r e).trans (Spec.tok_fin (args m c).x (row t) ⟨_, bound t r⟩ e).symm
  ng e := blk_arg8 m c t e
  gwo d e := blk_arg9 m c t d e
  wo d e := blk_arg10 m c t d e
  pg e := blk_arg11 m c t e
  pb e := blk_arg12 m c t e

/-- What a point leaves: the layer's tokens in the output's block, and their states in the scratch. -/
def Left (t : Fin cfg0.N) : Prop :=
  (∀ (r : Fin 256) (e : Fin 1024), (outsAt0 m c t.val t.isLt).1 (ix3 0 r e) = (args m c).out (row t) (256 * (t.val % 32) + r) e)
    ∧ ∀ y, (outsAt0 m c t.val t.isLt).2 y = stG (args m c) (row t) (256 * (t.val % 32) + 256) y

theorem left_A (f : (args m c).Fine) (t : Fin cfg0.N) (h0 : t.val % 32 = 0) : Left m c t := by
  have hT : 256 * (t.val % 32) = 0 := by omega
  have e := outsAt0_A m c t h0
  have e1 := congrArg Prod.fst e
  have e2 := congrArg Prod.snd e
  dsimp only at e1 e2
  have P := point_is m c t
  refine ⟨fun r e' => (congrFun e1 _).trans ?_, fun y => (congrFun e2 y).trans ?_⟩
  · exact outA_value f P hT _ r e'
  · exact soutA_value f P hT _ y

theorem left_B (f : (args m c).Fine) (t : Fin cfg0.N) (h0 : ¬t.val % 32 = 0)
    (hp : ∀ y, (outsAt0 m c (t.val - 1) (by omega)).2 y = stG (args m c) (row t) (256 * (t.val % 32)) y) : Left m c t := by
  have e := outsAt0_B m c t h0
  have e1 := congrArg Prod.fst e
  have e2 := congrArg Prod.snd e
  dsimp only at e1 e2
  have P := point_is m c t
  refine ⟨fun r e' => (congrFun e1 _).trans ?_, fun y => (congrFun e2 y).trans ?_⟩
  · exact outB_value f P _ hp r e'
  · exact soutB_value f P _ hp y

theorem points (f : (args m c).Fine) : ∀ (n : ℕ) (hn : n < cfg0.N), Left m c ⟨n, hn⟩ := by
  intro n
  induction n with
  | zero => exact fun hn => left_A m c f ⟨0, hn⟩ (Nat.zero_mod _)
  | succ n ih =>
    intro hn
    by_cases h0 : (n + 1) % 32 = 0
    · exact left_A m c f ⟨n + 1, hn⟩ h0
    · have hp := (ih (Nat.lt_of_succ_lt hn)).2
      have er : row ⟨n, Nat.lt_of_succ_lt hn⟩ = row ⟨n + 1, hn⟩ := Fin.ext (by show n / 32 = (n + 1) / 32; omega)
      have eT : 256 * (n % 32) + 256 = 256 * ((n + 1) % 32) := by omega
      refine left_B m c f ⟨n + 1, hn⟩ h0 fun y => (hp y).trans ?_
      rw [er]
      show stG _ _ (256 * (n % 32) + 256) y = stG _ _ (256 * ((n + 1) % 32)) y
      rw [eT]

/-- The kernel's result. -/
theorem result (f : (args m c).Fine) (b : Fin 4) (t : Fin 8192) (e : Fin 1024) :
    Value.G13 m c (ix3 b t e) = (args m c).out b t.val e := by
  have hpt : Value.pt13Of (ix3 b t e) = 32 * b.val + t.val / 256 := by
    show 32 * (b.val / 1 - 0) + 1 * (t.val / 256 - 0) + 1 * (e.val / 1024 - 0) = _
    omega
  have hN : Value.pt13Of (ix3 b t e) < cfg0.N := by
    rw [hpt]; exact lt_of_lt_of_eq (by omega) (show 128 = cfg0.N from N_0.symm)
  rw [Value.G13, dif_pos hN]
  have hs := Value.outsAt0_sweep m c (Value.pt13Of (ix3 b t e)) hN
  have hl : Value.loc13Of (ix3 b t e) = ix3 (n0 := 1) (n1 := 256) (n2 := 1024) 0 ⟨t.val % 256, Nat.mod_lt _ (by decide)⟩ e := by
    funext a
    fin_cases a
    · exact Fin.ext (Nat.mod_one _)
    · rfl
    · exact Fin.ext (Nat.mod_eq_of_lt e.isLt)
  refine (congrFun (congrArg Prod.fst hs.symm) _).trans ?_
  rw [hl, (points m c f _ hN).1]
  have er : row ⟨Value.pt13Of (ix3 b t e), hN⟩ = b := Fin.ext (by show Value.pt13Of (ix3 b t e) / 32 = b.val; rw [hpt]; omega)
  rw [er]
  congr 1
  show 256 * (Value.pt13Of (ix3 b t e) % 32) + t.val % 256 = t.val
  rw [hpt]
  omega

end Cert.KValue

end
-- ==== Proof.RefRun.lean ====
module

/- The reference's run as its loop's step iterated. -/
public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_16 : V0 (Proc.devRef .tc main_v13_16) = s.main_v13_16
  f_17 : V0 (Proc.devRef .tc main_v13_17) = s.main_v13_17
  f_0 : V0 (Proc.devRef .tc main_v13_0) = s.main_v13_0
  f_1 : V0 (Proc.devRef .tc main_v13_1) = s.main_v13_1
  f_2 : V0 (Proc.devRef .tc main_v13_2) = s.main_v13_2
  f_3 : V0 (Proc.devRef .tc main_v13_3) = s.main_v13_3
  f_4 : V0 (Proc.devRef .tc main_v13_4) = s.main_v13_4
  f_5 : V0 (Proc.devRef .tc main_v13_5) = s.main_v13_5
  f_6 : V0 (Proc.devRef .tc main_v13_6) = s.main_v13_6
  f_7 : V0 (Proc.devRef .tc main_v13_7) = s.main_v13_7
  f_8 : V0 (Proc.devRef .tc main_v13_8) = s.main_v13_8
  f_9 : V0 (Proc.devRef .tc main_v13_9) = s.main_v13_9
  f_10 : V0 (Proc.devRef .tc main_v13_10) = s.main_v13_10
  f_11 : V0 (Proc.devRef .tc main_v13_11) = s.main_v13_11
  f_12 : V0 (Proc.devRef .tc main_v13_12) = s.main_v13_12
  f_13 : V0 (Proc.devRef .tc main_v13_13) = s.main_v13_13
  n_14 : V0 (Proc.devRef .tc main_v13_14) = constantI S_ 32 (BitVec.ofNat 32 j)
  n_15 : V0 (Proc.devRef .tc main_v13_15) = constantI S_ 32 (BitVec.ofNat 32 j)

variable {V0 s j}

set_option maxRecDepth 8192 in
theorem al_0 (h : Holds V0 s j) : (constantI S_ 32 1#32 : (Proc.devRef .tc main_while0b_c_19 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v13_15)) (constantI S_ 32 1#32) : (Proc.devRef .tc main_while0b_v14 : DevRef τ sig).ty.Contents (Elt F)) = Cert.ReferenceIdeal.Step.b1 j s := by
  unfold Cert.ReferenceIdeal.Step.b1
  rw [← al_0 h, h.n_15]
  try rfl
set_option maxRecDepth 8192 in
theorem al_2 (h : Holds V0 s j) : (constantI S_ 32 0#32 : (Proc.devRef .tc main_while0b_call0_c : DevRef τ sig).ty.Contents (Elt F)) = Cert.ReferenceIdeal.Step.b2 j s := by
  unfold Cert.ReferenceIdeal.Step.b2
  rfl
set_option maxRecDepth 8192 in
theorem al_3 (h : Holds V0 s j) : (cmpi .slt (V0 (Proc.devRef .tc main_v13_15)) (constantI S_ 32 0#32) : (Proc.devRef .tc main_while0b_call0_v0 : DevRef τ sig).ty.Contents (Elt F)) = Cert.ReferenceIdeal.Step.b3 j s := by
  unfold Cert.ReferenceIdeal.Step.b3
  rw [← al_2 h, h.n_15]
  try rfl
set_option maxRecDepth 8192 in
theorem al_4 (h : Holds V0 s j) : (id (V0 (Proc.devRef .tc main_v13_15)) : (Proc.devRef .tc main_while0b_call0_v1 : DevRef τ sig).ty.Contents (Elt F)) = Cert.ReferenceIdeal.Step.b4 j s := by
  unfold Cert.ReferenceIdeal.Step.b4
  rw [h.n_15]
  try rfl
set_option maxRecDepth 8192 in
theorem al_5 (h : Holds V0 s j) : (constantI S_ 32 8192#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (addi (id (V0 (Proc.devRef .tc main_v13_15))) (constantI S_ 32 8192#32) : (Proc.devRef .tc main_while0b_call0_v2 : DevRef τ sig).ty.Contents (Elt F)) = Cert.ReferenceIdeal.Step.b6 j s := by
  unfold Cert.ReferenceIdeal.Step.b6
  rw [← al_4 h, ← al_5 h]
  try rfl
set_option maxRecDepth 8192 in
theorem al_7 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call0_v3 : DevRef τ sig).ty.Contents (Elt F)) = Cert.ReferenceIdeal.Step.b7 j s := by
  unfold Cert.ReferenceIdeal.Step.b7
  rw [← al_3 h, ← al_6 h, h.n_15]
  try rfl
set_option maxRecDepth 8192 in
theorem al_8 (h : Holds V0 s j) : (constantI S_ 32 0#32 : (Proc.devRef .tc main_while0b_call0_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call0_c_2 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call0_c_3 : DevRef τ sig).ty.Contents (Elt F)) = Cert.ReferenceIdeal.Step.b10 j s := by
  unfold Cert.ReferenceIdeal.Step.b10
  rfl
set_option maxRecDepth 8192 in
theorem al_11 (h : Holds V0 s j) : (Host.dynamicSlice S4x1x8x128 (V0 (Proc.devRef .tc main_v13_0)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128 : (Proc.devRef .tc main_while0b_call0_v4 : DevRef τ sig).ty.Contents (Elt F)) = Cert.ReferenceIdeal.Step.b11 j s := by
  unfold Cert.ReferenceIdeal.Step.b11
  rw [← al_8 h, ← al_7 h, ← al_9 h, ← al_10 h, h.f_0]
  try rfl
set_option maxRecDepth 8192 in
theorem al_12 (h : Holds V0 s j) : (shapeCast S4x8x128 (Host.dynamicSlice S4x1x8x128 (V0 (Proc.devRef .tc main_v13_0)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128) shapeCasts_S4x1x8x128_S4x8x128 : (Proc.devRef .tc main_while0b_v15 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (constantI S_ 32 0#32 : (Proc.devRef .tc main_while0b_call1_c : DevRef τ sig).ty.Contents (Elt F)) = Cert.ReferenceIdeal.Step.b13 j s := by
  unfold Cert.ReferenceIdeal.Step.b13
  rfl
set_option maxRecDepth 8192 in
theorem al_14 (h : Holds V0 s j) : (cmpi .slt (V0 (Proc.devRef .tc main_v13_15)) (constantI S_ 32 0#32) : (Proc.devRef .tc main_while0b_call1_v0 : DevRef τ sig).ty.Contents (Elt F)) = Cert.ReferenceIdeal.Step.b14 j s := by
  unfold Cert.ReferenceIdeal.Step.b14
  rw [← al_13 h, h.n_15]
  try rfl
set_option maxRecDepth 8192 in
theorem al_15 (h : Holds V0 s j) : (id (V0 (Proc.devRef .tc main_v13_15)) : (Proc.devRef .tc main_while0b_call1_v1 : DevRef τ sig).ty.Contents (Elt F)) = Cert.ReferenceIdeal.Step.b15 j s := by
  unfold Cert.ReferenceIdeal.Step.b15
  rw [h.n_15]
  try rfl
set_option maxRecDepth 8192 in
theorem al_16 (h : Holds V0 s j) : (constantI S_ 32 8192#32 : (Proc.devRef .tc main_while0b_call1_c_0 : DevRef τ sig).ty.Contents (Elt F)) = Cert.ReferenceIdeal.Step.b16 j s := by
  unfold Cert.ReferenceIdeal.Step.b16
  rfl
set_option maxRecDepth 8192 in
theorem al_17 (h : Holds V0 s j) : (addi (id (V0 (Proc.devRef .tc main_v13_15))) (constantI S_ 32 8192#32) : (Proc.devRef .tc main_while0b_call1_v2 : DevRef τ sig).ty.Contents (Elt F)) = Cert.ReferenceIdeal.Step.b17 j s := by
  unfold Cert.ReferenceIdeal.Step.b17
  rw [← al_15 h, ← al_16 h]
  try rfl
set_option maxRecDepth 8192 in
theorem al_18 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call1_v3 : DevRef τ sig).ty.Contents (Elt F)) = Cert.ReferenceIdeal.Step.b18 j s := by
  unfold Cert.ReferenceIdeal.Step.b18
  rw [← al_14 h, ← al_17 h, h.n_15]
  try rfl
set_option maxRecDepth 8192 in
theorem al_19 (h : Holds V0 s j) : (constantI S_ 32 0#32 : (Proc.devRef .tc main_while0b_call1_c_1 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call1_c_2 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call1_c_3 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S4x1x8x128 (V0 (Proc.devRef .tc main_v13_1)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128 : (Proc.devRef .tc main_while0b_call1_v4 : DevRef τ sig).ty.Contents (Elt F)) = Cert.ReferenceIdeal.Step.b22 j s := by
  unfold Cert.ReferenceIdeal.Step.b22
  rw [← al_19 h, ← al_18 h, ← al_20 h, ← al_21 h, h.f_1]
  try rfl
set_option maxRecDepth 8192 in
theorem al_23 (h : Holds V0 s j) : (res_main_while0b_v16 V0 : (Proc.devRef .tc main_while0b_v16 : DevRef τ sig).ty.Contents (Elt F)) = Cert.ReferenceIdeal.Step.b23 j s := by
  unfold res_main_while0b_v16 Cert.ReferenceIdeal.Step.b23
  rw [← al_22 h]
  try rfl
set_option maxRecDepth 8192 in
theorem al_24 (h : Holds V0 s j) : (constantI S_ 32 0#32 : (Proc.devRef .tc main_while0b_call2_c : DevRef τ sig).ty.Contents (Elt F)) = Cert.ReferenceIdeal.Step.b24 j s := by
  unfold Cert.ReferenceIdeal.Step.b24
  rfl
set_option maxRecDepth 8192 in
theorem al_25 (h : Holds V0 s j) : (cmpi .slt (V0 (Proc.devRef .tc main_v13_15)) (constantI S_ 32 0#32) : (Proc.devRef .tc main_while0b_call2_v0 : DevRef τ sig).ty.Contents (Elt F)) = Cert.ReferenceIdeal.Step.b25 j s := by
  unfold Cert.ReferenceIdeal.Step.b25
  rw [← al_24 h, h.n_15]
  try rfl
set_option maxRecDepth 8192 in
theorem al_26 (h : Holds V0 s j) : (id (V0 (Proc.devRef .tc main_v13_15)) : (Proc.devRef .tc main_while0b_call2_v1 : DevRef τ sig).ty.Contents (Elt F)) = Cert.ReferenceIdeal.Step.b26 j s := by
  unfold Cert.ReferenceIdeal.Step.b26
  rw [h.n_15]
  try rfl
set_option maxRecDepth 8192 in
theorem al_27 (h : Holds V0 s j) : (constantI S_ 32 8192#32 : (Proc.devRef .tc main_while0b_call2_c_0 : DevRef τ sig).ty.Contents (Elt F)) = Cert.ReferenceIdeal.Step.b27 j s := by
  unfold Cert.ReferenceIdeal.Step.b27
  rfl
set_option maxRecDepth 8192 in
theorem al_28 (h : Holds V0 s j) : (addi (id (V0 (Proc.devRef .tc main_v13_15))) (constantI S_ 32 8192#32) : (Proc.devRef .tc main_while0b_call2_v2 : DevRef τ sig).ty.Contents (Elt F)) = Cert.ReferenceIdeal.Step.b28 j s := by
  unfold Cert.ReferenceIdeal.Step.b28
  rw [← al_26 h, ← al_27 h]
  try rfl
set_option maxRecDepth 8192 in
theorem al_29 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call2_v3 : DevRef τ sig).ty.Contents (Elt F)) = Cert.ReferenceIdeal.Step.b29 j s := by
  unfold Cert.ReferenceIdeal.Step.b29
  rw [← al_25 h, ← al_28 h, h.n_15]
  try rfl
set_option maxRecDepth 8192 in
theorem al_30 (h : Holds V0 s j) : (constantI S_ 32 0#32 : (Proc.devRef .tc main_while0b_call2_c_1 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call2_c_2 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call2_c_3 : DevRef τ sig).ty.Contents (Elt F)) = Cert.ReferenceIdeal.Step.b32 j s := by
  unfold Cert.ReferenceIdeal.Step.b32
  rfl
set_option maxRecDepth 8192 in
theorem al_33 (h : Holds V0 s j) : (Host.dynamicSlice S4x1x8x128 (V0 (Proc.devRef .tc main_v13_2)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128 : (Proc.devRef .tc main_while0b_call2_v4 : DevRef τ sig).ty.Contents (Elt F)) = Cert.ReferenceIdeal.Step.b33 j s := by
  unfold Cert.ReferenceIdeal.Step.b33
  rw [← al_30 h, ← al_29 h, ← al_31 h, ← al_32 h, h.f_2]
  try rfl
set_option maxRecDepth 8192 in
theorem al_34 (h : Holds V0 s j) : (shapeCast S4x8x128 (Host.dynamicSlice S4x1x8x128 (V0 (Proc.devRef .tc main_v13_2)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128) shapeCasts_S4x1x8x128_S4x8x128 : (Proc.devRef .tc main_while0b_v17 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (constantI S_ 32 0#32 : (Proc.devRef .tc main_while0b_call3_c : DevRef τ sig).ty.Contents (Elt F)) = Cert.ReferenceIdeal.Step.b35 j s := by
  unfold Cert.ReferenceIdeal.Step.b35
  rfl
set_option maxRecDepth 8192 in
theorem al_36 (h : Holds V0 s j) : (cmpi .slt (V0 (Proc.devRef .tc main_v13_15)) (constantI S_ 32 0#32) : (Proc.devRef .tc main_while0b_call3_v0 : DevRef τ sig).ty.Contents (Elt F)) = Cert.ReferenceIdeal.Step.b36 j s := by
  unfold Cert.ReferenceIdeal.Step.b36
  rw [← al_35 h, h.n_15]
  try rfl
set_option maxRecDepth 8192 in
theorem al_37 (h : Holds V0 s j) : (id (V0 (Proc.devRef .tc main_v13_15)) : (Proc.devRef .tc main_while0b_call3_v1 : DevRef τ sig).ty.Contents (Elt F)) = Cert.ReferenceIdeal.Step.b37 j s := by
  unfold Cert.ReferenceIdeal.Step.b37
  rw [h.n_15]
  try rfl
set_option maxRecDepth 8192 in
theorem al_38 (h : Holds V0 s j) : (constantI S_ 32 8192#32 : (Proc.devRef .tc main_while0b_call3_c_0 : DevRef τ sig).ty.Contents (Elt F)) = Cert.ReferenceIdeal.Step.b38 j s := by
  unfold Cert.ReferenceIdeal.Step.b38
  rfl
set_option maxRecDepth 8192 in
theorem al_39 (h : Holds V0 s j) : (addi (id (V0 (Proc.devRef .tc main_v13_15))) (constantI S_ 32 8192#32) : (Proc.devRef .tc main_while0b_call3_v2 : DevRef τ sig).ty.Contents (Elt F)) = Cert.ReferenceIdeal.Step.b39 j s := by
  unfold Cert.ReferenceIdeal.Step.b39
  rw [← al_37 h, ← al_38 h]
  try rfl
set_option maxRecDepth 8192 in
theorem al_40 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call3_v3 : DevRef τ sig).ty.Contents (Elt F)) = Cert.ReferenceIdeal.Step.b40 j s := by
  unfold Cert.ReferenceIdeal.Step.b40
  rw [← al_36 h, ← al_39 h, h.n_15]
  try rfl
set_option maxRecDepth 8192 in
theorem al_41 (h : Holds V0 s j) : (constantI S_ 32 0#32 : (Proc.devRef .tc main_while0b_call3_c_1 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call3_c_2 : DevRef τ sig).ty.Contents (Elt F)) = Cert.ReferenceIdeal.Step.b42 j s := by
  unfold Cert.ReferenceIdeal.Step.b42
  rfl
set_option maxRecDepth 8192 in
theorem al_43 (h : Holds V0 s j) : (Host.dynamicSlice S4x1x8 (V0 (Proc.devRef .tc main_v13_3)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8 : (Proc.devRef .tc main_while0b_call3_v4 : DevRef τ sig).ty.Contents (Elt F)) = Cert.ReferenceIdeal.Step.b43 j s := by
  unfold Cert.ReferenceIdeal.Step.b43
  rw [← al_41 h, ← al_40 h, ← al_42 h, h.f_3]
  try rfl
set_option maxRecDepth 8192 in
theorem al_44 (h : Holds V0 s j) : (shapeCast S4x8 (Host.dynamicSlice S4x1x8 (V0 (Proc.devRef .tc main_v13_3)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8 : (Proc.devRef .tc main_while0b_v18 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (constantI S_ 32 0#32 : (Proc.devRef .tc main_while0b_call4_c : DevRef τ sig).ty.Contents (Elt F)) = Cert.ReferenceIdeal.Step.b45 j s := by
  unfold Cert.ReferenceIdeal.Step.b45
  rfl
set_option maxRecDepth 8192 in
theorem al_46 (h : Holds V0 s j) : (cmpi .slt (V0 (Proc.devRef .tc main_v13_15)) (constantI S_ 32 0#32) : (Proc.devRef .tc main_while0b_call4_v0 : DevRef τ sig).ty.Contents (Elt F)) = Cert.ReferenceIdeal.Step.b46 j s := by
  unfold Cert.ReferenceIdeal.Step.b46
  rw [← al_45 h, h.n_15]
  try rfl
set_option maxRecDepth 8192 in
theorem al_47 (h : Holds V0 s j) : (id (V0 (Proc.devRef .tc main_v13_15)) : (Proc.devRef .tc main_while0b_call4_v1 : DevRef τ sig).ty.Contents (Elt F)) = Cert.ReferenceIdeal.Step.b47 j s := by
  unfold Cert.ReferenceIdeal.Step.b47
  rw [h.n_15]
  try rfl
set_option maxRecDepth 8192 in
theorem al_48 (h : Holds V0 s j) : (constantI S_ 32 8192#32 : (Proc.devRef .tc main_while0b_call4_c_0 : DevRef τ sig).ty.Contents (Elt F)) = Cert.ReferenceIdeal.Step.b48 j s := by
  unfold Cert.ReferenceIdeal.Step.b48
  rfl
set_option maxRecDepth 8192 in
theorem al_49 (h : Holds V0 s j) : (addi (id (V0 (Proc.devRef .tc main_v13_15))) (constantI S_ 32 8192#32) : (Proc.devRef .tc main_while0b_call4_v2 : DevRef τ sig).ty.Contents (Elt F)) = Cert.ReferenceIdeal.Step.b49 j s := by
  unfold Cert.ReferenceIdeal.Step.b49
  rw [← al_47 h, ← al_48 h]
  try rfl
set_option maxRecDepth 8192 in
theorem al_50 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call4_v3 : DevRef τ sig).ty.Contents (Elt F)) = Cert.ReferenceIdeal.Step.b50 j s := by
  unfold Cert.ReferenceIdeal.Step.b50
  rw [← al_46 h, ← al_49 h, h.n_15]
  try rfl
set_option maxRecDepth 8192 in
theorem al_51 (h : Holds V0 s j) : (constantI S_ 32 0#32 : (Proc.devRef .tc main_while0b_call4_c_1 : DevRef τ sig).ty.Contents (Elt F)) = Cert.ReferenceIdeal.Step.b51 j s := by
  unfold Cert.ReferenceIdeal.Step.b51
  rfl
set_option maxRecDepth 8192 in
theorem al_52 (h : Holds V0 s j) : (constantI S_ 32 0#32 : (Proc.devRef .tc main_while0b_call4_c_2 : DevRef τ sig).ty.Contents (Elt F)) = Cert.ReferenceIdeal.Step.b52 j s := by
  unfold Cert.ReferenceIdeal.Step.b52
  rfl
set_option maxRecDepth 8192 in
theorem al_53 (h : Holds V0 s j) : (Host.dynamicSlice S4x1x8 (V0 (Proc.devRef .tc main_v13_4)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8 : (Proc.devRef .tc main_while0b_call4_v4 : DevRef τ sig).ty.Contents (Elt F)) = Cert.ReferenceIdeal.Step.b53 j s := by
  unfold Cert.ReferenceIdeal.Step.b53
  rw [← al_51 h, ← al_50 h, ← al_52 h, h.f_4]
  try rfl
set_option maxRecDepth 8192 in
theorem al_54 (h : Holds V0 s j) : (shapeCast S4x8 (Host.dynamicSlice S4x1x8 (V0 (Proc.devRef .tc main_v13_4)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8 : (Proc.devRef .tc main_while0b_v19 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (Host.exp (shapeCast S4x8 (Host.dynamicSlice S4x1x8 (V0 (Proc.devRef .tc main_v13_3)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8) : (Proc.devRef .tc main_while0b_v20 : DevRef τ sig).ty.Contents (Elt F)) = Cert.ReferenceIdeal.Step.b55 j s := by
  unfold Cert.ReferenceIdeal.Step.b55
  rw [← al_44 h]
  try rfl
set_option maxRecDepth 8192 in
theorem al_56 (h : Holds V0 s j) : (broadcastInDim S4x8x1x1 ![0, 1] bcast_S4x8_S4x8x1x1_0_1 (Host.exp (shapeCast S4x8 (Host.dynamicSlice S4x1x8 (V0 (Proc.devRef .tc main_v13_3)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8)) : (Proc.devRef .tc main_while0b_v21 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (broadcastInDim S4x8x128x128 ![0, 1, 2, 3] bcast_S4x8x1x1_S4x8x128x128_0_1_2_3 (broadcastInDim S4x8x1x1 ![0, 1] bcast_S4x8_S4x8x1x1_0_1 (Host.exp (shapeCast S4x8 (Host.dynamicSlice S4x1x8 (V0 (Proc.devRef .tc main_v13_3)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8))) : (Proc.devRef .tc main_while0b_v22 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (res_main_while0b_v23 V0 : (Proc.devRef .tc main_while0b_v23 : DevRef τ sig).ty.Contents (Elt F)) = Cert.ReferenceIdeal.Step.b58 j s := by
  unfold res_main_while0b_v23 Cert.ReferenceIdeal.Step.b58
  rw [← al_57 h, h.f_16]
  try rfl
set_option maxRecDepth 8192 in
theorem al_59 (h : Holds V0 s j) : (broadcastInDim S4x8x1 ![0, 1] bcast_S4x8_S4x8x1_0_1 (shapeCast S4x8 (Host.dynamicSlice S4x1x8 (V0 (Proc.devRef .tc main_v13_4)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8) : (Proc.devRef .tc main_while0b_v24 : DevRef τ sig).ty.Contents (Elt F)) = Cert.ReferenceIdeal.Step.b59 j s := by
  unfold Cert.ReferenceIdeal.Step.b59
  rw [← al_54 h]
  try rfl
set_option maxRecDepth 8192 in
theorem al_60 (h : Holds V0 s j) : (Host.dotGeneral dot_S4x8x128_S4x8x128x128_S4x8x128_2_2_n_3_01_01 none (res_main_while0b_v16 V0) (res_main_while0b_v23 V0) : (Proc.devRef .tc main_while0b_v25 : DevRef τ sig).ty.Contents (Elt F)) = Cert.ReferenceIdeal.Step.b60 j s := by
  unfold Cert.ReferenceIdeal.Step.b60
  rw [← al_23 h, ← al_58 h]
  try rfl
set_option maxRecDepth 8192 in
theorem al_61 (h : Holds V0 s j) : (subf (shapeCast S4x8x128 (Host.dynamicSlice S4x1x8x128 (V0 (Proc.devRef .tc main_v13_2)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128) shapeCasts_S4x1x8x128_S4x8x128) (Host.dotGeneral dot_S4x8x128_S4x8x128x128_S4x8x128_2_2_n_3_01_01 none (res_main_while0b_v16 V0) (res_main_while0b_v23 V0)) : (Proc.devRef .tc main_while0b_v26 : DevRef τ sig).ty.Contents (Elt F)) = Cert.ReferenceIdeal.Step.b61 j s := by
  unfold Cert.ReferenceIdeal.Step.b61
  rw [← al_34 h, ← al_60 h]
  try rfl
set_option maxRecDepth 8192 in
theorem al_62 (h : Holds V0 s j) : (broadcastInDim S4x8x128 ![0, 1, 2] bcast_S4x8x1_S4x8x128_0_1_2 (broadcastInDim S4x8x1 ![0, 1] bcast_S4x8_S4x8x1_0_1 (shapeCast S4x8 (Host.dynamicSlice S4x1x8 (V0 (Proc.devRef .tc main_v13_4)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8)) : (Proc.devRef .tc main_while0b_v27 : DevRef τ sig).ty.Contents (Elt F)) = Cert.ReferenceIdeal.Step.b62 j s := by
  unfold Cert.ReferenceIdeal.Step.b62
  rw [← al_59 h]
  try rfl
set_option maxRecDepth 8192 in
theorem al_63 (h : Holds V0 s j) : (mulf (broadcastInDim S4x8x128 ![0, 1, 2] bcast_S4x8x1_S4x8x128_0_1_2 (broadcastInDim S4x8x1 ![0, 1] bcast_S4x8_S4x8x1_0_1 (shapeCast S4x8 (Host.dynamicSlice S4x1x8 (V0 (Proc.devRef .tc main_v13_4)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8))) (subf (shapeCast S4x8x128 (Host.dynamicSlice S4x1x8x128 (V0 (Proc.devRef .tc main_v13_2)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128) shapeCasts_S4x1x8x128_S4x8x128) (Host.dotGeneral dot_S4x8x128_S4x8x128x128_S4x8x128_2_2_n_3_01_01 none (res_main_while0b_v16 V0) (res_main_while0b_v23 V0))) : (Proc.devRef .tc main_while0b_v28 : DevRef τ sig).ty.Contents (Elt F)) = Cert.ReferenceIdeal.Step.b63 j s := by
  unfold Cert.ReferenceIdeal.Step.b63
  rw [← al_62 h, ← al_61 h]
  try rfl
set_option maxRecDepth 8192 in
theorem al_64 (h : Holds V0 s j) : (broadcastInDim S4x8x128x1 ![0, 1, 2] bcast_S4x8x128_S4x8x128x1_0_1_2 (res_main_while0b_v16 V0) : (Proc.devRef .tc main_while0b_v29 : DevRef τ sig).ty.Contents (Elt F)) = Cert.ReferenceIdeal.Step.b64 j s := by
  unfold Cert.ReferenceIdeal.Step.b64
  rw [← al_23 h]
  try rfl
set_option maxRecDepth 8192 in
theorem al_65 (h : Holds V0 s j) : (broadcastInDim S4x8x1x128 ![0, 1, 3] bcast_S4x8x128_S4x8x1x128_0_1_3 (mulf (broadcastInDim S4x8x128 ![0, 1, 2] bcast_S4x8x1_S4x8x128_0_1_2 (broadcastInDim S4x8x1 ![0, 1] bcast_S4x8_S4x8x1_0_1 (shapeCast S4x8 (Host.dynamicSlice S4x1x8 (V0 (Proc.devRef .tc main_v13_4)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8))) (subf (shapeCast S4x8x128 (Host.dynamicSlice S4x1x8x128 (V0 (Proc.devRef .tc main_v13_2)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128) shapeCasts_S4x1x8x128_S4x8x128) (Host.dotGeneral dot_S4x8x128_S4x8x128x128_S4x8x128_2_2_n_3_01_01 none (res_main_while0b_v16 V0) (res_main_while0b_v23 V0)))) : (Proc.devRef .tc main_while0b_v30 : DevRef τ sig).ty.Contents (Elt F)) = Cert.ReferenceIdeal.Step.b65 j s := by
  unfold Cert.ReferenceIdeal.Step.b65
  rw [← al_63 h]
  try rfl
set_option maxRecDepth 8192 in
theorem al_66 (h : Holds V0 s j) : (broadcastInDim S4x8x128x128 ![0, 1, 2, 3] bcast_S4x8x128x1_S4x8x128x128_0_1_2_3 (broadcastInDim S4x8x128x1 ![0, 1, 2] bcast_S4x8x128_S4x8x128x1_0_1_2 (res_main_while0b_v16 V0)) : (Proc.devRef .tc main_while0b_v31 : DevRef τ sig).ty.Contents (Elt F)) = Cert.ReferenceIdeal.Step.b66 j s := by
  unfold Cert.ReferenceIdeal.Step.b66
  rw [← al_64 h]
  try rfl
set_option maxRecDepth 8192 in
theorem al_67 (h : Holds V0 s j) : (broadcastInDim S4x8x128x128 ![0, 1, 2, 3] bcast_S4x8x1x128_S4x8x128x128_0_1_2_3 (broadcastInDim S4x8x1x128 ![0, 1, 3] bcast_S4x8x128_S4x8x1x128_0_1_3 (mulf (broadcastInDim S4x8x128 ![0, 1, 2] bcast_S4x8x1_S4x8x128_0_1_2 (broadcastInDim S4x8x1 ![0, 1] bcast_S4x8_S4x8x1_0_1 (shapeCast S4x8 (Host.dynamicSlice S4x1x8 (V0 (Proc.devRef .tc main_v13_4)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8))) (subf (shapeCast S4x8x128 (Host.dynamicSlice S4x1x8x128 (V0 (Proc.devRef .tc main_v13_2)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128) shapeCasts_S4x1x8x128_S4x8x128) (Host.dotGeneral dot_S4x8x128_S4x8x128x128_S4x8x128_2_2_n_3_01_01 none (res_main_while0b_v16 V0) (res_main_while0b_v23 V0))))) : (Proc.devRef .tc main_while0b_v32 : DevRef τ sig).ty.Contents (Elt F)) = Cert.ReferenceIdeal.Step.b67 j s := by
  unfold Cert.ReferenceIdeal.Step.b67
  rw [← al_65 h]
  try rfl
set_option maxRecDepth 8192 in
theorem al_68 (h : Holds V0 s j) : (mulf (broadcastInDim S4x8x128x128 ![0, 1, 2, 3] bcast_S4x8x128x1_S4x8x128x128_0_1_2_3 (broadcastInDim S4x8x128x1 ![0, 1, 2] bcast_S4x8x128_S4x8x128x1_0_1_2 (res_main_while0b_v16 V0))) (broadcastInDim S4x8x128x128 ![0, 1, 2, 3] bcast_S4x8x1x128_S4x8x128x128_0_1_2_3 (broadcastInDim S4x8x1x128 ![0, 1, 3] bcast_S4x8x128_S4x8x1x128_0_1_3 (mulf (broadcastInDim S4x8x128 ![0, 1, 2] bcast_S4x8x1_S4x8x128_0_1_2 (broadcastInDim S4x8x1 ![0, 1] bcast_S4x8_S4x8x1_0_1 (shapeCast S4x8 (Host.dynamicSlice S4x1x8 (V0 (Proc.devRef .tc main_v13_4)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x8_S4x1x8) shapeCasts_S4x1x8_S4x8))) (subf (shapeCast S4x8x128 (Host.dynamicSlice S4x1x8x128 (V0 (Proc.devRef .tc main_v13_2)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32, constantI S_ 32 0#32] : Fin 4 → (⟨S_, .i32⟩ : BufTy).Contents (Elt F))) k (Shape.Idx.first h_S_)).toInt) sliceFits_S4x8192x8x128_S4x1x8x128) shapeCasts_S4x1x8x128_S4x8x128) (Host.dotGeneral dot_S4x8x128_S4x8x128x128_S4x8x128_2_2_n_3_01_01 none (res_main_while0b_v16 V0) (res_main_while0b_v23 V0)))))) : (Proc.devRef .tc main_while0b_v33 : DevRef τ sig).ty.Contents (Elt F)) = Cert.ReferenceIdeal.Step.b68 j s := by
  unfold Cert.ReferenceIdeal.Step.b68
  rw [← al_66 h, ← al_67 h]
  try rfl
set_option maxRecDepth 8192 in
theorem al_69 (h : Holds V0 s j) : (res_main_while0b_v34 V0 : (Proc.devRef .tc main_while0b_v34 : DevRef τ sig).ty.Contents (Elt F)) = Cert.ReferenceIdeal.Step.b69 j s := by
  unfold res_main_while0b_v34 Cert.ReferenceIdeal.Step.b69
  rw [← al_58 h, ← al_68 h]
  try rfl
set_option maxRecDepth 8192 in
theorem al_70 (h : Holds V0 s j) : (res_main_while0b_v35 V0 : (Proc.devRef .tc main_while0b_v35 : DevRef τ sig).ty.Contents (Elt F)) = Cert.ReferenceIdeal.Step.b70 j s := by
  unfold res_main_while0b_v35 Cert.ReferenceIdeal.Step.b70
  rw [← al_12 h, ← al_69 h]
  try rfl
set_option maxRecDepth 8192 in
theorem al_71 (h : Holds V0 s j) : (mulf (res_main_while0b_v35 V0) (res_main_while0b_v35 V0) : (Proc.devRef .tc main_while0b_v36 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (constant S_ .f32 0x00000000#32 : (Proc.devRef .tc main_while0b_cst_20 : DevRef τ sig).ty.Contents (Elt F)) = Cert.ReferenceIdeal.Step.b72 j s := by
  unfold Cert.ReferenceIdeal.Step.b72
  rfl
set_option maxRecDepth 8192 in
theorem al_73 (h : Holds V0 s j) : (Host.reduceAdd (mulf (res_main_while0b_v35 V0) (res_main_while0b_v35 V0)) (constant S_ .f32 0x00000000#32) reducesTo_S4x8x128_S4x8_d2 h_S_ : (Proc.devRef .tc main_while0b_v37 : DevRef τ sig).ty.Contents (Elt F)) = Cert.ReferenceIdeal.Step.b73 j s := by
  unfold Cert.ReferenceIdeal.Step.b73
  rw [← al_71 h, ← al_72 h]
  try rfl
set_option maxRecDepth 8192 in
theorem al_74 (h : Holds V0 s j) : (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_) : (Proc.devRef .tc main_while0b_v38 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (constant S_ .f32 0x43000000#32 : (Proc.devRef .tc main_while0b_cst_21 : DevRef τ sig).ty.Contents (Elt F)) = Cert.ReferenceIdeal.Step.b75 j s := by
  unfold Cert.ReferenceIdeal.Step.b75
  rfl
set_option maxRecDepth 8192 in
theorem al_76 (h : Holds V0 s j) : (broadcastInDim S4x8x1 ![] bcast_S_S4x8x1 (constant S_ .f32 0x43000000#32) : (Proc.devRef .tc main_while0b_v39 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32)) : (Proc.devRef .tc main_while0b_v40 : DevRef τ sig).ty.Contents (Elt F)) = Cert.ReferenceIdeal.Step.b77 j s := by
  unfold Cert.ReferenceIdeal.Step.b77
  rw [← al_74 h, ← al_76 h]
  try rfl
set_option maxRecDepth 8192 in
theorem al_78 (h : Holds V0 s j) : (constant S_ .f32 0x358637BD#32 : (Proc.devRef .tc main_while0b_cst_22 : DevRef τ sig).ty.Contents (Elt F)) = Cert.ReferenceIdeal.Step.b78 j s := by
  unfold Cert.ReferenceIdeal.Step.b78
  rfl
set_option maxRecDepth 8192 in
theorem al_79 (h : Holds V0 s j) : (broadcastInDim S4x8x1 ![] bcast_S_S4x8x1 (constant S_ .f32 0x358637BD#32) : (Proc.devRef .tc main_while0b_v41 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)) : (Proc.devRef .tc main_while0b_v42 : DevRef τ sig).ty.Contents (Elt F)) = Cert.ReferenceIdeal.Step.b80 j s := by
  unfold Cert.ReferenceIdeal.Step.b80
  rw [← al_77 h, ← al_79 h]
  try rfl
set_option maxRecDepth 8192 in
theorem al_81 (h : Holds V0 s j) : (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32))) : (Proc.devRef .tc main_while0b_v43 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)))) : (Proc.devRef .tc main_while0b_v44 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (mulf (res_main_while0b_v35 V0) (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32))))) : (Proc.devRef .tc main_while0b_v45 : DevRef τ sig).ty.Contents (Elt F)) = Cert.ReferenceIdeal.Step.b83 j s := by
  unfold Cert.ReferenceIdeal.Step.b83
  rw [← al_70 h, ← al_82 h]
  try rfl
set_option maxRecDepth 8192 in
theorem al_84 (h : Holds V0 s j) : (broadcastInDim S1x1x128 ![2] bcast_S128_S1x1x128_2 (V0 (Proc.devRef .tc main_v13_5)) : (Proc.devRef .tc main_while0b_v46 : DevRef τ sig).ty.Contents (Elt F)) = Cert.ReferenceIdeal.Step.b84 j s := by
  unfold Cert.ReferenceIdeal.Step.b84
  rw [h.f_5]
  try rfl
set_option maxRecDepth 8192 in
theorem al_85 (h : Holds V0 s j) : (broadcastInDim S4x8x128 ![0, 1, 2] bcast_S1x1x128_S4x8x128_0_1_2 (broadcastInDim S1x1x128 ![2] bcast_S128_S1x1x128_2 (V0 (Proc.devRef .tc main_v13_5))) : (Proc.devRef .tc main_while0b_v47 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (mulf (mulf (res_main_while0b_v35 V0) (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)))))) (broadcastInDim S4x8x128 ![0, 1, 2] bcast_S1x1x128_S4x8x128_0_1_2 (broadcastInDim S1x1x128 ![2] bcast_S128_S1x1x128_2 (V0 (Proc.devRef .tc main_v13_5)))) : (Proc.devRef .tc main_while0b_v48 : DevRef τ sig).ty.Contents (Elt F)) = Cert.ReferenceIdeal.Step.b86 j s := by
  unfold Cert.ReferenceIdeal.Step.b86
  rw [← al_83 h, ← al_85 h]
  try rfl
set_option maxRecDepth 8192 in
theorem al_87 (h : Holds V0 s j) : (shapeCast S4x1024 (mulf (mulf (res_main_while0b_v35 V0) (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)))))) (broadcastInDim S4x8x128 ![0, 1, 2] bcast_S1x1x128_S4x8x128_0_1_2 (broadcastInDim S1x1x128 ![2] bcast_S128_S1x1x128_2 (V0 (Proc.devRef .tc main_v13_5))))) shapeCasts_S4x8x128_S4x1024 : (Proc.devRef .tc main_while0b_v49 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (constantI S_ 32 0#32 : (Proc.devRef .tc main_while0b_call5_c : DevRef τ sig).ty.Contents (Elt F)) = Cert.ReferenceIdeal.Step.b88 j s := by
  unfold Cert.ReferenceIdeal.Step.b88
  rfl
set_option maxRecDepth 8192 in
theorem al_89 (h : Holds V0 s j) : (cmpi .slt (V0 (Proc.devRef .tc main_v13_15)) (constantI S_ 32 0#32) : (Proc.devRef .tc main_while0b_call5_v0 : DevRef τ sig).ty.Contents (Elt F)) = Cert.ReferenceIdeal.Step.b89 j s := by
  unfold Cert.ReferenceIdeal.Step.b89
  rw [← al_88 h, h.n_15]
  try rfl
set_option maxRecDepth 8192 in
theorem al_90 (h : Holds V0 s j) : (id (V0 (Proc.devRef .tc main_v13_15)) : (Proc.devRef .tc main_while0b_call5_v1 : DevRef τ sig).ty.Contents (Elt F)) = Cert.ReferenceIdeal.Step.b90 j s := by
  unfold Cert.ReferenceIdeal.Step.b90
  rw [h.n_15]
  try rfl
set_option maxRecDepth 8192 in
theorem al_91 (h : Holds V0 s j) : (constantI S_ 32 8192#32 : (Proc.devRef .tc main_while0b_call5_c_0 : DevRef τ sig).ty.Contents (Elt F)) = Cert.ReferenceIdeal.Step.b91 j s := by
  unfold Cert.ReferenceIdeal.Step.b91
  rfl
set_option maxRecDepth 8192 in
theorem al_92 (h : Holds V0 s j) : (addi (id (V0 (Proc.devRef .tc main_v13_15))) (constantI S_ 32 8192#32) : (Proc.devRef .tc main_while0b_call5_v2 : DevRef τ sig).ty.Contents (Elt F)) = Cert.ReferenceIdeal.Step.b92 j s := by
  unfold Cert.ReferenceIdeal.Step.b92
  rw [← al_90 h, ← al_91 h]
  try rfl
set_option maxRecDepth 8192 in
theorem al_93 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call5_v3 : DevRef τ sig).ty.Contents (Elt F)) = Cert.ReferenceIdeal.Step.b93 j s := by
  unfold Cert.ReferenceIdeal.Step.b93
  rw [← al_89 h, ← al_92 h, h.n_15]
  try rfl
set_option maxRecDepth 8192 in
theorem al_94 (h : Holds V0 s j) : (constantI S_ 32 0#32 : (Proc.devRef .tc main_while0b_call5_c_1 : DevRef τ sig).ty.Contents (Elt F)) = Cert.ReferenceIdeal.Step.b94 j s := by
  unfold Cert.ReferenceIdeal.Step.b94
  rfl
set_option maxRecDepth 8192 in
theorem al_95 (h : Holds V0 s j) : (constantI S_ 32 0#32 : (Proc.devRef .tc main_while0b_call5_c_2 : DevRef τ sig).ty.Contents (Elt F)) = Cert.ReferenceIdeal.Step.b95 j s := by
  unfold Cert.ReferenceIdeal.Step.b95
  rfl
set_option maxRecDepth 8192 in
theorem al_96 (h : Holds V0 s j) : (Host.dynamicSlice S4x1x1024 (V0 (Proc.devRef .tc main_v13_6)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024 : (Proc.devRef .tc main_while0b_call5_v4 : DevRef τ sig).ty.Contents (Elt F)) = Cert.ReferenceIdeal.Step.b96 j s := by
  unfold Cert.ReferenceIdeal.Step.b96
  rw [← al_94 h, ← al_93 h, ← al_95 h, h.f_6]
  try rfl
set_option maxRecDepth 8192 in
theorem al_97 (h : Holds V0 s j) : (shapeCast S4x1024 (Host.dynamicSlice S4x1x1024 (V0 (Proc.devRef .tc main_v13_6)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024 : (Proc.devRef .tc main_while0b_v50 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (mulf (shapeCast S4x1024 (mulf (mulf (res_main_while0b_v35 V0) (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)))))) (broadcastInDim S4x8x128 ![0, 1, 2] bcast_S1x1x128_S4x8x128_0_1_2 (broadcastInDim S1x1x128 ![2] bcast_S128_S1x1x128_2 (V0 (Proc.devRef .tc main_v13_5))))) shapeCasts_S4x8x128_S4x1024) (shapeCast S4x1024 (Host.dynamicSlice S4x1x1024 (V0 (Proc.devRef .tc main_v13_6)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024) : (Proc.devRef .tc main_while0b_v51 : DevRef τ sig).ty.Contents (Elt F)) = Cert.ReferenceIdeal.Step.b98 j s := by
  unfold Cert.ReferenceIdeal.Step.b98
  rw [← al_87 h, ← al_97 h]
  try rfl
set_option maxRecDepth 8192 in
theorem al_99 (h : Holds V0 s j) : (constantI S_ 32 0#32 : (Proc.devRef .tc main_while0b_call6_c : DevRef τ sig).ty.Contents (Elt F)) = Cert.ReferenceIdeal.Step.b99 j s := by
  unfold Cert.ReferenceIdeal.Step.b99
  rfl
set_option maxRecDepth 8192 in
theorem al_100 (h : Holds V0 s j) : (cmpi .slt (V0 (Proc.devRef .tc main_v13_15)) (constantI S_ 32 0#32) : (Proc.devRef .tc main_while0b_call6_v0 : DevRef τ sig).ty.Contents (Elt F)) = Cert.ReferenceIdeal.Step.b100 j s := by
  unfold Cert.ReferenceIdeal.Step.b100
  rw [← al_99 h, h.n_15]
  try rfl
set_option maxRecDepth 8192 in
theorem al_101 (h : Holds V0 s j) : (id (V0 (Proc.devRef .tc main_v13_15)) : (Proc.devRef .tc main_while0b_call6_v1 : DevRef τ sig).ty.Contents (Elt F)) = Cert.ReferenceIdeal.Step.b101 j s := by
  unfold Cert.ReferenceIdeal.Step.b101
  rw [h.n_15]
  try rfl
set_option maxRecDepth 8192 in
theorem al_102 (h : Holds V0 s j) : (constantI S_ 32 8192#32 : (Proc.devRef .tc main_while0b_call6_c_0 : DevRef τ sig).ty.Contents (Elt F)) = Cert.ReferenceIdeal.Step.b102 j s := by
  unfold Cert.ReferenceIdeal.Step.b102
  rfl
set_option maxRecDepth 8192 in
theorem al_103 (h : Holds V0 s j) : (addi (id (V0 (Proc.devRef .tc main_v13_15))) (constantI S_ 32 8192#32) : (Proc.devRef .tc main_while0b_call6_v2 : DevRef τ sig).ty.Contents (Elt F)) = Cert.ReferenceIdeal.Step.b103 j s := by
  unfold Cert.ReferenceIdeal.Step.b103
  rw [← al_101 h, ← al_102 h]
  try rfl
set_option maxRecDepth 8192 in
theorem al_104 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call6_v3 : DevRef τ sig).ty.Contents (Elt F)) = Cert.ReferenceIdeal.Step.b104 j s := by
  unfold Cert.ReferenceIdeal.Step.b104
  rw [← al_100 h, ← al_103 h, h.n_15]
  try rfl
set_option maxRecDepth 8192 in
theorem al_105 (h : Holds V0 s j) : (constantI S_ 32 0#32 : (Proc.devRef .tc main_while0b_call6_c_1 : DevRef τ sig).ty.Contents (Elt F)) = Cert.ReferenceIdeal.Step.b105 j s := by
  unfold Cert.ReferenceIdeal.Step.b105
  rfl
set_option maxRecDepth 8192 in
theorem al_106 (h : Holds V0 s j) : (constantI S_ 32 0#32 : (Proc.devRef .tc main_while0b_call6_c_2 : DevRef τ sig).ty.Contents (Elt F)) = Cert.ReferenceIdeal.Step.b106 j s := by
  unfold Cert.ReferenceIdeal.Step.b106
  rfl
set_option maxRecDepth 8192 in
theorem al_107 (h : Holds V0 s j) : (Host.dynamicSlice S4x1x1024 (V0 (Proc.devRef .tc main_v13_7)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024 : (Proc.devRef .tc main_while0b_call6_v4 : DevRef τ sig).ty.Contents (Elt F)) = Cert.ReferenceIdeal.Step.b107 j s := by
  unfold Cert.ReferenceIdeal.Step.b107
  rw [← al_105 h, ← al_104 h, ← al_106 h, h.f_7]
  try rfl
set_option maxRecDepth 8192 in
theorem al_108 (h : Holds V0 s j) : (shapeCast S4x1024 (Host.dynamicSlice S4x1x1024 (V0 (Proc.devRef .tc main_v13_7)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024 : (Proc.devRef .tc main_while0b_v52 : DevRef τ sig).ty.Contents (Elt F)) = Cert.ReferenceIdeal.Step.b108 j s := by
  unfold Cert.ReferenceIdeal.Step.b108
  rw [← al_107 h]
  try rfl
set_option maxRecDepth 8192 in
theorem al_109 (h : Holds V0 s j) : (constantI S_ 32 0#32 : (Proc.devRef .tc main_while0b_call7_c : DevRef τ sig).ty.Contents (Elt F)) = Cert.ReferenceIdeal.Step.b109 j s := by
  unfold Cert.ReferenceIdeal.Step.b109
  rfl
set_option maxRecDepth 8192 in
theorem al_110 (h : Holds V0 s j) : (cmpi .slt (V0 (Proc.devRef .tc main_v13_15)) (constantI S_ 32 0#32) : (Proc.devRef .tc main_while0b_call7_v0 : DevRef τ sig).ty.Contents (Elt F)) = Cert.ReferenceIdeal.Step.b110 j s := by
  unfold Cert.ReferenceIdeal.Step.b110
  rw [← al_109 h, h.n_15]
  try rfl
set_option maxRecDepth 8192 in
theorem al_111 (h : Holds V0 s j) : (id (V0 (Proc.devRef .tc main_v13_15)) : (Proc.devRef .tc main_while0b_call7_v1 : DevRef τ sig).ty.Contents (Elt F)) = Cert.ReferenceIdeal.Step.b111 j s := by
  unfold Cert.ReferenceIdeal.Step.b111
  rw [h.n_15]
  try rfl
set_option maxRecDepth 8192 in
theorem al_112 (h : Holds V0 s j) : (constantI S_ 32 8192#32 : (Proc.devRef .tc main_while0b_call7_c_0 : DevRef τ sig).ty.Contents (Elt F)) = Cert.ReferenceIdeal.Step.b112 j s := by
  unfold Cert.ReferenceIdeal.Step.b112
  rfl
set_option maxRecDepth 8192 in
theorem al_113 (h : Holds V0 s j) : (addi (id (V0 (Proc.devRef .tc main_v13_15))) (constantI S_ 32 8192#32) : (Proc.devRef .tc main_while0b_call7_v2 : DevRef τ sig).ty.Contents (Elt F)) = Cert.ReferenceIdeal.Step.b113 j s := by
  unfold Cert.ReferenceIdeal.Step.b113
  rw [← al_111 h, ← al_112 h]
  try rfl
set_option maxRecDepth 8192 in
theorem al_114 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call7_v3 : DevRef τ sig).ty.Contents (Elt F)) = Cert.ReferenceIdeal.Step.b114 j s := by
  unfold Cert.ReferenceIdeal.Step.b114
  rw [← al_110 h, ← al_113 h, h.n_15]
  try rfl
set_option maxRecDepth 8192 in
theorem al_115 (h : Holds V0 s j) : (constantI S_ 32 0#32 : (Proc.devRef .tc main_while0b_call7_c_1 : DevRef τ sig).ty.Contents (Elt F)) = Cert.ReferenceIdeal.Step.b115 j s := by
  unfold Cert.ReferenceIdeal.Step.b115
  rfl
set_option maxRecDepth 8192 in
theorem al_116 (h : Holds V0 s j) : (constantI S_ 32 0#32 : (Proc.devRef .tc main_while0b_call7_c_2 : DevRef τ sig).ty.Contents (Elt F)) = Cert.ReferenceIdeal.Step.b116 j s := by
  unfold Cert.ReferenceIdeal.Step.b116
  rfl
set_option maxRecDepth 8192 in
theorem al_117 (h : Holds V0 s j) : (Host.dynamicSlice S4x1x1024 (V0 (Proc.devRef .tc main_v13_8)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024 : (Proc.devRef .tc main_while0b_call7_v4 : DevRef τ sig).ty.Contents (Elt F)) = Cert.ReferenceIdeal.Step.b117 j s := by
  unfold Cert.ReferenceIdeal.Step.b117
  rw [← al_115 h, ← al_114 h, ← al_116 h, h.f_8]
  try rfl
set_option maxRecDepth 8192 in
theorem al_118 (h : Holds V0 s j) : (shapeCast S4x1024 (Host.dynamicSlice S4x1x1024 (V0 (Proc.devRef .tc main_v13_8)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024 : (Proc.devRef .tc main_while0b_v53 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (Host.dotGeneral dot_S4x1024_S1024x1024_S4x1024_1_0_0_1_n_n none (mulf (shapeCast S4x1024 (mulf (mulf (res_main_while0b_v35 V0) (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)))))) (broadcastInDim S4x8x128 ![0, 1, 2] bcast_S1x1x128_S4x8x128_0_1_2 (broadcastInDim S1x1x128 ![2] bcast_S128_S1x1x128_2 (V0 (Proc.devRef .tc main_v13_5))))) shapeCasts_S4x8x128_S4x1024) (shapeCast S4x1024 (Host.dynamicSlice S4x1x1024 (V0 (Proc.devRef .tc main_v13_6)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024)) (V0 (Proc.devRef .tc main_v13_9)) : (Proc.devRef .tc main_while0b_v54 : DevRef τ sig).ty.Contents (Elt F)) = Cert.ReferenceIdeal.Step.b119 j s := by
  unfold Cert.ReferenceIdeal.Step.b119
  rw [← al_98 h, h.f_9]
  try rfl
set_option maxRecDepth 8192 in
theorem al_120 (h : Holds V0 s j) : (mulf (shapeCast S4x1024 (Host.dynamicSlice S4x1x1024 (V0 (Proc.devRef .tc main_v13_8)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024) (Host.dotGeneral dot_S4x1024_S1024x1024_S4x1024_1_0_0_1_n_n none (mulf (shapeCast S4x1024 (mulf (mulf (res_main_while0b_v35 V0) (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)))))) (broadcastInDim S4x8x128 ![0, 1, 2] bcast_S1x1x128_S4x8x128_0_1_2 (broadcastInDim S1x1x128 ![2] bcast_S128_S1x1x128_2 (V0 (Proc.devRef .tc main_v13_5))))) shapeCasts_S4x8x128_S4x1024) (shapeCast S4x1024 (Host.dynamicSlice S4x1x1024 (V0 (Proc.devRef .tc main_v13_6)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024)) (V0 (Proc.devRef .tc main_v13_9))) : (Proc.devRef .tc main_while0b_v55 : DevRef τ sig).ty.Contents (Elt F)) = Cert.ReferenceIdeal.Step.b120 j s := by
  unfold Cert.ReferenceIdeal.Step.b120
  rw [← al_118 h, ← al_119 h]
  try rfl
set_option maxRecDepth 8192 in
theorem al_121 (h : Holds V0 s j) : (addf (shapeCast S4x1024 (Host.dynamicSlice S4x1x1024 (V0 (Proc.devRef .tc main_v13_7)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024) (mulf (shapeCast S4x1024 (Host.dynamicSlice S4x1x1024 (V0 (Proc.devRef .tc main_v13_8)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024) (Host.dotGeneral dot_S4x1024_S1024x1024_S4x1024_1_0_0_1_n_n none (mulf (shapeCast S4x1024 (mulf (mulf (res_main_while0b_v35 V0) (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)))))) (broadcastInDim S4x8x128 ![0, 1, 2] bcast_S1x1x128_S4x8x128_0_1_2 (broadcastInDim S1x1x128 ![2] bcast_S128_S1x1x128_2 (V0 (Proc.devRef .tc main_v13_5))))) shapeCasts_S4x8x128_S4x1024) (shapeCast S4x1024 (Host.dynamicSlice S4x1x1024 (V0 (Proc.devRef .tc main_v13_6)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024)) (V0 (Proc.devRef .tc main_v13_9)))) : (Proc.devRef .tc main_while0b_v56 : DevRef τ sig).ty.Contents (Elt F)) = Cert.ReferenceIdeal.Step.b121 j s := by
  unfold Cert.ReferenceIdeal.Step.b121
  rw [← al_108 h, ← al_120 h]
  try rfl
set_option maxRecDepth 8192 in
theorem al_122 (h : Holds V0 s j) : (constantI S_ 32 0#32 : (Proc.devRef .tc main_while0b_call8_c : DevRef τ sig).ty.Contents (Elt F)) = Cert.ReferenceIdeal.Step.b122 j s := by
  unfold Cert.ReferenceIdeal.Step.b122
  rfl
set_option maxRecDepth 8192 in
theorem al_123 (h : Holds V0 s j) : (cmpi .slt (V0 (Proc.devRef .tc main_v13_15)) (constantI S_ 32 0#32) : (Proc.devRef .tc main_while0b_call8_v0 : DevRef τ sig).ty.Contents (Elt F)) = Cert.ReferenceIdeal.Step.b123 j s := by
  unfold Cert.ReferenceIdeal.Step.b123
  rw [← al_122 h, h.n_15]
  try rfl
set_option maxRecDepth 8192 in
theorem al_124 (h : Holds V0 s j) : (id (V0 (Proc.devRef .tc main_v13_15)) : (Proc.devRef .tc main_while0b_call8_v1 : DevRef τ sig).ty.Contents (Elt F)) = Cert.ReferenceIdeal.Step.b124 j s := by
  unfold Cert.ReferenceIdeal.Step.b124
  rw [h.n_15]
  try rfl
set_option maxRecDepth 8192 in
theorem al_125 (h : Holds V0 s j) : (constantI S_ 32 8192#32 : (Proc.devRef .tc main_while0b_call8_c_0 : DevRef τ sig).ty.Contents (Elt F)) = Cert.ReferenceIdeal.Step.b125 j s := by
  unfold Cert.ReferenceIdeal.Step.b125
  rfl
set_option maxRecDepth 8192 in
theorem al_126 (h : Holds V0 s j) : (addi (id (V0 (Proc.devRef .tc main_v13_15))) (constantI S_ 32 8192#32) : (Proc.devRef .tc main_while0b_call8_v2 : DevRef τ sig).ty.Contents (Elt F)) = Cert.ReferenceIdeal.Step.b126 j s := by
  unfold Cert.ReferenceIdeal.Step.b126
  rw [← al_124 h, ← al_125 h]
  try rfl
set_option maxRecDepth 8192 in
theorem al_127 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call8_v3 : DevRef τ sig).ty.Contents (Elt F)) = Cert.ReferenceIdeal.Step.b127 j s := by
  unfold Cert.ReferenceIdeal.Step.b127
  rw [← al_123 h, ← al_126 h, h.n_15]
  try rfl
set_option maxRecDepth 8192 in
theorem al_128 (h : Holds V0 s j) : (constantI S_ 32 0#32 : (Proc.devRef .tc main_while0b_call8_c_1 : DevRef τ sig).ty.Contents (Elt F)) = Cert.ReferenceIdeal.Step.b128 j s := by
  unfold Cert.ReferenceIdeal.Step.b128
  rfl
set_option maxRecDepth 8192 in
theorem al_129 (h : Holds V0 s j) : (constantI S_ 32 0#32 : (Proc.devRef .tc main_while0b_call8_c_2 : DevRef τ sig).ty.Contents (Elt F)) = Cert.ReferenceIdeal.Step.b129 j s := by
  unfold Cert.ReferenceIdeal.Step.b129
  rfl
set_option maxRecDepth 8192 in
theorem al_130 (h : Holds V0 s j) : (Host.dynamicSlice S4x1x1024 (V0 (Proc.devRef .tc main_v13_10)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024 : (Proc.devRef .tc main_while0b_call8_v4 : DevRef τ sig).ty.Contents (Elt F)) = Cert.ReferenceIdeal.Step.b130 j s := by
  unfold Cert.ReferenceIdeal.Step.b130
  rw [← al_128 h, ← al_127 h, ← al_129 h, h.f_10]
  try rfl
set_option maxRecDepth 8192 in
theorem al_131 (h : Holds V0 s j) : (shapeCast S4x1024 (Host.dynamicSlice S4x1x1024 (V0 (Proc.devRef .tc main_v13_10)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024 : (Proc.devRef .tc main_while0b_v57 : DevRef τ sig).ty.Contents (Elt F)) = Cert.ReferenceIdeal.Step.b131 j s := by
  unfold Cert.ReferenceIdeal.Step.b131
  rw [← al_130 h]
  try rfl
set_option maxRecDepth 8192 in
theorem al_132 (h : Holds V0 s j) : (constant S_ .f32 0x3F9837F0#32 : (Proc.devRef .tc main_while0b_cst_23 : DevRef τ sig).ty.Contents (Elt F)) = Cert.ReferenceIdeal.Step.b132 j s := by
  unfold Cert.ReferenceIdeal.Step.b132
  rfl
set_option maxRecDepth 8192 in
theorem al_133 (h : Holds V0 s j) : (broadcastInDim S4x1024 ![] bcast_S_S4x1024 (constant S_ .f32 0x3F9837F0#32) : (Proc.devRef .tc main_while0b_v58 : DevRef τ sig).ty.Contents (Elt F)) = Cert.ReferenceIdeal.Step.b133 j s := by
  unfold Cert.ReferenceIdeal.Step.b133
  rw [← al_132 h]
  try rfl
set_option maxRecDepth 8192 in
theorem al_134 (h : Holds V0 s j) : (mulf (broadcastInDim S4x1024 ![] bcast_S_S4x1024 (constant S_ .f32 0x3F9837F0#32)) (shapeCast S4x1024 (Host.dynamicSlice S4x1x1024 (V0 (Proc.devRef .tc main_v13_10)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024) : (Proc.devRef .tc main_while0b_v59 : DevRef τ sig).ty.Contents (Elt F)) = Cert.ReferenceIdeal.Step.b134 j s := by
  unfold Cert.ReferenceIdeal.Step.b134
  rw [← al_133 h, ← al_131 h]
  try rfl
set_option maxRecDepth 8192 in
theorem al_135 (h : Holds V0 s j) : (Host.dotGeneral dot_S4x1024_S1024x1024_S4x1024_1_0_0_1_n_n none (addf (shapeCast S4x1024 (Host.dynamicSlice S4x1x1024 (V0 (Proc.devRef .tc main_v13_7)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024) (mulf (shapeCast S4x1024 (Host.dynamicSlice S4x1x1024 (V0 (Proc.devRef .tc main_v13_8)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024) (Host.dotGeneral dot_S4x1024_S1024x1024_S4x1024_1_0_0_1_n_n none (mulf (shapeCast S4x1024 (mulf (mulf (res_main_while0b_v35 V0) (broadcastInDim S4x8x128 ![0, 1, 2] bcast_S4x8x1_S4x8x128_0_1_2 (Host.rsqrt (addf (Host.divf (broadcastInDim S4x8x1 ![0, 1] bcast_S4x8_S4x8x1_0_1 (Host.reduceAdd (mulf (res_main_while0b_v35 V0) (res_main_while0b_v35 V0)) (constant S_ .f32 0x00000000#32) reducesTo_S4x8x128_S4x8_d2 h_S_)) (broadcastInDim S4x8x1 ![] bcast_S_S4x8x1 (constant S_ .f32 0x43000000#32))) (broadcastInDim S4x8x1 ![] bcast_S_S4x8x1 (constant S_ .f32 0x358637BD#32)))))) (broadcastInDim S4x8x128 ![0, 1, 2] bcast_S1x1x128_S4x8x128_0_1_2 (broadcastInDim S1x1x128 ![2] bcast_S128_S1x1x128_2 (V0 (Proc.devRef .tc main_v13_5))))) shapeCasts_S4x8x128_S4x1024) (shapeCast S4x1024 (Host.dynamicSlice S4x1x1024 (V0 (Proc.devRef .tc main_v13_6)) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) sliceFits_S4x8192x1024_S4x1x1024) shapeCasts_S4x1x1024_S4x1024)) (V0 (Proc.devRef .tc main_v13_9))))) (V0 (Proc.devRef .tc main_v13_11)) : (Proc.devRef .tc main_while0b_v60 : DevRef τ sig).ty.Contents (Elt F)) = Cert.ReferenceIdeal.Step.b135 j s := by
  unfold Cert.ReferenceIdeal.Step.b135
  rw [← al_121 h, h.f_11]
  try rfl
set_option maxRecDepth 8192 in
theorem al_136 (h : Holds V0 s j) : (res_main_while0b_v61 V0 : (Proc.devRef .tc main_while0b_v61 : DevRef τ sig).ty.Contents (Elt F)) = Cert.ReferenceIdeal.Step.b136 j s := by
  unfold res_main_while0b_v61 Cert.ReferenceIdeal.Step.b136
  rw [← al_134 h, ← al_135 h]
  try rfl
set_option maxRecDepth 8192 in
theorem al_137 (h : Holds V0 s j) : (constant S_ .f32 0x00000000#32 : (Proc.devRef .tc main_while0b_cst_24 : DevRef τ sig).ty.Contents (Elt F)) = Cert.ReferenceIdeal.Step.b137 j s := by
  unfold Cert.ReferenceIdeal.Step.b137
  rfl
set_option maxRecDepth 8192 in
theorem al_138 (h : Holds V0 s j) : (Host.reduceAdd (res_main_while0b_v61 V0) (constant S_ .f32 0x00000000#32) reducesTo_S4x1024_S4_d1 h_S_ : (Proc.devRef .tc main_while0b_v62 : DevRef τ sig).ty.Contents (Elt F)) = Cert.ReferenceIdeal.Step.b138 j s := by
  unfold Cert.ReferenceIdeal.Step.b138
  rw [← al_136 h, ← al_137 h]
  try rfl
set_option maxRecDepth 8192 in
theorem al_139 (h : Holds V0 s j) : (broadcastInDim S4x1 ![0] bcast_S4_S4x1_0 (Host.reduceAdd (res_main_while0b_v61 V0) (constant S_ .f32 0x00000000#32) reducesTo_S4x1024_S4_d1 h_S_) : (Proc.devRef .tc main_while0b_v63 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (constant S_ .f32 0x44800000#32 : (Proc.devRef .tc main_while0b_cst_25 : DevRef τ sig).ty.Contents (Elt F)) = Cert.ReferenceIdeal.Step.b140 j s := by
  unfold Cert.ReferenceIdeal.Step.b140
  rfl
set_option maxRecDepth 8192 in
theorem al_141 (h : Holds V0 s j) : (broadcastInDim S4x1 ![] bcast_S_S4x1 (constant S_ .f32 0x44800000#32) : (Proc.devRef .tc main_while0b_v64 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (res_main_while0b_v65 V0 : (Proc.devRef .tc main_while0b_v65 : DevRef τ sig).ty.Contents (Elt F)) = Cert.ReferenceIdeal.Step.b142 j s := by
  unfold res_main_while0b_v65 Cert.ReferenceIdeal.Step.b142
  rw [← al_139 h, ← al_141 h]
  try rfl
set_option maxRecDepth 8192 in
theorem al_143 (h : Holds V0 s j) : (broadcastInDim S4x1024 ![0, 1] bcast_S4x1_S4x1024_0_1 (res_main_while0b_v65 V0) : (Proc.devRef .tc main_while0b_v66 : DevRef τ sig).ty.Contents (Elt F)) = Cert.ReferenceIdeal.Step.b143 j s := by
  unfold Cert.ReferenceIdeal.Step.b143
  rw [← al_142 h]
  try rfl
set_option maxRecDepth 8192 in
theorem al_144 (h : Holds V0 s j) : (res_main_while0b_v67 V0 : (Proc.devRef .tc main_while0b_v67 : DevRef τ sig).ty.Contents (Elt F)) = Cert.ReferenceIdeal.Step.b144 j s := by
  unfold res_main_while0b_v67 Cert.ReferenceIdeal.Step.b144
  rw [← al_136 h, ← al_143 h]
  try rfl
set_option maxRecDepth 8192 in
theorem al_145 (h : Holds V0 s j) : (mulf (res_main_while0b_v67 V0) (res_main_while0b_v67 V0) : (Proc.devRef .tc main_while0b_v68 : DevRef τ sig).ty.Contents (Elt F)) = Cert.ReferenceIdeal.Step.b145 j s := by
  unfold Cert.ReferenceIdeal.Step.b145
  rw [← al_144 h]
  try rfl
set_option maxRecDepth 8192 in
theorem al_146 (h : Holds V0 s j) : (constant S_ .f32 0x00000000#32 : (Proc.devRef .tc main_while0b_cst_26 : DevRef τ sig).ty.Contents (Elt F)) = Cert.ReferenceIdeal.Step.b146 j s := by
  unfold Cert.ReferenceIdeal.Step.b146
  rfl
set_option maxRecDepth 8192 in
theorem al_147 (h : Holds V0 s j) : (Host.reduceAdd (mulf (res_main_while0b_v67 V0) (res_main_while0b_v67 V0)) (constant S_ .f32 0x00000000#32) reducesTo_S4x1024_S4_d1 h_S_ : (Proc.devRef .tc main_while0b_v69 : DevRef τ sig).ty.Contents (Elt F)) = Cert.ReferenceIdeal.Step.b147 j s := by
  unfold Cert.ReferenceIdeal.Step.b147
  rw [← al_145 h, ← al_146 h]
  try rfl
set_option maxRecDepth 8192 in
theorem al_148 (h : Holds V0 s j) : (broadcastInDim S4x1 ![0] bcast_S4_S4x1_0 (Host.reduceAdd (mulf (res_main_while0b_v67 V0) (res_main_while0b_v67 V0)) (constant S_ .f32 0x00000000#32) reducesTo_S4x1024_S4_d1 h_S_) : (Proc.devRef .tc main_while0b_v70 : DevRef τ sig).ty.Contents (Elt F)) = Cert.ReferenceIdeal.Step.b148 j s := by
  unfold Cert.ReferenceIdeal.Step.b148
  rw [← al_147 h]
  try rfl
set_option maxRecDepth 8192 in
theorem al_149 (h : Holds V0 s j) : (constant S_ .f32 0x44800000#32 : (Proc.devRef .tc main_while0b_cst_27 : DevRef τ sig).ty.Contents (Elt F)) = Cert.ReferenceIdeal.Step.b149 j s := by
  unfold Cert.ReferenceIdeal.Step.b149
  rfl
set_option maxRecDepth 8192 in
theorem al_150 (h : Holds V0 s j) : (broadcastInDim S4x1 ![] bcast_S_S4x1 (constant S_ .f32 0x44800000#32) : (Proc.devRef .tc main_while0b_v71 : DevRef τ sig).ty.Contents (Elt F)) = Cert.ReferenceIdeal.Step.b150 j s := by
  unfold Cert.ReferenceIdeal.Step.b150
  rw [← al_149 h]
  try rfl
set_option maxRecDepth 8192 in
theorem al_151 (h : Holds V0 s j) : (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32)) : (Proc.devRef .tc main_while0b_v72 : DevRef τ sig).ty.Contents (Elt F)) = Cert.ReferenceIdeal.Step.b151 j s := by
  unfold Cert.ReferenceIdeal.Step.b151
  rw [← al_148 h, ← al_150 h]
  try rfl
set_option maxRecDepth 8192 in
theorem al_152 (h : Holds V0 s j) : (broadcastInDim S4x1024 ![0, 1] bcast_S4x1_S4x1024_0_1 (res_main_while0b_v65 V0) : (Proc.devRef .tc main_while0b_v73 : DevRef τ sig).ty.Contents (Elt F)) = Cert.ReferenceIdeal.Step.b152 j s := by
  unfold Cert.ReferenceIdeal.Step.b152
  rw [← al_142 h]
  try rfl
set_option maxRecDepth 8192 in
theorem al_153 (h : Holds V0 s j) : (subf (res_main_while0b_v61 V0) (broadcastInDim S4x1024 ![0, 1] bcast_S4x1_S4x1024_0_1 (res_main_while0b_v65 V0)) : (Proc.devRef .tc main_while0b_v74 : DevRef τ sig).ty.Contents (Elt F)) = Cert.ReferenceIdeal.Step.b153 j s := by
  unfold Cert.ReferenceIdeal.Step.b153
  rw [← al_136 h, ← al_152 h]
  try rfl
set_option maxRecDepth 8192 in
theorem al_154 (h : Holds V0 s j) : (constant S_ .f32 0x3727C5AC#32 : (Proc.devRef .tc main_while0b_cst_28 : DevRef τ sig).ty.Contents (Elt F)) = Cert.ReferenceIdeal.Step.b154 j s := by
  unfold Cert.ReferenceIdeal.Step.b154
  rfl
set_option maxRecDepth 8192 in
theorem al_155 (h : Holds V0 s j) : (broadcastInDim S4x1 ![] bcast_S_S4x1 (constant S_ .f32 0x3727C5AC#32) : (Proc.devRef .tc main_while0b_v75 : DevRef τ sig).ty.Contents (Elt F)) = Cert.ReferenceIdeal.Step.b155 j s := by
  unfold Cert.ReferenceIdeal.Step.b155
  rw [← al_154 h]
  try rfl
set_option maxRecDepth 8192 in
theorem al_156 (h : Holds V0 s j) : (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32)) : (Proc.devRef .tc main_while0b_v76 : DevRef τ sig).ty.Contents (Elt F)) = Cert.ReferenceIdeal.Step.b156 j s := by
  unfold Cert.ReferenceIdeal.Step.b156
  rw [← al_151 h, ← al_155 h]
  try rfl
set_option maxRecDepth 8192 in
theorem al_157 (h : Holds V0 s j) : (Host.rsqrt (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32))) : (Proc.devRef .tc main_while0b_v77 : DevRef τ sig).ty.Contents (Elt F)) = Cert.ReferenceIdeal.Step.b157 j s := by
  unfold Cert.ReferenceIdeal.Step.b157
  rw [← al_156 h]
  try rfl
set_option maxRecDepth 8192 in
theorem al_158 (h : Holds V0 s j) : (broadcastInDim S4x1024 ![0, 1] bcast_S4x1_S4x1024_0_1 (Host.rsqrt (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32)))) : (Proc.devRef .tc main_while0b_v78 : DevRef τ sig).ty.Contents (Elt F)) = Cert.ReferenceIdeal.Step.b158 j s := by
  unfold Cert.ReferenceIdeal.Step.b158
  rw [← al_157 h]
  try rfl
set_option maxRecDepth 8192 in
theorem al_159 (h : Holds V0 s j) : (mulf (subf (res_main_while0b_v61 V0) (broadcastInDim S4x1024 ![0, 1] bcast_S4x1_S4x1024_0_1 (res_main_while0b_v65 V0))) (broadcastInDim S4x1024 ![0, 1] bcast_S4x1_S4x1024_0_1 (Host.rsqrt (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32))))) : (Proc.devRef .tc main_while0b_v79 : DevRef τ sig).ty.Contents (Elt F)) = Cert.ReferenceIdeal.Step.b159 j s := by
  unfold Cert.ReferenceIdeal.Step.b159
  rw [← al_153 h, ← al_158 h]
  try rfl
set_option maxRecDepth 8192 in
theorem al_160 (h : Holds V0 s j) : (broadcastInDim S1x1024 ![1] bcast_S1024_S1x1024_1 (V0 (Proc.devRef .tc main_v13_12)) : (Proc.devRef .tc main_while0b_v80 : DevRef τ sig).ty.Contents (Elt F)) = Cert.ReferenceIdeal.Step.b160 j s := by
  unfold Cert.ReferenceIdeal.Step.b160
  rw [h.f_12]
  try rfl
set_option maxRecDepth 8192 in
theorem al_161 (h : Holds V0 s j) : (broadcastInDim S4x1024 ![0, 1] bcast_S1x1024_S4x1024_0_1 (broadcastInDim S1x1024 ![1] bcast_S1024_S1x1024_1 (V0 (Proc.devRef .tc main_v13_12))) : (Proc.devRef .tc main_while0b_v81 : DevRef τ sig).ty.Contents (Elt F)) = Cert.ReferenceIdeal.Step.b161 j s := by
  unfold Cert.ReferenceIdeal.Step.b161
  rw [← al_160 h]
  try rfl
set_option maxRecDepth 8192 in
theorem al_162 (h : Holds V0 s j) : (mulf (mulf (subf (res_main_while0b_v61 V0) (broadcastInDim S4x1024 ![0, 1] bcast_S4x1_S4x1024_0_1 (res_main_while0b_v65 V0))) (broadcastInDim S4x1024 ![0, 1] bcast_S4x1_S4x1024_0_1 (Host.rsqrt (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32)))))) (broadcastInDim S4x1024 ![0, 1] bcast_S1x1024_S4x1024_0_1 (broadcastInDim S1x1024 ![1] bcast_S1024_S1x1024_1 (V0 (Proc.devRef .tc main_v13_12)))) : (Proc.devRef .tc main_while0b_v82 : DevRef τ sig).ty.Contents (Elt F)) = Cert.ReferenceIdeal.Step.b162 j s := by
  unfold Cert.ReferenceIdeal.Step.b162
  rw [← al_159 h, ← al_161 h]
  try rfl
set_option maxRecDepth 8192 in
theorem al_163 (h : Holds V0 s j) : (broadcastInDim S1x1024 ![1] bcast_S1024_S1x1024_1 (V0 (Proc.devRef .tc main_v13_13)) : (Proc.devRef .tc main_while0b_v83 : DevRef τ sig).ty.Contents (Elt F)) = Cert.ReferenceIdeal.Step.b163 j s := by
  unfold Cert.ReferenceIdeal.Step.b163
  rw [h.f_13]
  try rfl
set_option maxRecDepth 8192 in
theorem al_164 (h : Holds V0 s j) : (broadcastInDim S4x1024 ![0, 1] bcast_S1x1024_S4x1024_0_1 (broadcastInDim S1x1024 ![1] bcast_S1024_S1x1024_1 (V0 (Proc.devRef .tc main_v13_13))) : (Proc.devRef .tc main_while0b_v84 : DevRef τ sig).ty.Contents (Elt F)) = Cert.ReferenceIdeal.Step.b164 j s := by
  unfold Cert.ReferenceIdeal.Step.b164
  rw [← al_163 h]
  try rfl
set_option maxRecDepth 8192 in
theorem al_165 (h : Holds V0 s j) : (addf (mulf (mulf (subf (res_main_while0b_v61 V0) (broadcastInDim S4x1024 ![0, 1] bcast_S4x1_S4x1024_0_1 (res_main_while0b_v65 V0))) (broadcastInDim S4x1024 ![0, 1] bcast_S4x1_S4x1024_0_1 (Host.rsqrt (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32)))))) (broadcastInDim S4x1024 ![0, 1] bcast_S1x1024_S4x1024_0_1 (broadcastInDim S1x1024 ![1] bcast_S1024_S1x1024_1 (V0 (Proc.devRef .tc main_v13_12))))) (broadcastInDim S4x1024 ![0, 1] bcast_S1x1024_S4x1024_0_1 (broadcastInDim S1x1024 ![1] bcast_S1024_S1x1024_1 (V0 (Proc.devRef .tc main_v13_13)))) : (Proc.devRef .tc main_while0b_v85 : DevRef τ sig).ty.Contents (Elt F)) = Cert.ReferenceIdeal.Step.b165 j s := by
  unfold Cert.ReferenceIdeal.Step.b165
  rw [← al_162 h, ← al_164 h]
  try rfl
set_option maxRecDepth 8192 in
theorem al_166 (h : Holds V0 s j) : (broadcastInDim S4x1x1024 ![0, 2] bcast_S4x1024_S4x1x1024_0_2 (addf (mulf (mulf (subf (res_main_while0b_v61 V0) (broadcastInDim S4x1024 ![0, 1] bcast_S4x1_S4x1024_0_1 (res_main_while0b_v65 V0))) (broadcastInDim S4x1024 ![0, 1] bcast_S4x1_S4x1024_0_1 (Host.rsqrt (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32)))))) (broadcastInDim S4x1024 ![0, 1] bcast_S1x1024_S4x1024_0_1 (broadcastInDim S1x1024 ![1] bcast_S1024_S1x1024_1 (V0 (Proc.devRef .tc main_v13_12))))) (broadcastInDim S4x1024 ![0, 1] bcast_S1x1024_S4x1024_0_1 (broadcastInDim S1x1024 ![1] bcast_S1024_S1x1024_1 (V0 (Proc.devRef .tc main_v13_13))))) : (Proc.devRef .tc main_while0b_call9_v0 : DevRef τ sig).ty.Contents (Elt F)) = Cert.ReferenceIdeal.Step.b166 j s := by
  unfold Cert.ReferenceIdeal.Step.b166
  rw [← al_165 h]
  try rfl
set_option maxRecDepth 8192 in
theorem al_167 (h : Holds V0 s j) : (constantI S_ 32 0#32 : (Proc.devRef .tc main_while0b_call9_c : DevRef τ sig).ty.Contents (Elt F)) = Cert.ReferenceIdeal.Step.b167 j s := by
  unfold Cert.ReferenceIdeal.Step.b167
  rfl
set_option maxRecDepth 8192 in
theorem al_168 (h : Holds V0 s j) : (cmpi .slt (V0 (Proc.devRef .tc main_v13_15)) (constantI S_ 32 0#32) : (Proc.devRef .tc main_while0b_call9_v1 : DevRef τ sig).ty.Contents (Elt F)) = Cert.ReferenceIdeal.Step.b168 j s := by
  unfold Cert.ReferenceIdeal.Step.b168
  rw [← al_167 h, h.n_15]
  try rfl
set_option maxRecDepth 8192 in
theorem al_169 (h : Holds V0 s j) : (id (V0 (Proc.devRef .tc main_v13_15)) : (Proc.devRef .tc main_while0b_call9_v2 : DevRef τ sig).ty.Contents (Elt F)) = Cert.ReferenceIdeal.Step.b169 j s := by
  unfold Cert.ReferenceIdeal.Step.b169
  rw [h.n_15]
  try rfl
set_option maxRecDepth 8192 in
theorem al_170 (h : Holds V0 s j) : (constantI S_ 32 8192#32 : (Proc.devRef .tc main_while0b_call9_c_0 : DevRef τ sig).ty.Contents (Elt F)) = Cert.ReferenceIdeal.Step.b170 j s := by
  unfold Cert.ReferenceIdeal.Step.b170
  rfl
set_option maxRecDepth 8192 in
theorem al_171 (h : Holds V0 s j) : (addi (id (V0 (Proc.devRef .tc main_v13_15))) (constantI S_ 32 8192#32) : (Proc.devRef .tc main_while0b_call9_v3 : DevRef τ sig).ty.Contents (Elt F)) = Cert.ReferenceIdeal.Step.b171 j s := by
  unfold Cert.ReferenceIdeal.Step.b171
  rw [← al_169 h, ← al_170 h]
  try rfl
set_option maxRecDepth 8192 in
theorem al_172 (h : Holds V0 s j) : (select (cmpi .slt (V0 (Proc.devRef .tc main_v13_15)) (constantI S_ 32 0#32)) (addi (id (V0 (Proc.devRef .tc main_v13_15))) (constantI S_ 32 8192#32)) (V0 (Proc.devRef .tc main_v13_15)) : (Proc.devRef .tc main_while0b_call9_v4 : DevRef τ sig).ty.Contents (Elt F)) = Cert.ReferenceIdeal.Step.b172 j s := by
  unfold Cert.ReferenceIdeal.Step.b172
  rw [← al_168 h, ← al_171 h, h.n_15]
  try rfl
set_option maxRecDepth 8192 in
theorem al_173 (h : Holds V0 s j) : (constantI S_ 32 0#32 : (Proc.devRef .tc main_while0b_call9_c_1 : DevRef τ sig).ty.Contents (Elt F)) = Cert.ReferenceIdeal.Step.b173 j s := by
  unfold Cert.ReferenceIdeal.Step.b173
  rfl
set_option maxRecDepth 8192 in
theorem al_174 (h : Holds V0 s j) : (constantI S_ 32 0#32 : (Proc.devRef .tc main_while0b_call9_c_2 : DevRef τ sig).ty.Contents (Elt F)) = Cert.ReferenceIdeal.Step.b174 j s := by
  unfold Cert.ReferenceIdeal.Step.b174
  rfl
set_option maxRecDepth 8192 in
theorem al_175 (h : Holds V0 s j) : (Host.dynamicUpdateSlice (V0 (Proc.devRef .tc main_v13_17)) (broadcastInDim S4x1x1024 ![0, 2] bcast_S4x1024_S4x1x1024_0_2 (addf (mulf (mulf (subf (res_main_while0b_v61 V0) (broadcastInDim S4x1024 ![0, 1] bcast_S4x1_S4x1024_0_1 (res_main_while0b_v65 V0))) (broadcastInDim S4x1024 ![0, 1] bcast_S4x1_S4x1024_0_1 (Host.rsqrt (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32)))))) (broadcastInDim S4x1024 ![0, 1] bcast_S1x1024_S4x1024_0_1 (broadcastInDim S1x1024 ![1] bcast_S1024_S1x1024_1 (V0 (Proc.devRef .tc main_v13_12))))) (broadcastInDim S4x1024 ![0, 1] bcast_S1x1024_S4x1024_0_1 (broadcastInDim S1x1024 ![1] bcast_S1024_S1x1024_1 (V0 (Proc.devRef .tc main_v13_13)))))) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) updateFits_S4x8192x1024_S4x1x1024 : (Proc.devRef .tc main_while0b_v86 : DevRef τ sig).ty.Contents (Elt F)) = Cert.ReferenceIdeal.Step.b175 j s := by
  unfold Cert.ReferenceIdeal.Step.b175
  rw [← al_166 h, ← al_173 h, ← al_172 h, ← al_174 h, h.f_17]
  try rfl

/-! One trip's step of the carried values is `step`, field by field; a counter steps to the next number. -/

theorem step_16 (h : Holds V0 s j) : step_main_v13_16 V0 = (step j s).main_v13_16 := by
  unfold step_main_v13_16 Cert.ReferenceIdeal.Step.step
  show id (res_main_while0b_v34 V0) = _
  rw [al_69 h]
  try rfl
theorem step_17 (h : Holds V0 s j) : step_main_v13_17 V0 = (step j s).main_v13_17 := by
  unfold step_main_v13_17 Cert.ReferenceIdeal.Step.step
  show id (Host.dynamicUpdateSlice (V0 (Proc.devRef .tc main_v13_17)) (broadcastInDim S4x1x1024 ![0, 2] bcast_S4x1024_S4x1x1024_0_2 (addf (mulf (mulf (subf (res_main_while0b_v61 V0) (broadcastInDim S4x1024 ![0, 1] bcast_S4x1_S4x1024_0_1 (res_main_while0b_v65 V0))) (broadcastInDim S4x1024 ![0, 1] bcast_S4x1_S4x1024_0_1 (Host.rsqrt (addf (Host.divf (broadcastInDim S4x1 ![0] bcast_S4_S4x1_0 (Host.reduceAdd (mulf (res_main_while0b_v67 V0) (res_main_while0b_v67 V0)) (constant S_ .f32 0x00000000#32) reducesTo_S4x1024_S4_d1 h_S_)) (broadcastInDim S4x1 ![] bcast_S_S4x1 (constant S_ .f32 0x44800000#32))) (broadcastInDim S4x1 ![] bcast_S_S4x1 (constant S_ .f32 0x3727C5AC#32)))))) (broadcastInDim S4x1024 ![0, 1] bcast_S1x1024_S4x1024_0_1 (broadcastInDim S1x1024 ![1] bcast_S1024_S1x1024_1 (V0 (Proc.devRef .tc main_v13_12))))) (broadcastInDim S4x1024 ![0, 1] bcast_S1x1024_S4x1024_0_1 (broadcastInDim S1x1024 ![1] bcast_S1024_S1x1024_1 (V0 (Proc.devRef .tc main_v13_13)))))) (fun k => (((![constantI S_ 32 0#32, select (cmpi .slt (V0 (Proc.devRef .tc main_v13_15)) (constantI S_ 32 0#32)) (addi (id (V0 (Proc.devRef .tc main_v13_15))) (constantI S_ 32 8192#32)) (V0 (Proc.devRef .tc main_v13_15)), constantI S_ 32 0#32] : Fin 3 → (⟨S_, .i32⟩ : BufTy).Contents (Elt F))) k (Shape.Idx.first h_S_)).toInt) updateFits_S4x8192x1024_S4x1x1024) = _
  exact al_175 h
theorem step_14 (h : Holds V0 s j) : step_main_v13_14 V0 = constantI S_ 32 (BitVec.ofNat 32 (j + 1)) := by
  unfold step_main_v13_14
  rw [h.n_14]
  funext i
  show BitVec.ofNat 32 j + 1#32 = BitVec.ofNat 32 (j + 1)
  simp only [BitVec.ofNat_add]
theorem step_15 (h : Holds V0 s j) : step_main_v13_15 V0 = constantI S_ 32 (BitVec.ofNat 32 (j + 1)) := by
  unfold step_main_v13_15
  rw [h.n_15]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_16 := (STEP_main_v13_16 V0).trans (step_16 h)
  f_17 := (STEP_main_v13_17 V0).trans (step_17 h)
  n_14 := (STEP_main_v13_14 V0).trans (step_14 h)
  n_15 := (STEP_main_v13_15 V0).trans (step_15 h)
  f_0 := (STEP_main_v13_0 V0).trans h.f_0
  f_1 := (STEP_main_v13_1 V0).trans h.f_1
  f_2 := (STEP_main_v13_2 V0).trans h.f_2
  f_3 := (STEP_main_v13_3 V0).trans h.f_3
  f_4 := (STEP_main_v13_4 V0).trans h.f_4
  f_5 := (STEP_main_v13_5 V0).trans h.f_5
  f_6 := (STEP_main_v13_6 V0).trans h.f_6
  f_7 := (STEP_main_v13_7 V0).trans h.f_7
  f_8 := (STEP_main_v13_8 V0).trans h.f_8
  f_9 := (STEP_main_v13_9 V0).trans h.f_9
  f_10 := (STEP_main_v13_10 V0).trans h.f_10
  f_11 := (STEP_main_v13_11 V0).trans h.f_11
  f_12 := (STEP_main_v13_12 V0).trans h.f_12
  f_13 := (STEP_main_v13_13 V0).trans h.f_13

/-- The state the first trip starts from, of the memory the run starts from. -/
abbrev initState (m : (ℓ : Loc nD τ sig) → Buf (Elt F) ℓ) (c : Dev nD) : State F :=
  init (m ((c.tc : Thread nD τ).loc main_arg8)) (m ((c.tc : Thread nD τ).loc main_arg9)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v13_17) = (it c 8192).main_v13_17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have hk := holds_iter m c (it c) (h0 c) (hs c) 8192
    ⟨(h c).1.trans hk.f_17, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.RefRun

end
-- ==== Proof.RefStep.lean ====
module

public import proofs.«01_k».proof.Proof.RefRun
public import proofs.«01_k».proof.Proof.Spec
public import Idealize.ShloMosaic.Lib.Pointwise
public import Idealize.ShloMosaic.Lib.DynamicIndex

@[expose] public section

set_option maxRecDepth 16384

noncomputable section

/-! One trip of the reference's loop, at an index. -/

namespace Cert.RefStep

open Idealize.ShloMosaic Cert.ReferenceIdeal Cert.ReferenceIdeal.Gen Cert.ReferenceIdeal.Step

/-- The constant part of the state: the arrays computed before the loop, as the specification's. -/
structure Rows (A : Spec.Args) (s : State Ideal) : Prop where
  q : ∀ b (t : Fin 8192) h i, s.main_v13_0 (ix4 b t h i) = A.q b t h i
  k : ∀ b (t : Fin 8192) h i, s.main_v13_1 (ix4 b t h i) = A.k b t h i
  v : ∀ b (t : Fin 8192) h i, s.main_v13_2 (ix4 b t h i) = A.v b t h i
  g : ∀ b (t : Fin 8192) h, s.main_v13_3 (ix3 b t h) = A.gate b t h
  beta : ∀ b (t : Fin 8192) h, s.main_v13_4 (ix3 b t h) = A.beta b t h
  ng : ∀ w, s.main_v13_5 (ix1 w) = A.ng w
  z : ∀ b (t : Fin 8192) c, s.main_v13_6 (ix3 b t c) = Spec.tok A.gz b t c
  hc : ∀ b (t : Fin 8192) d, s.main_v13_7 (ix3 b t d) = Spec.tok A.hc b t d
  gg : ∀ b (t : Fin 8192) d, s.main_v13_8 (ix3 b t d) = Spec.tok A.gg b t d
  gwo : ∀ c d, s.main_v13_9 (ix2 c d) = A.gwo c d
  x : ∀ b (t : Fin 8192) d, s.main_v13_10 (ix3 b t d) = Spec.tok A.x b t d
  wo : ∀ d e, s.main_v13_11 (ix2 d e) = A.wo d e
  pg : ∀ e, s.main_v13_12 (ix1 e) = A.pg e
  pb : ∀ e, s.main_v13_13 (ix1 e) = A.pb e

theorem Rows.step {A : Spec.Args} {n : ℕ} {s : State Ideal} (r : Rows A s) : Rows A (step n s) :=
  ⟨r.q, r.k, r.v, r.g, r.beta, r.ng, r.z, r.hc, r.gg, r.gwo, r.x, r.wo, r.pg, r.pb⟩

variable (n : ℕ) (hn : n < 8192) (s : State Ideal)

section At

variable {n}
variable (i0 i1 i2 i3 : IVec S_ 32) (h0 : ∀ y, (i0 y).toInt = 0) (h1 : ∀ y, (i1 y).toInt = n) (h2 : ∀ y, (i2 y).toInt = 0)
  (h3 : ∀ y, (i3 y).toInt = 0)
include hn h0 h1 h2

/-- A token's row of a four-axis array. -/
theorem at4 (x : FVec Ideal S4x8192x8x128 .f32) (b : Fin 4) (h : Fin 8) (i : Fin 128) (h3 : ∀ y, (i3 y).toInt = 0) :
    (shapeCast S4x8x128 (Host.dynamicSlice S4x1x8x128 x (fun k => (((![i0, i1, i2, i3] : Fin 4 → (⟨S_, .i32⟩ : BufTy).Contents (Elt Ideal))) k (Shape.Idx.first h_S_)).toInt) sliceFits_S4x8192x8x128_S4x1x8x128) shapeCasts_S4x1x8x128_S4x8x128) (ix3 b h i)
      = x (ix4 b ⟨n, hn⟩ h i) := by
  rw [Host.dynamicSlice_eq_extractStridedSlice S4x1x8x128 x _ ![0, n, 0, 0] _ ⟨rfl, by intro a; fin_cases a <;> simp <;> omega⟩
    (by intro a; fin_cases a <;> simp [h0, h1, h2, h3])]
  pointwise

theorem at3 (x : FVec Ideal S4x8192x1024 .f32) (b : Fin 4) (i : Fin 1024) :
    (shapeCast S4x1024 (Host.dynamicSlice S4x1x1024 x (fun k => (((![i0, i1, i2] : Fin 3 → (⟨S_, .i32⟩ : BufTy).Contents (Elt Ideal))) k (Shape.Idx.first h_S_)).toInt) sliceFits_S4x8192x1024_S4x1x1024) shapeCasts_S4x1x1024_S4x1024) (ix2 b i)
      = x (ix3 b ⟨n, hn⟩ i) := by
  rw [Host.dynamicSlice_eq_extractStridedSlice S4x1x1024 x _ ![0, n, 0] _ ⟨rfl, by intro a; fin_cases a <;> simp <;> omega⟩
    (by intro a; fin_cases a <;> simp [h0, h1, h2])]
  pointwise

theorem at3' (x : FVec Ideal S4x8192x8 .f32) (b : Fin 4) (i : Fin 8) :
    (shapeCast S4x8 (Host.dynamicSlice S4x1x8 x (fun k => (((![i0, i1, i2] : Fin 3 → (⟨S_, .i32⟩ : BufTy).Contents (Elt Ideal))) k (Shape.Idx.first h_S_)).toInt) sliceFits_S4x8192x8_S4x1x8) shapeCasts_S4x1x8_S4x8) (ix2 b i)
      = x (ix3 b ⟨n, hn⟩ i) := by
  rw [Host.dynamicSlice_eq_extractStridedSlice S4x1x8 x _ ![0, n, 0] _ ⟨rfl, by intro a; fin_cases a <;> simp <;> omega⟩
    (by intro a; fin_cases a <;> simp [h0, h1, h2])]
  pointwise

/-- Writing a token's row. -/
theorem upd3 (x : FVec Ideal S4x8192x1024 .f32) (u : FVec Ideal S4x1x1024 .f32) (b : Fin 4) (t : Fin 8192) (e : Fin 1024) :
    (Host.dynamicUpdateSlice x u (fun k => (((![i0, i1, i2] : Fin 3 → (⟨S_, .i32⟩ : BufTy).Contents (Elt Ideal))) k (Shape.Idx.first h_S_)).toInt) updateFits_S4x8192x1024_S4x1x1024) (ix3 b t e)
      = if t.val = n then u (ix3 b 0 e) else x (ix3 b t e) := by
  have hs : S4x8192x1024.Slices ![0, n, 0] S4x1x1024 := ⟨rfl, by intro a; fin_cases a <;> simp <;> omega⟩
  rw [Host.dynamicUpdateSlice_eq_updateSlice x u _ _ ![0, n, 0]
    (by
      intro a
      fin_cases a
      · simp [h0]
      · simp only [Fin.mk_one, Matrix.cons_val_one, Matrix.cons_val_zero, h1]
        change (min (max (n : Int) 0) ((8192 - 1 : ℕ) : Int)).toNat = n
        omega
      · simp [h2]) hs]
  have hc : (∀ a : Fin 3, (![0, n, 0] : Fin 3 → ℕ) a ≤ (ix3 b t e a).val ∧ (ix3 b t e a).val < (![0, n, 0] : Fin 3 → ℕ) a
      + S4x1x1024.size (a.cast rfl)) ↔ t.val = n := by
    constructor
    · intro h
      have := h 1
      simp at this
      omega
    · intro h a
      fin_cases a <;> simp <;> omega
  refine (updateSlice_apply x u ![0, n, 0] hs (ix3 b t e)).trans ?_
  by_cases ht : t.val = n
  · rw [dif_pos (hc.2 ht), if_pos ht]
    congr 1
    funext a
    fin_cases a
    · rfl
    · exact Fin.ext (show t.val - n = 0 by omega)
    · rfl
  · rw [dif_neg (fun h => ht (hc.1 h)), if_neg ht]

end At

section Trip

variable {n}
include hn

theorem wrap {d : IVec S_ 32} {i : S_.Idx} :
    BitVec.toInt (select (cmpi .slt (constantI S_ 32 (BitVec.ofNat 32 n)) (constantI S_ 32 0#32))
      (addi (constantI S_ 32 (BitVec.ofNat 32 n)) d) (constantI S_ 32 (BitVec.ofNat 32 n)) i) = (n : Int) :=
  toInt_wrap_ofNat n (by omega)

theorem zero {i : S_.Idx} : BitVec.toInt (constantI S_ 32 0#32 i) = 0 := rfl

theorem b12_at (b : Fin 4) (h : Fin 8) (i : Fin 128) : b12 n s (ix3 b h i) = s.main_v13_0 (ix4 b ⟨n, hn⟩ h i) :=
  at4 hn _ _ _ _ (fun _ => rfl) (fun _ => wrap hn) (fun _ => rfl) _ b h i (fun _ => rfl)
theorem b23_at (b : Fin 4) (h : Fin 8) (i : Fin 128) : b23 n s (ix3 b h i) = s.main_v13_1 (ix4 b ⟨n, hn⟩ h i) :=
  at4 hn _ _ _ _ (fun _ => rfl) (fun _ => wrap hn) (fun _ => rfl) _ b h i (fun _ => rfl)
theorem b34_at (b : Fin 4) (h : Fin 8) (i : Fin 128) : b34 n s (ix3 b h i) = s.main_v13_2 (ix4 b ⟨n, hn⟩ h i) :=
  at4 hn _ _ _ _ (fun _ => rfl) (fun _ => wrap hn) (fun _ => rfl) _ b h i (fun _ => rfl)
theorem b44_at (b : Fin 4) (h : Fin 8) : b44 n s (ix2 b h) = s.main_v13_3 (ix3 b ⟨n, hn⟩ h) :=
  at3' hn _ _ _ (fun _ => rfl) (fun _ => wrap hn) (fun _ => rfl) _ b h
theorem b54_at (b : Fin 4) (h : Fin 8) : b54 n s (ix2 b h) = s.main_v13_4 (ix3 b ⟨n, hn⟩ h) :=
  at3' hn _ _ _ (fun _ => rfl) (fun _ => wrap hn) (fun _ => rfl) _ b h
theorem b97_at (b : Fin 4) (c : Fin 1024) : b97 n s (ix2 b c) = s.main_v13_6 (ix3 b ⟨n, hn⟩ c) :=
  at3 hn _ _ _ (fun _ => rfl) (fun _ => wrap hn) (fun _ => rfl) _ b c
theorem b108_at (b : Fin 4) (c : Fin 1024) : b108 n s (ix2 b c) = s.main_v13_7 (ix3 b ⟨n, hn⟩ c) :=
  at3 hn _ _ _ (fun _ => rfl) (fun _ => wrap hn) (fun _ => rfl) _ b c
theorem b118_at (b : Fin 4) (c : Fin 1024) : b118 n s (ix2 b c) = s.main_v13_8 (ix3 b ⟨n, hn⟩ c) :=
  at3 hn _ _ _ (fun _ => rfl) (fun _ => wrap hn) (fun _ => rfl) _ b c
theorem b131_at (b : Fin 4) (c : Fin 1024) : b131 n s (ix2 b c) = s.main_v13_10 (ix3 b ⟨n, hn⟩ c) :=
  at3 hn _ _ _ (fun _ => rfl) (fun _ => wrap hn) (fun _ => rfl) _ b c

/-! The delta rule's token. -/

theorem b58_at (b : Fin 4) (h : Fin 8) (i w : Fin 128) :
    b58 n s (ix4 b h i w) = Ideal.exp (s.main_v13_3 (ix3 b ⟨n, hn⟩ h)) * s.main_v13_16 (ix4 b h i w) := by
  pointwise [b58, b57, b56, b55]
  rw [b44_at hn]

theorem b63_at (b : Fin 4) (h : Fin 8) (w : Fin 128) :
    b63 n s (ix3 b h w) = s.main_v13_4 (ix3 b ⟨n, hn⟩ h) * (s.main_v13_2 (ix4 b ⟨n, hn⟩ h w)
      - ∑ i : Fin 128, s.main_v13_1 (ix4 b ⟨n, hn⟩ h i) * b58 n s (ix4 b h i w)) := by
  pointwise [b63, b62, b61, b60, b59]
  rw [b54_at hn, b34_at hn]
  simp only [b23_at hn]

theorem b69_at (b : Fin 4) (h : Fin 8) (i w : Fin 128) :
    b69 n s (ix4 b h i w) = b58 n s (ix4 b h i w) + s.main_v13_1 (ix4 b ⟨n, hn⟩ h i) * b63 n s (ix3 b h w) := by
  pointwise [b69, b68, b67, b66, b65, b64]
  rw [b23_at hn]

theorem b70_at (b : Fin 4) (h : Fin 8) (w : Fin 128) :
    b70 n s (ix3 b h w) = ∑ i : Fin 128, s.main_v13_0 (ix4 b ⟨n, hn⟩ h i) * b69 n s (ix4 b h i w) := by
  pointwise [b70]
  simp only [b12_at hn]

omit hn in
theorem b86_at (b : Fin 4) (h : Fin 8) (w : Fin 128) :
    b86 n s (ix3 b h w) = b70 n s (ix3 b h w)
      * Ideal.rsqrt (Ideal.div (∑ j : Fin 128, b70 n s (ix3 b h j) * b70 n s (ix3 b h j)) Spec.c128 + Spec.e6)
      * s.main_v13_5 (ix1 w) := by
  pointwise [b86, b85, b84, b83, b82, b81, b80, b79, b78, b77, b76, b75, b74, b73, b72, b71, Spec.c128, Spec.e6]

theorem b98_at (b : Fin 4) (c : Fin 1024) :
    b98 n s (ix2 b c) = b86 n s (ix3 b ⟨c / 128, by omega⟩ ⟨c % 128, by omega⟩) * s.main_v13_6 (ix3 b ⟨n, hn⟩ c) := by
  pointwise [b98, b87]
  rw [b97_at hn]

theorem b121_at (b : Fin 4) (d : Fin 1024) :
    b121 n s (ix2 b d) = s.main_v13_7 (ix3 b ⟨n, hn⟩ d) + s.main_v13_8 (ix3 b ⟨n, hn⟩ d)
      * ∑ c : Fin 1024, b98 n s (ix2 b c) * s.main_v13_9 (ix2 c d) := by
  pointwise [b121, b120, b119]
  rw [b108_at hn, b118_at hn]

theorem b136_at (b : Fin 4) (e : Fin 1024) :
    b136 n s (ix2 b e) = Spec.alpha * s.main_v13_10 (ix3 b ⟨n, hn⟩ e)
      + ∑ d : Fin 1024, b121 n s (ix2 b d) * s.main_v13_11 (ix2 d e) := by
  pointwise [b136, b135, b134, b133, b132, Spec.alpha]
  rw [b131_at hn]

omit hn in
theorem b165_at (b : Fin 4) (e : Fin 1024) :
    b165 n s (ix2 b e) = Spec.lnorm (fun e => b136 n s (ix2 b e)) (fun e => s.main_v13_12 (ix1 e))
      (fun e => s.main_v13_13 (ix1 e)) e := by
  pointwise [b165, b164, b163, b162, b161, b160, b159, b158, b157, b156, b155, b154, b153, b152, b151, b150, b149, b148,
    b147, b146, b145, b144, b143, b142, b141, b140, b139, b138, b137, Spec.lnorm, Spec.c1024, Spec.e5]

/-- The output after the trip: the token's row is written, the others are kept. -/
theorem b175_at (b : Fin 4) (t : Fin 8192) (e : Fin 1024) :
    b175 n s (ix3 b t e) = if t.val = n then b165 n s (ix2 b e) else s.main_v13_17 (ix3 b t e) := by
  refine (upd3 hn _ _ _ (fun _ => rfl) (fun _ => wrap hn) (fun _ => rfl) _ _ b t e).trans ?_
  pointwise [b166]

variable {s}
variable {A : Spec.Args} (r : Rows A s) (f : A.Fine) (hst : ∀ b h i w, s.main_v13_16 (ix4 b h i w) = A.st b h n i w)
include r f hst

theorem u_at (b : Fin 4) (h : Fin 8) (w : Fin 128) : b63 n s (ix3 b h w)
    = ((Delta.tokU (A.kR b h) (A.vR b h) (A.gateR b h) (A.betaR b h) n
        (Delta.stateAt (A.kR b h) (A.vR b h) (A.gateR b h) (A.betaR b h) n) w : ℝ) : EReal) := by
  rw [b63_at hn]
  simp only [b58_at hn, r.beta, r.v, r.k, r.g, hst, f.beta, f.v, f.k, f.gate, Spec.Args.st, Ideal.exp_coe, ← EReal.coe_mul,
    ← EReal.coe_sub, ← Spec.coe_sum]
  rfl

theorem st_at (b : Fin 4) (h : Fin 8) (i w : Fin 128) : b69 n s (ix4 b h i w) = A.st b h (n + 1) i w := by
  rw [b69_at hn, u_at hn r f hst, b58_at hn, r.k, r.g, hst, f.k, f.gate, Spec.Args.st, Ideal.exp_coe, ← EReal.coe_mul,
    ← EReal.coe_mul, ← EReal.coe_add]
  rfl

theorem o_at (b : Fin 4) (h : Fin 8) (w : Fin 128) : b70 n s (ix3 b h w) = A.o b n h w := by
  rw [b70_at hn]
  simp only [st_at hn r f hst, r.q, f.q, Spec.Args.st, ← EReal.coe_mul, ← Spec.coe_sum]
  rfl

theorem og_at (b : Fin 4) (c : Fin 1024) : b98 n s (ix2 b c) = A.ogc b n c := by
  rw [b98_at hn, b86_at]
  simp only [o_at hn r f hst, r.ng, r.z]
  have : c = (⟨128 * (c.val / 128) + c.val % 128, by omega⟩ : Fin 1024) := Fin.ext (by simp; omega)
  rw [Spec.Args.ogc, Spec.Args.og, ← this]

theorem out_at (b : Fin 4) (e : Fin 1024) : b165 n s (ix2 b e) = A.out b n e := by
  rw [b165_at]
  simp only [b136_at hn, b121_at hn, og_at hn r f hst, r.hc, r.gg, r.gwo, r.x, r.wo, r.pg, r.pb]
  rfl

end Trip

/-- The state before every trip. -/
theorem it_at {A : Spec.Args} (f : A.Fine) (it : ℕ → State Ideal) (hs : ∀ n, it (n + 1) = step n (it n)) (r : Rows A (it 0))
    (h0 : ∀ b h i w, (it 0).main_v13_16 (ix4 b h i w) = 0) : ∀ n ≤ 8192, Rows A (it n)
      ∧ (∀ b h i w, (it n).main_v13_16 (ix4 b h i w) = A.st b h n i w)
      ∧ ∀ b (t : Fin 8192) e, t.val < n → (it n).main_v13_17 (ix3 b t e) = A.out b t e
  | 0, _ => ⟨r, fun b h i w => by rw [h0]; rfl, fun b t e h => absurd h (Nat.not_lt_zero _)⟩
  | n + 1, hn => by
    obtain ⟨r, hst, ho⟩ := it_at f it hs r h0 n (by omega)
    rw [hs]
    refine ⟨r.step, fun b h i w => ?_, fun b t e ht => ?_⟩
    · rw [step_main_v13_16, st_at hn r f hst]
    · rw [step_main_v13_17, b175_at hn]
      split
      · next h => rw [out_at hn r f hst, h]
      · next h => exact ho b t e (by omega)

end Cert.RefStep

end
-- ==== Proof.RefValue.lean ====
module

public import proofs.«01_k».proof.Proof.RefStep
public import Idealize.ShloMosaic.Lib.Quiescent

@[expose] public section

set_option maxRecDepth 16384

noncomputable section

/-! The reference's result, from its arguments. -/

namespace Cert.RefValue

open Idealize.ShloMosaic Idealize.ShloMosaic.TcCoe Idealize.SL.Sem Cert.ReferenceIdeal Cert.ReferenceIdeal.Gen Cert.ReferenceIdeal.Step Cert.ReferenceIdeal.RefRun

variable (m : (ℓ : Loc nD τ sig) → Buf (Elt Ideal) ℓ) (c : Dev nD)

/-- The arguments, as the specification takes them. -/
def args : Spec.Args where
  aq b t e := m ((c.tc : Thread nD τ).loc main_arg0) (ix3 b t e)
  ak b t e := m ((c.tc : Thread nD τ).loc main_arg1) (ix3 b t e)
  av b t e := m ((c.tc : Thread nD τ).loc main_arg2) (ix3 b t e)
  bg b t e := m ((c.tc : Thread nD τ).loc main_arg3) (ix3 b t e)
  gz b t e := m ((c.tc : Thread nD τ).loc main_arg4) (ix3 b t e)
  gg b t e := m ((c.tc : Thread nD τ).loc main_arg5) (ix3 b t e)
  hc b t e := m ((c.tc : Thread nD τ).loc main_arg6) (ix3 b t e)
  x b t e := m ((c.tc : Thread nD τ).loc main_arg7) (ix3 b t e)
  ng e := m ((c.tc : Thread nD τ).loc main_arg8) (ix1 e)
  gwo d e := m ((c.tc : Thread nD τ).loc main_arg9) (ix2 d e)
  wo d e := m ((c.tc : Thread nD τ).loc main_arg10) (ix2 d e)
  pg e := m ((c.tc : Thread nD τ).loc main_arg11) (ix1 e)
  pb e := m ((c.tc : Thread nD τ).loc main_arg12) (ix1 e)

/-- Splitting the lanes into heads. -/
theorem split_at (x : S4x8192x1024.Idx → EReal) (b : Fin 4) (t : Fin 8192) (h : Fin 8) (i : Fin 128) :
    (shapeCast S4x8192x8x128 x shapeCasts_S4x8192x1024_S4x8192x8x128 : S4x8192x8x128.Idx → EReal) (ix4 b t h i)
      = x (ix3 b t ⟨128 * h + i, by omega⟩) := by
  pointwise
  congr 1
  all_goals (try ext a)
  all_goals (try fin_cases a)
  all_goals (try simp)
  all_goals (try omega)

theorem gate_at (x : S4x8192x128.Idx → EReal) (b : Fin 4) (t : Fin 8192) (h : Fin 8) :
    (extractStridedSlice S4x8192x8 ![0, 0, 8] x slices_S4x8192x128_S4x8192x8_0_0_8 : S4x8192x8.Idx → EReal) (ix3 b t h)
      = x (ix3 b t ⟨8 + h, by omega⟩) := by
  show x _ = x _
  congr 1
  funext a
  fin_cases a <;> apply Fin.ext <;> simp [ix3]

theorem beta_at (x : S4x8192x128.Idx → EReal) (b : Fin 4) (t : Fin 8192) (h : Fin 8) :
    (extractStridedSlice S4x8192x8 ![0, 0, 0] x slices_S4x8192x128_S4x8192x8_0_0_0 : S4x8192x8.Idx → EReal) (ix3 b t h)
      = x (ix3 b t ⟨h, by omega⟩) := by
  show x _ = x _
  congr 1
  funext a
  fin_cases a <;> apply Fin.ext <;> simp [ix3]

theorem rows : RefStep.Rows (args m c) (initState m c) where
  q b t h i := (split_at _ b t h i).trans (Spec.tok_fin (args m c).aq b t _).symm
  k b t h i := (split_at _ b t h i).trans (Spec.tok_fin (args m c).ak b t _).symm
  v b t h i := (split_at _ b t h i).trans (Spec.tok_fin (args m c).av b t _).symm
  g b t h := (gate_at _ b t h).trans (Spec.tok_fin (args m c).bg b t _).symm
  beta b t h := (beta_at _ b t h).trans (Spec.tok_fin (args m c).bg b t _).symm
  ng w := rfl
  z b t c' := (Spec.tok_fin (args m c).gz b t c').symm
  hc b t c' := (Spec.tok_fin (args m c).hc b t c').symm
  gg b t c' := (Spec.tok_fin (args m c).gg b t c').symm
  gwo d e := rfl
  x b t d := (Spec.tok_fin (args m c).x b t d).symm
  wo d e := rfl
  pg e := rfl
  pb e := rfl

theorem zero_at (b : Fin 4) (h : Fin 8) (i w : Fin 128) : (initState m c).main_v13_16 (ix4 b h i w) = (0 : EReal) :=
  Ideal.ofBits_zero_f32

/-- The states of the loop. -/
def its (c : Dev nD) : ℕ → State Ideal
  | 0 => initState m c
  | n + 1 => step n (its c n)

/-- The reference's result is the specification's. -/
theorem result (f : (args m c).Fine) (b : Fin 4) (t : Fin 8192) (e : Fin 1024) :
    (its m c 8192).main_v13_17 (ix3 b t e) = (args m c).out b t.val e :=
  (RefStep.it_at f (its m c) (fun _ => rfl) (rows m c) (zero_at m c) 8192 le_rfl).2.2 b t e t.isLt

end Cert.RefValue

end
-- ==== Proof.Finite.lean ====
module

public import proofs.«01_k».proof.Pre_finite
public import proofs.«01_k».proof.Proof.Spec
public import Idealize.ShloMosaic.Lib.ReduceAll
public import Idealize.ShloMosaic.Lib.Pointwise

@[expose] public section

set_option maxRecDepth 16384

noncomputable section

/-! The precondition read back: the entries the recurrence reads are real numbers. -/

namespace Cert.Finite

open Idealize.ShloMosaic Cert.Pre_finite

instance facts : Cert.Pre_finite.Facts where
  bitsLt_bf16_f32 := by decide
  bcast_S_S4x8192x1024 := by decide
  reducesTo_S4x8192x1024_S_d0_1_2 := by decide
  h_S_ := by decide
  slices_S4x8192x128_S4x8192x16_0_0_0 := by decide
  bcast_S_S4x8192x16 := by decide
  reducesTo_S4x8192x16_S_d0_1_2 := by decide

/-- An entry smaller than infinity in absolute value is a real number. -/
theorem real_of_lt (x : EReal) (h : Ideal.cmp .olt (max x (-x)) (Ideal.ofBits .f32 0x7F800000#32) = 1#1) :
    x = (x.toReal : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal hlt.1.ne ?_).symm
  intro hb
  subst hb
  simp at hlt

instance : Subsingleton S_.Idx := ⟨fun a b => funext fun i => i.elim0⟩

variable {x0 x1 x2 : FVec Ideal S4x8192x1024 .bf16} {x3 : FVec Ideal S4x8192x128 .f32} {x4 x5 x6 : FVec Ideal S4x8192x1024 .bf16}
  {x7 : FVec Ideal S4x8192x1024 .f32} {x8 : FVec Ideal S128 .f32} {x9 x10 : FVec Ideal S1024x1024 .f32} {x11 x12 : FVec Ideal S1024 .f32}

theorem all_real (x : FVec Ideal S4x8192x1024 .bf16) (z : S_.Idx)
    (h : Host.reduce IntOp.andi (cmpf .olt (Host.absf (extf .f32 x Facts.bitsLt_bf16_f32))
      (broadcastInDim S4x8192x1024 ![] Facts.bcast_S_S4x8192x1024 (constant S_ .f32 0x7F800000#32))) (constantI S_ 1 1#1)
      Facts.reducesTo_S4x8192x1024_S_d0_1_2 Facts.h_S_ z = 1#1) (j : S4x8192x1024.Idx) :
    (x j : EReal) = ((x j : EReal).toReal : EReal) := by
  have H := Host.reduce_andi_all _ _ _ _ _ h j
  exact real_of_lt (x j) H

theorem first_lanes (x : S4x8192x128.Idx → EReal) (hs : S4x8192x128.Slices ![0, 0, 0] S4x8192x16) (b : Fin 4) (t : Fin 8192) (l : Fin 16) :
    extractStridedSlice S4x8192x16 ![0, 0, 0] x hs (ix3 b t l) = x (ix3 b t ⟨l, by omega⟩) := by
  unfold extractStridedSlice
  congr 1
  funext a
  fin_cases a <;> apply Fin.ext <;> simp [ix3]

theorem all_lanes (x : FVec Ideal S4x8192x128 .f32) (z : S_.Idx)
    (h : Host.reduce IntOp.andi (cmpf .olt (Host.absf (extractStridedSlice S4x8192x16 ![0, 0, 0] x Facts.slices_S4x8192x128_S4x8192x16_0_0_0))
      (broadcastInDim S4x8192x16 ![] Facts.bcast_S_S4x8192x16 (constant S_ .f32 0x7F800000#32))) (constantI S_ 1 1#1)
      Facts.reducesTo_S4x8192x16_S_d0_1_2 Facts.h_S_ z = 1#1) (b : Fin 4) (t : Fin 8192) (l : Fin 16) :
    (x (ix3 b t ⟨l, by omega⟩) : EReal) = ((x (ix3 b t ⟨l, by omega⟩) : EReal).toReal : EReal) := by
  have H := Host.reduce_andi_all _ _ _ _ _ h (ix3 b t l)
  have e := first_lanes x Facts.slices_S4x8192x128_S4x8192x16_0_0_0 b t l
  rw [← e]
  exact real_of_lt _ H

theorem reals (h : Cert.Pre_finite.fn (F := Ideal) x0 x1 x2 x3 x4 x5 x6 x7 x8 x9 x10 x11 x12 = fun _ => 1#1) :
    (∀ j, (x0 j : EReal) = ((x0 j : EReal).toReal : EReal)) ∧ (∀ j, (x1 j : EReal) = ((x1 j : EReal).toReal : EReal))
      ∧ (∀ j, (x2 j : EReal) = ((x2 j : EReal).toReal : EReal))
      ∧ ∀ (b : Fin 4) (t : Fin 8192) (l : Fin 128), l.val < 16 → (x3 (ix3 b t l) : EReal) = ((x3 (ix3 b t l) : EReal).toReal : EReal) := by
  have h' := congrFun h (Shape.Idx.first Facts.h_S_)
  obtain ⟨h012, h3⟩ := IntOp.andi_eq_one.1 h'
  obtain ⟨h01, h2⟩ := IntOp.andi_eq_one.1 h012
  obtain ⟨h0, h1⟩ := IntOp.andi_eq_one.1 h01
  refine ⟨all_real x0 _ h0, all_real x1 _ h1, all_real x2 _ h2, fun b t l hl => ?_⟩
  have H := all_lanes x3 _ h3 b t ⟨l.val, hl⟩
  exact H

/-- A token's entry is real if the array's are. -/
theorem tok_real {n : ℕ} (X : Fin 4 → Fin 8192 → Fin n → EReal) (b : Fin 4) (t : ℕ) (l : Fin n)
    (h : ∀ t, X b t l = ((X b t l).toReal : EReal)) : Spec.tok X b t l = ((Spec.tok X b t l).toReal : EReal) := by
  unfold Spec.tok
  split
  · exact h _
  · simp

theorem fine (A : Spec.Args) (hq : ∀ b t e, A.aq b t e = ((A.aq b t e).toReal : EReal)) (hk : ∀ b t e, A.ak b t e = ((A.ak b t e).toReal : EReal))
    (hv : ∀ b t e, A.av b t e = ((A.av b t e).toReal : EReal))
    (hg : ∀ b t (l : Fin 128), l.val < 16 → A.bg b t l = ((A.bg b t l).toReal : EReal)) : A.Fine where
  q b t h i := tok_real _ b t _ fun t => hq b t _
  k b t h i := tok_real _ b t _ fun t => hk b t _
  v b t h i := tok_real _ b t _ fun t => hv b t _
  beta b t h := tok_real _ b t _ fun t => hg b t _ (by have := h.isLt; show h.val < 16; omega)
  gate b t h := tok_real _ b t _ fun t => hg b t _ (by have := h.isLt; show 8 + h.val < 16; omega)

end Cert.Finite

end
-- ==== Proof.PreSpec.lean ====
module

public import proofs.«01_k».proof.Proof.Spec

@[expose] public section

noncomputable section

/-! The first call's mathematics: the projections of a token, the two causal convolutions, the gates, and the seven results. -/

namespace Cert.PreSpec

open Idealize.ShloMosaic Cert.Spec

/-- The arguments, as functions of their indices. -/
structure Args where
  x : Fin 4 → Fin 8192 → Fin 1024 → EReal
  w : Fin 1024 → Fin 9232 → EReal
  dw : Fin 31 → Fin 1024 → EReal
  db : Fin 1024 → EReal
  lg : Fin 1024 → EReal
  lb : Fin 1024 → EReal
  wo : Fin 1024 → Fin 1024 → EReal
  gw : Fin 4 → Fin 3072 → EReal
  al : Fin 8 → EReal
  dt : Fin 8 → EReal

/-- The sum of `n + 1` terms, from the first on. -/
def taps : ℕ → (ℕ → EReal) → EReal
  | 0, f => f 0
  | n + 1, f => taps n f + f (n + 1)

theorem taps_congr {f g : ℕ → EReal} : ∀ n : ℕ, (∀ k ≤ n, f k = g k) → taps n f = taps n g
  | 0, h => h 0 le_rfl
  | n + 1, h => congrArg₂ (· + ·) (taps_congr n fun k hk => h k (by omega)) (h (n + 1) le_rfl)

def silu (x : EReal) : EReal := x * Ideal.logistic x

/-- The constant that scales the queries. -/
def scale : EReal := Ideal.ofBits .f32 0x3DB504F3#32

def softplus (z : EReal) : EReal := max z 0 + Ideal.log1p (Ideal.exp (0 - max z (-z)))

namespace Args

variable (A : Args) (b : Fin 4)

/-- Column `n` of the combined projection of token `t`. -/
def proj (t : ℕ) (n : Fin 9232) : EReal := ∑ e, tok A.x b t e * A.w e n

def act (t : ℕ) (c : Fin 1024) : EReal :=
  A.proj b t ⟨c, by omega⟩ * Ideal.logistic (A.proj b t ⟨1024 + c, by omega⟩)

def qkv (t : ℕ) (c : Fin 3072) : EReal := A.proj b t ⟨3072 + c, by omega⟩

/-- A row with `n` zeros before its first token. -/
def late {m : ℕ} (n : ℕ) (f : ℕ → Fin m → EReal) (i : ℕ) (c : Fin m) : EReal := if i < n then 0 else f (i - n) c

def conv (t : ℕ) (c : Fin 1024) : EReal :=
  taps 30 (fun k => late 30 (A.act b) (t + k) c * A.dw (Fin.ofNat 31 k) c) + A.db c

def gconv (t : ℕ) (c : Fin 3072) : EReal :=
  silu (taps 3 fun k => late 3 (A.qkv b) (t + k) c * A.gw (Fin.ofNat 4 k) c)

def yconf (t : ℕ) (d : Fin 1024) : EReal :=
  ∑ c, silu (lnorm (A.conv b t) A.lg A.lb c) * silu (A.proj b t ⟨2048 + c, by omega⟩) * A.wo c d

/-! The seven results. -/

def hc (t : ℕ) (d : Fin 1024) : EReal := Ideal.logistic (A.proj b t ⟨7184 + d, by omega⟩) * A.yconf b t d

def gg (t : ℕ) (d : Fin 1024) : EReal := Ideal.logistic (A.proj b t ⟨8208 + d, by omega⟩)

def gz (t : ℕ) (d : Fin 1024) : EReal := silu (A.proj b t ⟨6144 + d, by omega⟩)

/-- The head of 128 channels that is the `h`-th of all, divided by its length. -/
def normed (t : ℕ) (h : Fin 24) (i : Fin 128) : EReal :=
  A.gconv b t ⟨128 * h + i, by omega⟩
    * Ideal.rsqrt ((∑ j : Fin 128, A.gconv b t ⟨128 * h + j, by omega⟩ * A.gconv b t ⟨128 * h + j, by omega⟩) + e6)

def q (t : ℕ) (c : Fin 1024) : EReal := A.normed b t ⟨c / 128, by omega⟩ ⟨c % 128, by omega⟩ * scale

def k (t : ℕ) (c : Fin 1024) : EReal := A.normed b t ⟨8 + c / 128, by omega⟩ ⟨c % 128, by omega⟩

def v (t : ℕ) (c : Fin 1024) : EReal := A.gconv b t ⟨2048 + c, by omega⟩

def bg (t : ℕ) (l : Fin 128) : EReal :=
  if l.val < 8 then Ideal.logistic (A.proj b t ⟨7168 + l, by omega⟩)
  else if h : l.val < 16 then
    (0 - Ideal.exp (A.al ⟨l - 8, by omega⟩)) * softplus (A.proj b t ⟨7168 + l, by omega⟩ + A.dt ⟨l - 8, by omega⟩)
  else (0 - Ideal.exp 0) * softplus 0

end Args

end Cert.PreSpec

end
-- ==== Proof.PreBlocks.lean ====
module

public import proofs.«01_k».proof.Proof.PreSpec
public import Idealize.ShloMosaic.Lib.KernelVsHost
public import proofs.«01_k».proof.Proof.Gen.Kernel2Ideal.Value
public import Idealize.ShloMosaic.Lib.Pipeline.ValueKit
public import Idealize.ShloMosaic.Lib.Pipeline.ValueKit.Point

@[expose] public section

set_option maxRecDepth 16384

noncomputable section

/-! The first call's blocks, from its arguments. -/

namespace Cert.PreValue

open Idealize.ShloMosaic Idealize.ShloMosaic.TcCoe Cert.Kernel2Ideal Cert.Kernel2Ideal.Gen Idealize.ShloMosaic.Tactic

variable (m : (ℓ : Loc nD τ sig) → Buf (Elt Ideal) ℓ) (c : Dev nD)

/-- The arguments, as the specification takes them. -/
def args : PreSpec.Args where
  x b t e := m ((c : Thread nD τ).loc main_arg0) (ix3 b t e)
  w d n := m ((c : Thread nD τ).loc main_arg1) (ix2 d n)
  dw k e := m ((c : Thread nD τ).loc main_arg2) (ix2 k e)
  db e := m ((c : Thread nD τ).loc main_arg3) (ix1 e)
  lg e := m ((c : Thread nD τ).loc main_arg4) (ix1 e)
  lb e := m ((c : Thread nD τ).loc main_arg5) (ix1 e)
  wo d e := m ((c : Thread nD τ).loc main_arg6) (ix2 d e)
  gw k e := m ((c : Thread nD τ).loc main_arg7) (ix2 k e)
  al h := m ((c : Thread nD τ).loc main_arg8) (ix1 h)
  dt h := m ((c : Thread nD τ).loc main_arg9) (ix1 h)

theorem idx : ∀ t : Fin cfg0.N,
    win0_0.index t = ![t.val / 32, t.val % 32, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] :=
  (by decide +kernel : ∀ t : Fin grid0.N, _)

/-- The row of the batch a point works on. -/
def row (t : Fin cfg0.N) : Fin 4 := ⟨t.val / 32, by have := lt_of_lt_of_eq t.isLt (show cfg0.N = 128 from N_0); omega⟩

theorem bound (t : Fin cfg0.N) (r : Fin 256) : 256 * (t.val % 32) + r.val < 8192 := by omega

theorem blk_x (t : Fin cfg0.N) (r : Fin 256) (e : Fin 1024) :
    iblk m c 0 t (ix3 (n0 := 1) (n1 := 256) (n2 := 1024) 0 r e) = m ((c : Thread nD τ).loc main_arg0) (ix3 (row t) ⟨256 * (t.val % 32) + r.val, bound t r⟩ e) := by
  have e0 := (idx t).1
  blk_ext [iblk, V, e0, row]

theorem zero_word : (FloatOps.sitofp .f32 0#32 : Ideal .f32) = (0 : EReal) := sitofp_zero

theorem V_conf : V m c main_v1 = truncf (F := Ideal) (s := S1024x3072) (φ := .f32) .bf16 (extractStridedSlice S1024x3072 ![0, 0] (m ((c : Thread nD τ).loc main_arg1)) slices_S1024x9232_S1024x3072_0_0) bitsLt_bf16_f32 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_qkv : V m c main_v3 = truncf (F := Ideal) (s := S1024x3072) (φ := .f32) .bf16 (extractStridedSlice S1024x3072 ![0, 3072] (m ((c : Thread nD τ).loc main_arg1)) slices_S1024x9232_S1024x3072_0_3072) bitsLt_bf16_f32 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_gz : V m c main_v5 = truncf (F := Ideal) (s := S1024x1024) (φ := .f32) .bf16 (extractStridedSlice S1024x1024 ![0, 6144] (m ((c : Thread nD τ).loc main_arg1)) slices_S1024x9232_S1024x1024_0_6144) bitsLt_bf16_f32 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_gates : V m c main_v10 = truncf (F := Ideal) (s := S1024x2048) (φ := .f32) .bf16 (extractStridedSlice S1024x2048 ![0, 7184] (m ((c : Thread nD τ).loc main_arg1)) slices_S1024x9232_S1024x2048_0_7184) bitsLt_bf16_f32 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_ba : V m c main_v8 = truncf (F := Ideal) (s := S1024x128) (φ := .f32) .bf16 (pad S1024x128 ![0, 0] ![0, 112] ![0, 0] (extractStridedSlice S1024x16 ![0, 7168] (m ((c : Thread nD τ).loc main_arg1)) slices_S1024x9232_S1024x16_0_7168) (sitofp (F := Ideal) .f32 (constantI S_ 32 0#32)) pads_S1024x16_S1024x128_000_01120 h_S_) bitsLt_bf16_f32 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_dw : V m c main_v11 = pad (s := S31x1024) S32x1024 ![0, 0] ![1, 0] ![0, 0] (m ((c : Thread nD τ).loc main_arg2)) (sitofp (F := Ideal) .f32 (constantI S_ 32 0#32)) pads_S31x1024_S32x1024_010_000 h_S_ := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_gw : V m c main_v12 = pad (s := S4x3072) S8x3072 ![0, 0] ![4, 0] ![0, 0] (m ((c : Thread nD τ).loc main_arg7)) (sitofp (F := Ideal) .f32 (constantI S_ 32 0#32)) pads_S4x3072_S8x3072_040_000 h_S_ := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_al : V m c main_v14 = pad S1x128 ![0, 8] ![0, 112] ![0, 0] (shapeCast S1x8 (m ((c : Thread nD τ).loc main_arg8)) shapeCasts_S8_S1x8) (sitofp (F := Ideal) .f32 (constantI S_ 32 0#32)) pads_S1x8_S1x128_000_81120 h_S_ := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_dt : V m c main_v16 = pad S1x128 ![0, 8] ![0, 112] ![0, 0] (shapeCast S1x8 (m ((c : Thread nD τ).loc main_arg9)) shapeCasts_S8_S1x8) (sitofp (F := Ideal) .f32 (constantI S_ 32 0#32)) pads_S1x8_S1x128_000_81120 h_S_ := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_db : V m c main_v17 = shapeCast S1x1024 (m ((c : Thread nD τ).loc main_arg3)) shapeCasts_S1024_S1x1024 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_lg : V m c main_v18 = shapeCast S1x1024 (m ((c : Thread nD τ).loc main_arg4)) shapeCasts_S1024_S1x1024 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_lb : V m c main_v19 = shapeCast S1x1024 (m ((c : Thread nD τ).loc main_arg5)) shapeCasts_S1024_S1x1024 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem V_wo : V m c main_v20 = truncf (F := Ideal) (s := S1024x1024) (φ := .f32) .bf16 (m ((c : Thread nD τ).loc main_arg6)) bitsLt_bf16_f32 := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append]
  entry_read
  rfl

theorem blk_conf (t : Fin cfg0.N) (d : Fin 1024) (e : Fin 3072) :
    iblk m c 1 t (ix2 (n0 := 1024) (n1 := 3072) d e) = m ((c : Thread nD τ).loc main_arg1) (ix2 d ⟨e, by omega⟩) := by
  have e0 := (idx t).2.1
  have e1 : (win0_1.blk t).view.emb (ix2 d e) = ix2 d e := by blk_ext [e0]
  change V m c main_v1 ((win0_1.blk t).view.emb (ix2 d e)) = _
  rw [V_conf, e1]
  pointwise
  try simp only [zero_word]

theorem blk_qkv (t : Fin cfg0.N) (d : Fin 1024) (e : Fin 3072) :
    iblk m c 2 t (ix2 (n0 := 1024) (n1 := 3072) d e) = m ((c : Thread nD τ).loc main_arg1) (ix2 d ⟨3072 + e, by omega⟩) := by
  have e0 := (idx t).2.2.1
  have e1 : (win0_2.blk t).view.emb (ix2 d e) = ix2 d e := by blk_ext [e0]
  change V m c main_v3 ((win0_2.blk t).view.emb (ix2 d e)) = _
  rw [V_qkv, e1]
  pointwise
  try simp only [zero_word]

theorem blk_gz (t : Fin cfg0.N) (d : Fin 1024) (e : Fin 1024) :
    iblk m c 3 t (ix2 (n0 := 1024) (n1 := 1024) d e) = m ((c : Thread nD τ).loc main_arg1) (ix2 d ⟨6144 + e, by omega⟩) := by
  have e0 := (idx t).2.2.2.1
  have e1 : (win0_3.blk t).view.emb (ix2 d e) = ix2 d e := by blk_ext [e0]
  change V m c main_v5 ((win0_3.blk t).view.emb (ix2 d e)) = _
  rw [V_gz, e1]
  pointwise
  try simp only [zero_word]

theorem blk_gates (t : Fin cfg0.N) (d : Fin 1024) (e : Fin 2048) :
    iblk m c 5 t (ix2 (n0 := 1024) (n1 := 2048) d e) = m ((c : Thread nD τ).loc main_arg1) (ix2 d ⟨7184 + e, by omega⟩) := by
  have e0 := (idx t).2.2.2.2.2.1
  have e1 : (win0_5.blk t).view.emb (ix2 d e) = ix2 d e := by blk_ext [e0]
  change V m c main_v10 ((win0_5.blk t).view.emb (ix2 d e)) = _
  rw [V_gates, e1]
  pointwise
  try simp only [zero_word]

theorem blk_db (t : Fin cfg0.N) (e : Fin 1024) :
    iblk m c 7 t (ix2 (n0 := 1) (n1 := 1024) 0 e) = m ((c : Thread nD τ).loc main_arg3) (ix1 e) := by
  have e0 := (idx t).2.2.2.2.2.2.2.1
  have e1 : (win0_7.blk t).view.emb (ix2 0 e) = ix2 0 e := by blk_ext [e0]
  change V m c main_v17 ((win0_7.blk t).view.emb (ix2 0 e)) = _
  rw [V_db, e1]
  pointwise
  try simp only [zero_word]

theorem blk_lg (t : Fin cfg0.N) (e : Fin 1024) :
    iblk m c 8 t (ix2 (n0 := 1) (n1 := 1024) 0 e) = m ((c : Thread nD τ).loc main_arg4) (ix1 e) := by
  have e0 := (idx t).2.2.2.2.2.2.2.2.1
  have e1 : (win0_8.blk t).view.emb (ix2 0 e) = ix2 0 e := by blk_ext [e0]
  change V m c main_v18 ((win0_8.blk t).view.emb (ix2 0 e)) = _
  rw [V_lg, e1]
  pointwise
  try simp only [zero_word]

theorem blk_lb (t : Fin cfg0.N) (e : Fin 1024) :
    iblk m c 9 t (ix2 (n0 := 1) (n1 := 1024) 0 e) = m ((c : Thread nD τ).loc main_arg5) (ix1 e) := by
  have e0 := (idx t).2.2.2.2.2.2.2.2.2.1
  have e1 : (win0_9.blk t).view.emb (ix2 0 e) = ix2 0 e := by blk_ext [e0]
  change V m c main_v19 ((win0_9.blk t).view.emb (ix2 0 e)) = _
  rw [V_lb, e1]
  pointwise
  try simp only [zero_word]

theorem blk_wo (t : Fin cfg0.N) (d e : Fin 1024) :
    iblk m c 10 t (ix2 (n0 := 1024) (n1 := 1024) d e) = m ((c : Thread nD τ).loc main_arg6) (ix2 d e) := by
  have e0 := (idx t).2.2.2.2.2.2.2.2.2.2.1
  have e1 : (win0_10.blk t).view.emb (ix2 d e) = ix2 d e := by blk_ext [e0]
  change V m c main_v20 ((win0_10.blk t).view.emb (ix2 d e)) = _
  rw [V_wo, e1]
  pointwise
  try simp only [zero_word]

theorem blk_ba (t : Fin cfg0.N) (d : Fin 1024) (e : Fin 128) :
    iblk m c 4 t (ix2 (n0 := 1024) (n1 := 128) d e)
      = if h : e.val < 16 then m ((c : Thread nD τ).loc main_arg1) (ix2 d ⟨7168 + e, by omega⟩) else (0 : EReal) := by
  have e0 := (idx t).2.2.2.2.1
  have e1 : (win0_4.blk t).view.emb (ix2 d e) = ix2 d e := by blk_ext [e0]
  change V m c main_v8 ((win0_4.blk t).view.emb (ix2 d e)) = _
  rw [V_ba, e1]
  pointwise
  try simp only [zero_word]

theorem blk_dw (t : Fin cfg0.N) (k : Fin 31) (e : Fin 1024) :
    iblk m c 6 t (ix2 (n0 := 32) (n1 := 1024) ⟨k, by omega⟩ e) = m ((c : Thread nD τ).loc main_arg2) (ix2 k e) := by
  have e0 := (idx t).2.2.2.2.2.2.1
  have e1 : (win0_6.blk t).view.emb (ix2 ⟨k, by omega⟩ e) = ix2 ⟨k, by omega⟩ e := by blk_ext [e0]
  change V m c main_v11 ((win0_6.blk t).view.emb (ix2 ⟨k, by omega⟩ e)) = _
  rw [V_dw, e1]
  pointwise
  try simp only [zero_word]

theorem blk_gw (t : Fin cfg0.N) (k : Fin 4) (e : Fin 3072) :
    iblk m c 11 t (ix2 (n0 := 8) (n1 := 3072) ⟨k, by omega⟩ e) = m ((c : Thread nD τ).loc main_arg7) (ix2 k e) := by
  have e0 := (idx t).2.2.2.2.2.2.2.2.2.2.2.1
  have e1 : (win0_11.blk t).view.emb (ix2 ⟨k, by omega⟩ e) = ix2 ⟨k, by omega⟩ e := by blk_ext [e0]
  change V m c main_v12 ((win0_11.blk t).view.emb (ix2 ⟨k, by omega⟩ e)) = _
  rw [V_gw, e1]
  pointwise
  try simp only [zero_word]

theorem blk_al (t : Fin cfg0.N) (l : Fin 128) :
    iblk m c 12 t (ix2 (n0 := 1) (n1 := 128) 0 l)
      = if h : 8 ≤ l.val ∧ l.val - 8 < 8 then m ((c : Thread nD τ).loc main_arg8) (ix1 ⟨l - 8, by omega⟩) else (0 : EReal) := by
  have e0 := (idx t).2.2.2.2.2.2.2.2.2.2.2.2.1
  have e1 : (win0_12.blk t).view.emb (ix2 0 l) = ix2 0 l := by blk_ext [e0]
  change V m c main_v14 ((win0_12.blk t).view.emb (ix2 0 l)) = _
  rw [V_al, e1]
  pointwise
  try simp only [zero_word]

theorem blk_dt (t : Fin cfg0.N) (l : Fin 128) :
    iblk m c 13 t (ix2 (n0 := 1) (n1 := 128) 0 l)
      = if h : 8 ≤ l.val ∧ l.val - 8 < 8 then m ((c : Thread nD τ).loc main_arg9) (ix1 ⟨l - 8, by omega⟩) else (0 : EReal) := by
  have e0 := (idx t).2.2.2.2.2.2.2.2.2.2.2.2.2
  have e1 : (win0_13.blk t).view.emb (ix2 0 l) = ix2 0 l := by blk_ext [e0]
  change V m c main_v16 ((win0_13.blk t).view.emb (ix2 0 l)) = _
  rw [V_dt, e1]
  pointwise
  try simp only [zero_word]

end Cert.PreValue

end
-- ==== Proof.PreForm.lean ====
module

public import proofs.«01_k».proof.Proof.Gen.Kernel2Ideal.Skeleton
public import Idealize.ShloMosaic.Lib.WholeRead
public import Idealize.ShloMosaic.Lib.Pipeline.Frame

@[expose] public section

set_option maxRecDepth 16384

noncomputable section

/-! What one grid point of the first call stores: the two buffers its convolutions read, and its blocks of the seven results. -/

namespace Cert.Pre

open Idealize.ShloMosaic Cert.Kernel2Ideal Cert.Kernel2Ideal.Gen Idealize.ShloMosaic.Tactic

section

variable {F : FTy → Type} [FloatOps F]

/-! Bounds of the loads and stores. -/

theorem inbR (k : Fin 31) (g : Fin 8) (a : Fin S288x1024.rank) :
    (![2 + k.val, 128 * g.val] : Fin 2 → ℕ) a + S256x128.size a ≤ S288x1024.size a := by
  have := k.isLt; have := g.isLt
  fin_cases a <;> simp <;> omega

theorem inbW (k : Fin 31) (g : Fin 8) (a : Fin S32x1024.rank) :
    (![k.val, 128 * g.val] : Fin 2 → ℕ) a + S1x128.size a ≤ S32x1024.size a := by
  have := k.isLt; have := g.isLt
  fin_cases a <;> simp <;> omega

theorem inbR' (k : Fin 4) (g : Fin 24) (a : Fin S264x3072.rank) :
    (![5 + k.val, 128 * g.val] : Fin 2 → ℕ) a + S256x128.size a ≤ S264x3072.size a := by
  have := k.isLt; have := g.isLt
  fin_cases a <;> simp <;> omega

theorem inbW' (k : Fin 4) (g : Fin 24) (a : Fin S8x3072.rank) :
    (![k.val, 128 * g.val] : Fin 2 → ℕ) a + S1x128.size a ≤ S8x3072.size a := by
  have := k.isLt; have := g.isLt
  fin_cases a <;> simp <;> omega

theorem inbH (h : Fin 8) (a : Fin S1x256x1024.rank) :
    (![0, 0, 128 * h.val] : Fin 3 → ℕ) a + S1x256x128.size a ≤ S1x256x1024.size a := by
  have := h.isLt
  fin_cases a <;> simp <;> omega

theorem inbV (j : Fin 3) (a : Fin S1024x3072.rank) :
    (![0, 1024 * j.val] : Fin 2 → ℕ) a + S1024x1024.size a ≤ S1024x3072.size a := by
  have := j.isLt
  fin_cases a <;> simp <;> omega

theorem inbG (j : Fin 2) (a : Fin S1024x2048.rank) :
    (![0, 1024 * j.val] : Fin 2 → ℕ) a + S1024x1024.size a ≤ S1024x2048.size a := by
  have := j.isLt
  fin_cases a <;> simp <;> omega

theorem inbA0 (a : Fin S288x1024.rank) : (![0, 0] : Fin 2 → ℕ) a + S32x1024.size a ≤ S288x1024.size a := by
  fin_cases a <;> simp

theorem inbA1 (a : Fin S288x1024.rank) : (![32, 0] : Fin 2 → ℕ) a + S256x1024.size a ≤ S288x1024.size a := by
  fin_cases a <;> simp

theorem inbA2 (a : Fin S288x1024.rank) : (![256, 0] : Fin 2 → ℕ) a + S32x1024.size a ≤ S288x1024.size a := by
  fin_cases a <;> simp

theorem inbC0 (a : Fin S264x3072.rank) : (![0, 0] : Fin 2 → ℕ) a + S8x3072.size a ≤ S264x3072.size a := by
  fin_cases a <;> simp

theorem inbC1 (a : Fin S264x3072.rank) : (![8, 0] : Fin 2 → ℕ) a + S256x3072.size a ≤ S264x3072.size a := by
  fin_cases a <;> simp

theorem inbC2 (a : Fin S264x3072.rank) : (![256, 0] : Fin 2 → ℕ) a + S8x3072.size a ≤ S264x3072.size a := by
  fin_cases a <;> simp

/-! The computation, from what it loads. -/

/-- One product of a convolution. -/
def tap (a : Vec F S256x128 .f32) (w : Vec F S1x128 .f32) : FVec F S256x128 .f32 :=
  mulf a (broadcastTo S256x128 (shapeCast S1x128 w shapeCasts_S1x128_S1x128) broadcasts_S1x128_S256x128)

/-- The sum of `n + 1` products, from the first on. -/
def convV : ℕ → (ℕ → Vec F S256x128 .f32) → (ℕ → Vec F S1x128 .f32) → FVec F S256x128 .f32
  | 0, a, w => tap (a 0) (w 0)
  | n + 1, a, w => addf (convV n a w) (tap (a (n + 1)) (w (n + 1)))

def siluV (y : FVec F S256x128 .f32) : FVec F S256x128 .f32 := mulf y (logistic y)

def normV (y : FVec F S256x128 .f32) : FVec F S256x128 .f32 :=
  mulf y (broadcastTo S256x128 (rsqrt (addf (shapeCast S256x1 (multiReduction .add [1] S256 (mulf y y) 0x00000000#32 reduces_S256x128_S256 (.inl rfl) rfl) shapeCasts_S256_S256x1)
    (broadcast S256x1 (Scalar.ofBits .f32 0x358637BD#32)))) broadcasts_S256x1_S256x128)

def storeV (y : FVec F S256x128 .f32) : FVec F S1x256x128 .bf16 :=
  shapeCast S1x256x128 (truncf .bf16 y bitsLt_bf16_f32) shapeCasts_S256x128_S1x256x128

def qV (y : FVec F S256x128 .f32) : FVec F S1x256x128 .bf16 :=
  storeV (mulf (normV (siluV y)) (broadcast S256x128 (Scalar.ofBits .f32 0x3DB504F3#32)))

def kV (y : FVec F S256x128 .f32) : FVec F S1x256x128 .bf16 := storeV (normV (siluV y))

def vV (y : FVec F S256x128 .f32) : FVec F S1x256x128 .bf16 := storeV (siluV y)

/-- The wide convolution's eight groups side by side, and its bias. -/
def wideV (y : Fin 8 → FVec F S256x128 .f32) (db : Vec F S1x1024 .f32) : FVec F S256x1024 .f32 :=
  addf (concatenate S256x1024 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩]
      concatenates_S256x128_S256x128_S256x128_S256x128_S256x128_S256x128_S256x128_S256x128_S256x1024_d1)
    (broadcastTo S256x1024 (shapeCast S1x1024 db shapeCasts_S1x1024_S1x1024) broadcasts_S1x1024_S256x1024)

def hcV (x : Vec F S1x256x1024 .f32) (y : Fin 8 → FVec F S256x128 .f32) (db lg lb : Vec F S1x1024 .f32) (wz wo wg : Vec F S1024x1024 .bf16) :
    FVec F S1x256x1024 .bf16 :=
  k0_pay73 (k0_pay71 (k0_pay4 x) (wideV y db) lg lb wz wo) (k0_pay72 (k0_pay4 x) wg)

def bgV (x : Vec F S1x256x1024 .f32) (wb : Vec F S1024x128 .bf16) (dt al : Vec F S1x128 .f32) : FVec F S1x256x128 .f32 :=
  k0_pay1 (k0_pay119 (k0_pay4 x) wb) (k0_pay121 (k0_pay4 x) wb dt) (k0_pay122 (k0_pay4 x) wb dt) al

/-- Head `h` of part `j`, among the 24 of the three parts. -/
def grp (j : Fin 3) (h : Fin 8) : Fin 24 := ⟨8 * j.val + h.val, by omega⟩

/-- The heads, last first. -/
def heads : List (Fin 8) := [7, 6, 5, 4, 3, 2, 1, 0]

/-- The stores of eight heads, given what each stores. -/
def headsL (f : Fin 8 → FVec F S1x256x128 .bf16) : List (View.Piece (Elt F) S1x256x1024 .bf16) :=
  heads.map fun h => ⟨Rect.unit (s := S1x256x1024) ![0, 0, 128 * h.val] S1x256x128.size (inbH h), f h⟩

/-- The store of the tile's activations, and of its projections. -/
def pcA (p : FVec F S256x1024 .f32) : View.Piece (Elt F) S288x1024 .f32 :=
  ⟨Rect.unit (s := S288x1024) ![32, 0] S256x1024.size inbA1, p⟩

def pcC (p : FVec F S256x3072 .f32) : View.Piece (Elt F) S264x3072 .f32 :=
  ⟨Rect.unit (s := S264x3072) ![8, 0] S256x3072.size inbC1, p⟩

/-- The zeros before a row's first token. -/
def zA : View.Piece (Elt F) S288x1024 .f32 := ⟨Rect.unit (s := S288x1024) ![0, 0] S32x1024.size inbA0, k0_pay2⟩

def zC : View.Piece (Elt F) S264x3072 .f32 := ⟨Rect.unit (s := S264x3072) ![0, 0] S8x3072.size inbC0, k0_pay3⟩

/-- The buffer's last rows moved to its front. -/
def backA (M : Memref sig .tc .vmem S288x1024 .f32) (L : List (View.Piece (Elt F) S288x1024 .f32)) : View.Piece (Elt F) S288x1024 .f32 :=
  ⟨Rect.unit (s := S288x1024) ![0, 0] S32x1024.size inbA0, k0_pay70 (M.view.readCov L (Rect.unit (s := S288x1024) ![256, 0] S32x1024.size inbA2).toLoadRect)⟩

def backC (M : Memref sig .tc .vmem S264x3072 .f32) (L : List (View.Piece (Elt F) S264x3072 .f32)) : View.Piece (Elt F) S264x3072 .f32 :=
  ⟨Rect.unit (s := S264x3072) ![0, 0] S8x3072.size inbC0, k0_pay118 (M.view.readCov L (Rect.unit (s := S264x3072) ![256, 0] S8x3072.size inbC2).toLoadRect)⟩

/-! The loads. -/

/-- A row of weights' 128 columns. -/
def rdDw (M : Memref sig .tc .vmem S32x1024 .f32) (hM : M.IsWhole) (x : Vec F S32x1024 .f32) (g : Fin 8) (k : ℕ) : Vec F S1x128 .f32 :=
  View.readAt (Elt F) M.view (Rect.unit (s := S32x1024) ![(Fin.ofNat 31 k).val, 128 * g.val] S1x128.size (inbW (Fin.ofNat 31 k) g)).toLoadRect (hM.unread x)

def rdGw (M : Memref sig .tc .vmem S8x3072 .f32) (hM : M.IsWhole) (x : Vec F S8x3072 .f32) (g : Fin 24) (k : ℕ) : Vec F S1x128 .f32 :=
  View.readAt (Elt F) M.view (Rect.unit (s := S8x3072) ![(Fin.ofNat 4 k).val, 128 * g.val] S1x128.size (inbW' (Fin.ofNat 4 k) g)).toLoadRect (hM.unread x)

/-- The rows of the wide buffer that its `k`-th product reads: written wholly, or over earlier contents. -/
def rdA (M : Memref sig .tc .vmem S288x1024 .f32) (L : List (View.Piece (Elt F) S288x1024 .f32)) (g : Fin 8) (k : ℕ) : Vec F S256x128 .f32 :=
  M.view.readCov L (Rect.unit (s := S288x1024) ![2 + (Fin.ofNat 31 k).val, 128 * g.val] S256x128.size (inbR (Fin.ofNat 31 k) g)).toLoadRect

def rdA' (M : Memref sig .tc .vmem S288x1024 .f32) (hM : M.IsWhole) (x : Vec F S288x1024 .f32) (L : List (View.Piece (Elt F) S288x1024 .f32)) (g : Fin 8) (k : ℕ) :
    Vec F S256x128 .f32 :=
  if k = 30 then rdA M L g k else
  View.readAt (Elt F) M.view (Rect.unit (s := S288x1024) ![2 + (Fin.ofNat 31 k).val, 128 * g.val] S256x128.size (inbR (Fin.ofNat 31 k) g)).toLoadRect
    (M.view.writes (Elt F) (hM.unread x) L)

def rdC (M : Memref sig .tc .vmem S264x3072 .f32) (L : List (View.Piece (Elt F) S264x3072 .f32)) (g : Fin 24) (k : ℕ) : Vec F S256x128 .f32 :=
  M.view.readCov L (Rect.unit (s := S264x3072) ![5 + (Fin.ofNat 4 k).val, 128 * g.val] S256x128.size (inbR' (Fin.ofNat 4 k) g)).toLoadRect

def rdC' (M : Memref sig .tc .vmem S264x3072 .f32) (hM : M.IsWhole) (x : Vec F S264x3072 .f32) (L : List (View.Piece (Elt F) S264x3072 .f32)) (g : Fin 24) (k : ℕ) :
    Vec F S256x128 .f32 :=
  if k = 3 then rdC M L g k else
  View.readAt (Elt F) M.view (Rect.unit (s := S264x3072) ![5 + (Fin.ofNat 4 k).val, 128 * g.val] S256x128.size (inbR' (Fin.ofNat 4 k) g)).toLoadRect
    (M.view.writes (Elt F) (hM.unread x) L)

def rdX (M : Memref sig .tc .vmem S1x256x1024 .f32) (hM : M.IsWhole) (x : Vec F S1x256x1024 .f32) : Vec F S1x256x1024 .f32 :=
  View.readAt (Elt F) M.view (Rect.unit (s := S1x256x1024) ![0, 0, 0] S1x256x1024.size inb_S1x256x1024_S1x256x1024_0_0_0).toLoadRect (hM.unread x)

def rdV (M : Memref sig .tc .vmem S1024x3072 .bf16) (hM : M.IsWhole) (x : Vec F S1024x3072 .bf16) (j : Fin 3) : Vec F S1024x1024 .bf16 :=
  View.readAt (Elt F) M.view (Rect.unit (s := S1024x3072) ![0, 1024 * j.val] S1024x1024.size (inbV j)).toLoadRect (hM.unread x)

def rdG (M : Memref sig .tc .vmem S1024x2048 .bf16) (hM : M.IsWhole) (x : Vec F S1024x2048 .bf16) (j : Fin 2) : Vec F S1024x1024 .bf16 :=
  View.readAt (Elt F) M.view (Rect.unit (s := S1024x2048) ![0, 1024 * j.val] S1024x1024.size (inbG j)).toLoadRect (hM.unread x)

/-- A matrix loaded whole. -/
def rdM {n0 n1 : ℕ} {e : EltTy} (M : Memref sig .tc .vmem ⟨2, ![n0, n1]⟩ e) (hM : M.IsWhole) (x : Vec F ⟨2, ![n0, n1]⟩ e)
    (inb : ∀ k : Fin 2, (![0, 0] : Fin 2 → ℕ) k + (![n0, n1] : Fin 2 → ℕ) k ≤ (![n0, n1] : Fin 2 → ℕ) k) : Vec F ⟨2, ![n0, n1]⟩ e :=
  View.readAt (Elt F) M.view (Rect.unit (s := ⟨2, ![n0, n1]⟩) ![0, 0] ![n0, n1] inb).toLoadRect (hM.unread x)

end

end Cert.Pre

end
-- ==== Proof.PreTile.lean ====
module

public import proofs.«01_k».proof.Proof.PreForm
public import proofs.«01_k».proof.Proof.PreSpec
public import Idealize.ShloMosaic.Lib.Pointwise
public import Idealize.ShloMosaic.Lib.WritesUnit
public import Idealize.ShloMosaic.Lib.Pipeline.ValueKit

@[expose] public section

set_option maxRecDepth 16384

noncomputable section

/-! What a grid point of the first call computes, at an entry, over the extended reals. -/

namespace Cert.Pre

open Idealize.ShloMosaic Cert.Kernel2Ideal Cert.Kernel2Ideal.Gen Idealize.ShloMosaic.Tactic PreSpec

section

variable (X : Vec Ideal S1x256x1024 .f32)

theorem act_at (W0 W1 : Vec Ideal S1024x1024 .bf16) (r : Fin 256) (c : Fin 1024) :
    k0_pay5 X W0 W1 (ix2 r c) = (∑ e, X (ix3 0 r e) * W0 (ix2 e c)) * Ideal.logistic (∑ e, X (ix3 0 r e) * W1 (ix2 e c)) := by
  pointwise [k0_pay5, k0_pay4]
  try rfl

theorem qkv_at (W : Vec Ideal S1024x3072 .bf16) (r : Fin 256) (c : Fin 3072) :
    k0_pay76 (k0_pay4 X) W (ix2 r c) = ∑ e, X (ix3 0 r e) * W (ix2 e c) := by
  pointwise [k0_pay76, k0_pay4]
  try rfl

theorem gz_at (W : Vec Ideal S1024x1024 .bf16) (r : Fin 256) (c : Fin 1024) :
    k0_pay75 (k0_pay4 X) W (ix3 0 r c) = silu (∑ e, X (ix3 0 r e) * W (ix2 e c)) := by
  rw [silu]
  pointwise [k0_pay75, k0_pay4]
  try rfl

theorem gg_at (W : Vec Ideal S1024x1024 .bf16) (r : Fin 256) (c : Fin 1024) :
    k0_pay74 (k0_pay4 X) W (ix3 0 r c) = Ideal.logistic (∑ e, X (ix3 0 r e) * W (ix2 e c)) := by
  pointwise [k0_pay74, k0_pay4]
  try rfl

theorem bg_at (W : Vec Ideal S1024x128 .bf16) (dt al : Vec Ideal S1x128 .f32) (r : Fin 256) (l : Fin 128) :
    bgV X W dt al (ix3 0 r l) = if l.val < 8 then Ideal.logistic (∑ e, X (ix3 0 r e) * W (ix2 e l))
      else (0 - Ideal.exp (al (ix2 0 l))) * softplus ((∑ e, X (ix3 0 r e) * W (ix2 e l)) + dt (ix2 0 l)) := by
  rw [softplus]
  pointwise [bgV, k0_pay1, k0_pay119, k0_pay120, k0_pay121, k0_pay122, k0_pay4]
  have h8 : ∀ l : Fin 128, IntOp.cmpi .slt (BitVec.ofNat 32 l) 8#32 = if l.val < 8 then 1#1 else 0#1 := by decide
  rw [h8]
  split_ifs <;> rfl

theorem conv_at (a : ℕ → Vec Ideal S256x128 .f32) (w : ℕ → Vec Ideal S1x128 .f32) (r : Fin 256) (l : Fin 128) :
    ∀ n, convV n a w (ix2 r l) = taps n fun k => a k (ix2 r l) * w k (ix2 0 l) := by
  have h : ∀ k, tap (a k) (w k) (ix2 r l) = a k (ix2 r l) * w k (ix2 0 l) := by
    intro k
    pointwise [tap]
  intro n
  induction n with
  | zero => exact h 0
  | succ n ih => exact congrArg₂ (· + ·) ih (h (n + 1))

theorem wide_at (y : Fin 8 → FVec Ideal S256x128 .f32) (db : Vec Ideal S1x1024 .f32) (r : Fin 256) (c : Fin 1024) :
    wideV y db (ix2 r c) = y ⟨c / 128, by omega⟩ (ix2 r ⟨c % 128, by omega⟩) + db (ix2 0 c) := by
  pointwise [wideV]
  refine congrArg (· + _) ?_
  split_ifs <;> refine congr (congrArg y (Fin.ext ?_)) (congrArg (ix2 r) (Fin.ext ?_)) <;> dsimp <;> omega

theorem hc_at (y : Fin 8 → FVec Ideal S256x128 .f32) (db lg lb : Vec Ideal S1x1024 .f32) (wz wo wg : Vec Ideal S1024x1024 .bf16) (r : Fin 256) (d : Fin 1024) :
    hcV X y db lg lb wz wo wg (ix3 0 r d) = Ideal.logistic (∑ e, X (ix3 0 r e) * wg (ix2 e d))
      * ∑ c, silu (Spec.lnorm (fun c => wideV y db (ix2 r c)) (fun c => lg (ix2 0 c)) (fun c => lb (ix2 0 c)) c)
          * silu (∑ e, X (ix3 0 r e) * wz (ix2 e c)) * wo (ix2 c d) := by
  rw [hcV]
  generalize wideV y db = Y
  pointwise [k0_pay71, k0_pay72, k0_pay73, k0_pay4]
  try rfl

theorem silu_at (y : FVec Ideal S256x128 .f32) (r : Fin 256) (l : Fin 128) : siluV y (ix2 r l) = silu (y (ix2 r l)) := by
  pointwise [siluV]
  try rfl

theorem norm_at (y : FVec Ideal S256x128 .f32) (r : Fin 256) (l : Fin 128) :
    normV y (ix2 r l) = y (ix2 r l) * Ideal.rsqrt ((∑ j, y (ix2 r j) * y (ix2 r j)) + Spec.e6) := by
  pointwise [normV]
  try rfl

theorem k_at (y : FVec Ideal S256x128 .f32) (r : Fin 256) (l : Fin 128) : kV y (ix3 0 r l) = normV (siluV y) (ix2 r l) := by
  generalize e : normV (siluV y) = z
  pointwise [kV, storeV, e]

theorem q_at (y : FVec Ideal S256x128 .f32) (r : Fin 256) (l : Fin 128) : qV y (ix3 0 r l) = normV (siluV y) (ix2 r l) * scale := by
  generalize e : normV (siluV y) = z
  pointwise [qV, storeV, e]
  try rfl

theorem v_at (y : FVec Ideal S256x128 .f32) (r : Fin 256) (l : Fin 128) : vV y (ix3 0 r l) = siluV y (ix2 r l) := by
  generalize e : siluV y = z
  pointwise [vV, storeV, e]

end

theorem mem_heads (h : Fin 8) : h ∈ heads := by fin_cases h <;> simp [heads]

/-- Eight heads stored side by side. -/
theorem heads_at (f : Fin 8 → FVec Ideal S1x256x128 .bf16) (r : Fin 256) (c : Fin 1024) :
    View.canon (headsL f) (ix3 (n0 := 1) (n1 := 256) (n2 := 1024) 0 r c) = f ⟨c / 128, by omega⟩ (ix3 0 r ⟨c % 128, by omega⟩) := by
  let G : S1x256x1024.Idx → EReal := fun y =>
    f ⟨(y 2).val / 128, by have : (y 2).val < 1024 := (y 2).isLt; omega⟩
      (ix3 (n0 := 1) (n1 := 256) (n2 := 128) 0 (y 1) ⟨(y 2).val % 128, by omega⟩)
  refine View.canon_apply_of_pieces G (headsL f) ?_ _ ?_
  · intro p hp x
    obtain ⟨h, _, rfl⟩ := List.mem_map.1 hp
    have e1 := ValueKit.rect_emb_unit_val (s := S1x256x1024) _ _ (inbH h) x 1
    have e2 := ValueKit.rect_emb_unit_val (s := S1x256x1024) _ _ (inbH h) x 2
    have h2 : (x 2).val < 128 := (x 2).isLt
    have h0 : (x 0).val < 1 := (x 0).isLt
    change _ = 0 + (x 1).val at e1
    change _ = 128 * h.val + (x 2).val at e2
    show f h x = f _ _
    refine congr (congrArg f (Fin.ext ?_)) (funext fun a => Fin.ext ?_)
    · show h.val = _ / 128
      rw [e2]; omega
    · fin_cases a
      · show (x 0).val = 0; omega
      · exact (e1.trans (Nat.zero_add _)).symm
      · exact (show (x 2).val = (128 * h.val + (x 2).val) % 128 by omega).trans (congrArg (· % 128) e2.symm)
  · refine ⟨_, List.mem_map.2 ⟨⟨c / 128, by omega⟩, mem_heads _, rfl⟩, ?_⟩
    refine (Rect.mem_set_unit (s := S1x256x1024) (inb := inbH _)).2 fun a => ?_
    fin_cases a
    · show 0 ≤ 0 ∧ 0 < 0 + 1; omega
    · show 0 ≤ r.val ∧ r.val < 0 + 256; omega
    · show 128 * (c.val / 128) ≤ c.val ∧ c.val < 128 * (c.val / 128) + 128; omega

end Cert.Pre

end
-- ==== Proof.PreRead.lean ====
module

public import proofs.«01_k».proof.Proof.PreTile

@[expose] public section

set_option maxRecDepth 16384

noncomputable section

/-! What the first call's loads read, at an entry: its blocks, and the rows of its two buffers. -/

namespace Cert.Pre

open Idealize.ShloMosaic Cert.Kernel2Ideal Cert.Kernel2Ideal.Gen Idealize.ShloMosaic.Tactic PreSpec

/-- The index of a rectangle's entry. -/
theorem unit_idx {n0 n1 m0 m1 : ℕ} (a b : ℕ) (inb : ∀ k : Fin 2, (![a, b] : Fin 2 → ℕ) k + (![m0, m1] : Fin 2 → ℕ) k ≤ (![n0, n1] : Fin 2 → ℕ) k)
    (i : Fin m0) (j : Fin m1) (hi : a + i < n0) (hj : b + j < n1) :
    (Rect.unit (s := ⟨2, ![n0, n1]⟩) ![a, b] ![m0, m1] inb).toLoadRect.idx (ix2 i j) = ix2 ⟨a + i, hi⟩ ⟨b + j, hj⟩ := by
  refine funext fun k => Fin.ext ?_
  refine (ValueKit.rect_emb_unit_val (s := ⟨2, ![n0, n1]⟩) _ _ inb (ix2 i j) k).trans ?_
  fin_cases k <;> rfl

theorem load2 {n0 n1 m0 m1 : ℕ} {e : EltTy} (M : Memref sig .tc .vmem ⟨2, ![n0, n1]⟩ e) (hM : M.IsWhole)
    (x : Vec Ideal ⟨2, ![n0, n1]⟩ e) (a b : ℕ) (inb : ∀ k : Fin 2, (![a, b] : Fin 2 → ℕ) k + (![m0, m1] : Fin 2 → ℕ) k ≤ (![n0, n1] : Fin 2 → ℕ) k)
    (i : Fin m0) (j : Fin m1) (hi : a + i < n0) (hj : b + j < n1) :
    View.readAt (Elt Ideal) M.view (Rect.unit (s := ⟨2, ![n0, n1]⟩) ![a, b] ![m0, m1] inb).toLoadRect (hM.unread x) (ix2 i j)
      = x (ix2 ⟨a + i, hi⟩ ⟨b + j, hj⟩) := by
  rw [View.readAt_apply, hM.read_unread, unit_idx a b inb i j hi hj]

theorem rdX_at (M : Memref sig .tc .vmem S1x256x1024 .f32) (hM : M.IsWhole) (x : Vec Ideal S1x256x1024 .f32) (r : Fin 256) (e : Fin 1024) :
    rdX M hM x (ix3 0 r e) = x (ix3 0 r e) := by
  rw [rdX, View.readAt_apply, hM.read_unread]
  refine congrArg x (funext fun k => Fin.ext ?_)
  refine (ValueKit.rect_emb_unit_val (s := S1x256x1024) _ _ inb_S1x256x1024_S1x256x1024_0_0_0 (ix3 (n0 := 1) (n1 := 256) (n2 := 1024) 0 r e) k).trans ?_
  fin_cases k <;> simp

theorem rdM_at {n0 n1 : ℕ} {e : EltTy} (M : Memref sig .tc .vmem ⟨2, ![n0, n1]⟩ e) (hM : M.IsWhole) (x : Vec Ideal ⟨2, ![n0, n1]⟩ e)
    (inb : ∀ k : Fin 2, (![0, 0] : Fin 2 → ℕ) k + (![n0, n1] : Fin 2 → ℕ) k ≤ (![n0, n1] : Fin 2 → ℕ) k) (i : Fin n0) (j : Fin n1) :
    rdM M hM x inb (ix2 i j) = x (ix2 i j) := by
  refine (load2 M hM x 0 0 inb i j (by omega) (by omega)).trans (congrArg x (congr (congrArg ix2 (Fin.ext ?_)) (Fin.ext ?_))) <;> exact Nat.zero_add _

theorem rdV_at (M : Memref sig .tc .vmem S1024x3072 .bf16) (hM : M.IsWhole) (x : Vec Ideal S1024x3072 .bf16) (j : Fin 3) (d e : Fin 1024) :
    rdV M hM x j (ix2 d e) = x (ix2 d ⟨1024 * j + e, by omega⟩) :=
  (load2 M hM x 0 (1024 * j.val) (inbV j) d e (by omega) (by omega)).trans (congrArg x (congrArg (ix2 · _) (Fin.ext (Nat.zero_add _))))

theorem rdG_at (M : Memref sig .tc .vmem S1024x2048 .bf16) (hM : M.IsWhole) (x : Vec Ideal S1024x2048 .bf16) (j : Fin 2) (d e : Fin 1024) :
    rdG M hM x j (ix2 d e) = x (ix2 d ⟨1024 * j + e, by omega⟩) :=
  (load2 M hM x 0 (1024 * j.val) (inbG j) d e (by omega) (by omega)).trans (congrArg x (congrArg (ix2 · _) (Fin.ext (Nat.zero_add _))))

theorem rdDw_at (M : Memref sig .tc .vmem S32x1024 .f32) (hM : M.IsWhole) (x : Vec Ideal S32x1024 .f32) (g : Fin 8) (k : ℕ) (l : Fin 128) :
    rdDw M hM x g k (ix2 0 l) = x (ix2 ⟨(Fin.ofNat 31 k).val, by omega⟩ ⟨128 * g + l, by omega⟩) :=
  load2 M hM x _ (128 * g.val) (inbW _ g) 0 l (by show (Fin.ofNat 31 k).val + 0 < 32; omega) (by omega)

theorem rdGw_at (M : Memref sig .tc .vmem S8x3072 .f32) (hM : M.IsWhole) (x : Vec Ideal S8x3072 .f32) (g : Fin 24) (k : ℕ) (l : Fin 128) :
    rdGw M hM x g k (ix2 0 l) = x (ix2 ⟨(Fin.ofNat 4 k).val, by omega⟩ ⟨128 * g + l, by omega⟩) :=
  load2 M hM x _ (128 * g.val) (inbW' _ g) 0 l (by show (Fin.ofNat 4 k).val + 0 < 8; omega) (by omega)

/-! A buffer of `H` rows from before the tile, and the tile's 256. -/

section

variable {κ : Kind} {sp : Space} {N m H : ℕ} (v : View sig κ sp ⟨2, ![N, m]⟩ .f32) (f : v.ty.Contents (Elt Ideal))
variable {L : List (View.Piece (Elt Ideal) ⟨2, ![N, m]⟩ .f32)} {F : ℕ → Fin m → EReal} {T : ℕ}

theorem new_rows (inb : ∀ a : Fin 2, (![H, 0] : Fin 2 → ℕ) a + (![256, m] : Fin 2 → ℕ) a ≤ (![N, m] : Fin 2 → ℕ) a)
    (P : (⟨2, ![256, m]⟩ : Shape).Idx → EReal) (hP : ∀ r c, P (ix2 r c) = F (T + r.val) c) (i : Fin N) (j : Fin m) (h : H ≤ i.val) (hi : i.val < H + 256) :
    v.read (Elt Ideal) (v.writes (Elt Ideal) f (⟨Rect.unit (s := ⟨2, ![N, m]⟩) ![H, 0] ![256, m] inb, P⟩ :: L)) (ix2 i j)
      = Args.late H F (T + i) j := by
  refine (View.read_writes_cons_rows_of_mem (o := H) v f inb P L (ix2 i j) (ix2 ⟨i - H, by omega⟩ j) rfl ?_ rfl).trans ?_
  · show i.val = H + (i.val - H); omega
  · rw [hP, Args.late, if_neg (by omega)]
    exact congrArg (F · j) (by show T + (i.val - H) = _; omega)

theorem old_rows (inb : ∀ a : Fin 2, (![H, 0] : Fin 2 → ℕ) a + (![256, m] : Fin 2 → ℕ) a ≤ (![N, m] : Fin 2 → ℕ) a)
    (P : (⟨2, ![256, m]⟩ : Shape).Idx → EReal) (i : Fin N) (j : Fin m) (h : i.val < H) :
    v.read (Elt Ideal) (v.writes (Elt Ideal) f (⟨Rect.unit (s := ⟨2, ![N, m]⟩) ![H, 0] ![256, m] inb, P⟩ :: L)) (ix2 i j)
      = v.read (Elt Ideal) (v.writes (Elt Ideal) f L) (ix2 i j) :=
  View.read_writes_cons_rows_of_not_mem (o := H) (W := 256) v f inb P L (ix2 i j) rfl rfl (.inl h)

/-- The rows before the tile's, just stored. -/
theorem first_rows (inb : ∀ a : Fin 2, (![0, 0] : Fin 2 → ℕ) a + (![H, m] : Fin 2 → ℕ) a ≤ (![N, m] : Fin 2 → ℕ) a)
    (P : (⟨2, ![H, m]⟩ : Shape).Idx → EReal) (i : Fin N) (j : Fin m) (h : i.val < H) :
    v.read (Elt Ideal) (v.writes (Elt Ideal) f (⟨Rect.unit (s := ⟨2, ![N, m]⟩) ![0, 0] ![H, m] inb, P⟩ :: L)) (ix2 i j)
      = P (ix2 ⟨i, h⟩ j) :=
  View.read_writes_cons_rows_of_mem (o := 0) v f inb P L (ix2 i j) (ix2 ⟨i, h⟩ j) rfl (Nat.zero_add _).symm rfl

theorem all_rows (hN : N = H + 256) (inb : ∀ a : Fin 2, (![H, 0] : Fin 2 → ℕ) a + (![256, m] : Fin 2 → ℕ) a ≤ (![N, m] : Fin 2 → ℕ) a)
    (P : (⟨2, ![256, m]⟩ : Shape).Idx → EReal) (hP : ∀ r c, P (ix2 r c) = F (T + r.val) c)
    (hL : ∀ (i : Fin N) j, i.val < H → v.read (Elt Ideal) (v.writes (Elt Ideal) f L) (ix2 i j) = Args.late H F (T + i) j) (i : Fin N) (j : Fin m) :
    v.read (Elt Ideal) (v.writes (Elt Ideal) f (⟨Rect.unit (s := ⟨2, ![N, m]⟩) ![H, 0] ![256, m] inb, P⟩ :: L)) (ix2 i j)
      = Args.late H F (T + i) j := by
  by_cases h : i.val < H
  · exact (old_rows v f inb P i j h).trans (hL i j h)
  · exact new_rows v f inb P hP i j (by omega) (by omega)

end

theorem late_shift {m : ℕ} (F : ℕ → Fin m → EReal) (n d t : ℕ) (c : Fin m) : Args.late (n + d) F (t + d) c = Args.late n F t c := by
  rw [Args.late, Args.late]
  exact if_congr (by omega) rfl (congrArg (F · c) (by omega))

theorem zA_at (r : Fin 32) (c : Fin 1024) : (k0_pay2 : FVec Ideal S32x1024 .f32) (ix2 r c) = (0 : EReal) := by
  pointwise [k0_pay2]

theorem zC_at (r : Fin 8) (c : Fin 3072) : (k0_pay3 : FVec Ideal S8x3072 .f32) (ix2 r c) = (0 : EReal) := by
  pointwise [k0_pay3]

section

variable {T : ℕ}

section Wide

variable {F : ℕ → Fin 1024 → EReal} {M : Memref sig .tc .vmem S288x1024 .f32} {hM : M.IsWhole} {x : Vec Ideal S288x1024 .f32}
variable {p : FVec Ideal S256x1024 .f32} (hp : ∀ r c, p (ix2 r c) = F (T + r.val) c)

include hp in
theorem rdA_first (hT : T = 0) (g : Fin 8) (k : ℕ) (hk : k ≤ 30) (r : Fin 256) (l : Fin 128) :
    rdA M [pcA p, zA] g k (ix2 r l) = Args.late 30 F (T + r + k) ⟨128 * g + l, by omega⟩ := by
  have e : (Fin.ofNat 31 k).val = k := Nat.mod_eq_of_lt (by omega)
  refine (congrArg (M.view.read _ _) (unit_idx _ _ (inbR _ g) r l (by rw [e]; omega) (by omega))).trans ?_
  refine (all_rows M.view M.view.junk (H := 32) rfl inbA1 p hp ?_ _ _).trans ?_
  · intro i j h
    refine (first_rows (H := 32) M.view M.view.junk inbA0 (k0_pay2 : FVec Ideal S32x1024 .f32) i j h).trans ((zA_at _ _).trans ?_)
    rw [Args.late, if_pos (by omega)]
  · rw [← late_shift F 30 2]
    exact congrArg (Args.late 32 F · _) (by show T + (2 + (Fin.ofNat 31 k).val + r.val) = _; rw [e]; omega)

include hp in
theorem rdA_later (hx : ∀ (i : Fin 288) j, i.val < 32 → x (ix2 i j) = Args.late 32 F (T + i) j) (g : Fin 8) (k : ℕ) (hk : k ≤ 30) (r : Fin 256) (l : Fin 128) :
    rdA' M hM x [pcA p] g k (ix2 r l) = Args.late 30 F (T + r + k) ⟨128 * g + l, by omega⟩ := by
  have e : (Fin.ofNat 31 k).val = k := Nat.mod_eq_of_lt (by omega)
  have e2 : Args.late 32 F (T + (⟨2 + (Fin.ofNat 31 k).val + r.val, by rw [e]; omega⟩ : Fin 288).val) ⟨128 * g + l, by omega⟩
      = Args.late 30 F (T + r + k) ⟨128 * g + l, by omega⟩ := by
    rw [← late_shift F 30 2]
    exact congrArg (Args.late 32 F · _) (by show T + (2 + (Fin.ofNat 31 k).val + r.val) = _; rw [e]; omega)
  rw [rdA']
  split_ifs with h
  · refine (congrArg (M.view.read _ _) (unit_idx _ _ (inbR _ g) r l (by rw [e]; omega) (by omega))).trans ?_
    exact (new_rows M.view M.view.junk (H := 32) inbA1 p hp _ _ (by show 32 ≤ 2 + (Fin.ofNat 31 k).val + r.val; rw [e]; omega)
      (by show 2 + (Fin.ofNat 31 k).val + r.val < 32 + 256; rw [e]; omega)).trans e2
  · refine (congrArg (M.view.read _ _) (unit_idx _ _ (inbR _ g) r l (by rw [e]; omega) (by omega))).trans ?_
    refine (all_rows M.view (hM.unread x) (H := 32) rfl inbA1 p hp ?_ _ _).trans e2
    intro i j h
    exact (congrFun (hM.read_unread x) _).trans (hx i j h)

include hp in
/-- The rows the point leaves for the next. -/
theorem backA_left {κ : Kind} {sp : Space} (v : View sig κ sp S288x1024 .f32) (f : v.ty.Contents (Elt Ideal)) (L : List (View.Piece (Elt Ideal) S288x1024 .f32)) (i : Fin 288)
    (j : Fin 1024) (h : i.val < 32) :
    v.read (Elt Ideal) (v.writes (Elt Ideal) f (backA M (pcA p :: L) :: pcA p :: L)) (ix2 i j) = Args.late 32 F (T + 256 + i) j := by
  refine (first_rows (H := 32) v f inbA0 _ i j h).trans ?_
  have e : ∀ z : Vec Ideal S32x1024 .f32, k0_pay70 z (ix2 ⟨i, h⟩ j) = z (ix2 ⟨i, h⟩ j) := by
    intro z
    pointwise [k0_pay70]
  refine (e _).trans ?_
  refine (congrArg (M.view.read _ _) (unit_idx 256 0 inbA2 (⟨i, h⟩ : Fin 32) j (by show 256 + i.val < 288; omega) (by omega))).trans ?_
  refine (new_rows M.view M.view.junk (H := 32) inbA1 p hp _ _ (by show 32 ≤ 256 + i.val; omega) (by show 256 + i.val < 32 + 256; omega)).trans ?_
  exact congr (congrArg (Args.late 32 F) (by show T + (256 + i.val) = _; omega)) (Fin.ext (Nat.zero_add _))

end Wide

section Narrow

variable {F : ℕ → Fin 3072 → EReal} {M : Memref sig .tc .vmem S264x3072 .f32} {hM : M.IsWhole} {x : Vec Ideal S264x3072 .f32}
variable {p : FVec Ideal S256x3072 .f32} (hp : ∀ r c, p (ix2 r c) = F (T + r.val) c)

include hp in
theorem rdC_first (hT : T = 0) (g : Fin 24) (k : ℕ) (hk : k ≤ 3) (r : Fin 256) (l : Fin 128) :
    rdC M [pcC p, zC] g k (ix2 r l) = Args.late 3 F (T + r + k) ⟨128 * g + l, by omega⟩ := by
  have e : (Fin.ofNat 4 k).val = k := Nat.mod_eq_of_lt (by omega)
  refine (congrArg (M.view.read _ _) (unit_idx _ _ (inbR' _ g) r l (by rw [e]; omega) (by omega))).trans ?_
  refine (all_rows M.view M.view.junk (H := 8) rfl inbC1 p hp ?_ _ _).trans ?_
  · intro i j h
    refine (first_rows (H := 8) M.view M.view.junk inbC0 (k0_pay3 : FVec Ideal S8x3072 .f32) i j h).trans ((zC_at _ _).trans ?_)
    rw [Args.late, if_pos (by omega)]
  · rw [← late_shift F 3 5]
    exact congrArg (Args.late 8 F · _) (by show T + (5 + (Fin.ofNat 4 k).val + r.val) = _; rw [e]; omega)

include hp in
theorem rdC_later (hx : ∀ (i : Fin 264) j, i.val < 8 → x (ix2 i j) = Args.late 8 F (T + i) j) (g : Fin 24) (k : ℕ) (hk : k ≤ 3) (r : Fin 256) (l : Fin 128) :
    rdC' M hM x [pcC p] g k (ix2 r l) = Args.late 3 F (T + r + k) ⟨128 * g + l, by omega⟩ := by
  have e : (Fin.ofNat 4 k).val = k := Nat.mod_eq_of_lt (by omega)
  have e2 : Args.late 8 F (T + (⟨5 + (Fin.ofNat 4 k).val + r.val, by rw [e]; omega⟩ : Fin 264).val) ⟨128 * g + l, by omega⟩
      = Args.late 3 F (T + r + k) ⟨128 * g + l, by omega⟩ := by
    rw [← late_shift F 3 5]
    exact congrArg (Args.late 8 F · _) (by show T + (5 + (Fin.ofNat 4 k).val + r.val) = _; rw [e]; omega)
  rw [rdC']
  split_ifs with h
  · refine (congrArg (M.view.read _ _) (unit_idx _ _ (inbR' _ g) r l (by rw [e]; omega) (by omega))).trans ?_
    exact (new_rows M.view M.view.junk (H := 8) inbC1 p hp _ _ (by show 8 ≤ 5 + (Fin.ofNat 4 k).val + r.val; rw [e]; omega)
      (by show 5 + (Fin.ofNat 4 k).val + r.val < 8 + 256; rw [e]; omega)).trans e2
  · refine (congrArg (M.view.read _ _) (unit_idx _ _ (inbR' _ g) r l (by rw [e]; omega) (by omega))).trans ?_
    refine (all_rows M.view (hM.unread x) (H := 8) rfl inbC1 p hp ?_ _ _).trans e2
    intro i j h
    exact (congrFun (hM.read_unread x) _).trans (hx i j h)

include hp in
theorem backC_left {κ : Kind} {sp : Space} (v : View sig κ sp S264x3072 .f32) (f : v.ty.Contents (Elt Ideal)) (L : List (View.Piece (Elt Ideal) S264x3072 .f32)) (i : Fin 264)
    (j : Fin 3072) (h : i.val < 8) :
    v.read (Elt Ideal) (v.writes (Elt Ideal) f (backC M (pcC p :: L) :: pcC p :: L)) (ix2 i j) = Args.late 8 F (T + 256 + i) j := by
  refine (first_rows (H := 8) v f inbC0 _ i j h).trans ?_
  have e : ∀ z : Vec Ideal S8x3072 .f32, k0_pay118 z (ix2 ⟨i, h⟩ j) = z (ix2 ⟨i, h⟩ j) := by
    intro z
    pointwise [k0_pay118]
  refine (e _).trans ?_
  refine (congrArg (M.view.read _ _) (unit_idx 256 0 inbC2 (⟨i, h⟩ : Fin 8) j (by show 256 + i.val < 264; omega) (by omega))).trans ?_
  refine (new_rows M.view M.view.junk (H := 8) inbC1 p hp _ _ (by show 8 ≤ 256 + i.val; omega) (by show 256 + i.val < 8 + 256; omega)).trans ?_
  exact congr (congrArg (Args.late 8 F) (by show T + (256 + i.val) = _; omega)) (Fin.ext (Nat.zero_add _))

end Narrow

end

end Cert.Pre

end
-- ==== Proof.PreRunA.lean ====
module

public import proofs.«01_k».proof.Proof.PreForm
public import proofs.«01_k».proof.Proof.Gen.Kernel2Ideal.Frame.RunA

@[expose] public section

set_option maxRecDepth 16384

noncomputable section

/-! The stores of a row's first point, as the stores described. -/

namespace Cert.Pre

open Idealize.ShloMosaic Cert.Kernel2Ideal Cert.Kernel2Ideal.Gen Idealize.ShloMosaic.Tactic

variable {F : FTy → Type} [FloatOps F]
variable (c : Dev nD) (i : grid0.Coords)
variable (arg2 : Memref sig .tc .vmem S1x256x1024 .f32) (harg2 : arg2.IsWhole)
variable (arg3 : Memref sig .tc .vmem S1024x3072 .bf16) (harg3 : arg3.IsWhole)
variable (arg4 : Memref sig .tc .vmem S1024x3072 .bf16) (harg4 : arg4.IsWhole)
variable (arg5 : Memref sig .tc .vmem S1024x1024 .bf16) (harg5 : arg5.IsWhole)
variable (arg6 : Memref sig .tc .vmem S1024x128 .bf16) (harg6 : arg6.IsWhole)
variable (arg7 : Memref sig .tc .vmem S1024x2048 .bf16) (harg7 : arg7.IsWhole)
variable (arg8 : Memref sig .tc .vmem S32x1024 .f32) (harg8 : arg8.IsWhole)
variable (arg9 : Memref sig .tc .vmem S1x1024 .f32) (harg9 : arg9.IsWhole)
variable (arg10 : Memref sig .tc .vmem S1x1024 .f32) (harg10 : arg10.IsWhole)
variable (arg11 : Memref sig .tc .vmem S1x1024 .f32) (harg11 : arg11.IsWhole)
variable (arg12 : Memref sig .tc .vmem S1024x1024 .bf16) (harg12 : arg12.IsWhole)
variable (arg13 : Memref sig .tc .vmem S8x3072 .f32) (harg13 : arg13.IsWhole)
variable (arg14 : Memref sig .tc .vmem S1x128 .f32) (harg14 : arg14.IsWhole)
variable (arg15 : Memref sig .tc .vmem S1x128 .f32) (harg15 : arg15.IsWhole)
variable (arg16 : Memref sig .tc .vmem S1x256x1024 .bf16) (harg16 : arg16.IsWhole)
variable (arg17 : Memref sig .tc .vmem S1x256x1024 .bf16) (harg17 : arg17.IsWhole)
variable (arg18 : Memref sig .tc .vmem S1x256x1024 .bf16) (harg18 : arg18.IsWhole)
variable (arg19 : Memref sig .tc .vmem S1x256x1024 .bf16) (harg19 : arg19.IsWhole)
variable (arg20 : Memref sig .tc .vmem S1x256x1024 .bf16) (harg20 : arg20.IsWhole)
variable (arg21 : Memref sig .tc .vmem S1x256x1024 .bf16) (harg21 : arg21.IsWhole)
variable (arg22 : Memref sig .tc .vmem S1x256x128 .f32) (harg22 : arg22.IsWhole)
variable (arg23 : Memref sig .tc .vmem S288x1024 .f32) (harg23 : arg23.IsWhole)
variable (arg24 : Memref sig .tc .vmem S264x3072 .f32) (harg24 : arg24.IsWhole)
variable (x0 : Vec F S1x256x1024 .f32)
variable (x1 : Vec F S1024x3072 .bf16)
variable (x2 : Vec F S1024x3072 .bf16)
variable (x3 : Vec F S1024x1024 .bf16)
variable (x4 : Vec F S1024x128 .bf16)
variable (x5 : Vec F S1024x2048 .bf16)
variable (x6 : Vec F S32x1024 .f32)
variable (x7 : Vec F S1x1024 .f32)
variable (x8 : Vec F S1x1024 .f32)
variable (x9 : Vec F S1x1024 .f32)
variable (x10 : Vec F S1024x1024 .bf16)
variable (x11 : Vec F S8x3072 .f32)
variable (x12 : Vec F S1x128 .f32)
variable (x13 : Vec F S1x128 .f32)
variable (xs0 : Vec F S288x1024 .f32)
variable (xs1 : Vec F S264x3072 .f32)
variable (hc0 : cond0_0 i)

theorem runA_hc : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).1
    = [⟨Rect.unit (s := S1x256x1024) ![0, 0, 0] S1x256x1024.size inb_S1x256x1024_S1x256x1024_0_0_0, hcV (rdX arg2 harg2 x0) (fun g => convV 30 (rdA arg23 [pcA (k0_pay5 (rdX arg2 harg2 x0) (rdV arg3 harg3 x1 0) (rdV arg3 harg3 x1 1)), zA] g) (rdDw arg8 harg8 x6 g)) (rdM arg9 harg9 x7 inb_S1x1024_S1x1024_0_0) (rdM arg10 harg10 x8 inb_S1x1024_S1x1024_0_0) (rdM arg11 harg11 x9 inb_S1x1024_S1x1024_0_0) (rdV arg3 harg3 x1 2) (rdM arg12 harg12 x10 inb_S1024x1024_S1024x1024_0_0) (rdG arg7 harg7 x5 0)⟩] := by
  sl_kernel_rfl

theorem runA_q : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.1
    = headsL fun h => qV (convV 3 (rdC arg24 [pcC (k0_pay76 (k0_pay4 (rdX arg2 harg2 x0)) (rdM arg4 harg4 x2 inb_S1024x3072_S1024x3072_0_0)), zC] (grp 0 h)) (rdGw arg13 harg13 x11 (grp 0 h))) := by
  sl_kernel_rfl

theorem runA_k : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.1
    = headsL fun h => kV (convV 3 (rdC arg24 [pcC (k0_pay76 (k0_pay4 (rdX arg2 harg2 x0)) (rdM arg4 harg4 x2 inb_S1024x3072_S1024x3072_0_0)), zC] (grp 1 h)) (rdGw arg13 harg13 x11 (grp 1 h))) := by
  sl_kernel_rfl

theorem runA_v : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.1
    = headsL fun h => vV (convV 3 (rdC arg24 [pcC (k0_pay76 (k0_pay4 (rdX arg2 harg2 x0)) (rdM arg4 harg4 x2 inb_S1024x3072_S1024x3072_0_0)), zC] (grp 2 h)) (rdGw arg13 harg13 x11 (grp 2 h))) := by
  sl_kernel_rfl

theorem runA_gz : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.1
    = [⟨Rect.unit (s := S1x256x1024) ![0, 0, 0] S1x256x1024.size inb_S1x256x1024_S1x256x1024_0_0_0, k0_pay75 (k0_pay4 (rdX arg2 harg2 x0)) (rdM arg5 harg5 x3 inb_S1024x1024_S1024x1024_0_0)⟩] := by
  sl_kernel_rfl

theorem runA_gg : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.1
    = [⟨Rect.unit (s := S1x256x1024) ![0, 0, 0] S1x256x1024.size inb_S1x256x1024_S1x256x1024_0_0_0, k0_pay74 (k0_pay4 (rdX arg2 harg2 x0)) (rdG arg7 harg7 x5 1)⟩] := by
  sl_kernel_rfl

theorem runA_bg : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.1
    = [⟨Rect.unit (s := S1x256x128) ![0, 0, 0] S1x256x128.size inb_S1x256x128_S1x256x128_0_0_0, bgV (rdX arg2 harg2 x0) (rdM arg6 harg6 x4 inb_S1024x128_S1024x128_0_0) (rdM arg15 harg15 x13 inb_S1x128_S1x128_0_0) (rdM arg14 harg14 x12 inb_S1x128_S1x128_0_0)⟩] := by
  sl_kernel_rfl

theorem runA_act : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.2.1
    = backA arg23 [pcA (k0_pay5 (rdX arg2 harg2 x0) (rdV arg3 harg3 x1 0) (rdV arg3 harg3 x1 1)), zA] :: [pcA (k0_pay5 (rdX arg2 harg2 x0) (rdV arg3 harg3 x1 0) (rdV arg3 harg3 x1 1)), zA] := by
  sl_kernel_rfl

theorem runA_qkv : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.2.2.1
    = backC arg24 [pcC (k0_pay76 (k0_pay4 (rdX arg2 harg2 x0)) (rdM arg4 harg4 x2 inb_S1024x3072_S1024x3072_0_0)), zC] :: [pcC (k0_pay76 (k0_pay4 (rdX arg2 harg2 x0)) (rdM arg4 harg4 x2 inb_S1024x3072_S1024x3072_0_0)), zC] := by
  sl_kernel_rfl

end Cert.Pre

end
-- ==== Proof.PreRunB.lean ====
module

public import proofs.«01_k».proof.Proof.PreForm
public import proofs.«01_k».proof.Proof.Gen.Kernel2Ideal.Frame.RunB

@[expose] public section

set_option maxRecDepth 16384

noncomputable section

/-! The stores of a row's later points, as the stores described. -/

namespace Cert.Pre

open Idealize.ShloMosaic Cert.Kernel2Ideal Cert.Kernel2Ideal.Gen Idealize.ShloMosaic.Tactic

variable {F : FTy → Type} [FloatOps F]
variable (c : Dev nD) (i : grid0.Coords)
variable (arg2 : Memref sig .tc .vmem S1x256x1024 .f32) (harg2 : arg2.IsWhole)
variable (arg3 : Memref sig .tc .vmem S1024x3072 .bf16) (harg3 : arg3.IsWhole)
variable (arg4 : Memref sig .tc .vmem S1024x3072 .bf16) (harg4 : arg4.IsWhole)
variable (arg5 : Memref sig .tc .vmem S1024x1024 .bf16) (harg5 : arg5.IsWhole)
variable (arg6 : Memref sig .tc .vmem S1024x128 .bf16) (harg6 : arg6.IsWhole)
variable (arg7 : Memref sig .tc .vmem S1024x2048 .bf16) (harg7 : arg7.IsWhole)
variable (arg8 : Memref sig .tc .vmem S32x1024 .f32) (harg8 : arg8.IsWhole)
variable (arg9 : Memref sig .tc .vmem S1x1024 .f32) (harg9 : arg9.IsWhole)
variable (arg10 : Memref sig .tc .vmem S1x1024 .f32) (harg10 : arg10.IsWhole)
variable (arg11 : Memref sig .tc .vmem S1x1024 .f32) (harg11 : arg11.IsWhole)
variable (arg12 : Memref sig .tc .vmem S1024x1024 .bf16) (harg12 : arg12.IsWhole)
variable (arg13 : Memref sig .tc .vmem S8x3072 .f32) (harg13 : arg13.IsWhole)
variable (arg14 : Memref sig .tc .vmem S1x128 .f32) (harg14 : arg14.IsWhole)
variable (arg15 : Memref sig .tc .vmem S1x128 .f32) (harg15 : arg15.IsWhole)
variable (arg16 : Memref sig .tc .vmem S1x256x1024 .bf16) (harg16 : arg16.IsWhole)
variable (arg17 : Memref sig .tc .vmem S1x256x1024 .bf16) (harg17 : arg17.IsWhole)
variable (arg18 : Memref sig .tc .vmem S1x256x1024 .bf16) (harg18 : arg18.IsWhole)
variable (arg19 : Memref sig .tc .vmem S1x256x1024 .bf16) (harg19 : arg19.IsWhole)
variable (arg20 : Memref sig .tc .vmem S1x256x1024 .bf16) (harg20 : arg20.IsWhole)
variable (arg21 : Memref sig .tc .vmem S1x256x1024 .bf16) (harg21 : arg21.IsWhole)
variable (arg22 : Memref sig .tc .vmem S1x256x128 .f32) (harg22 : arg22.IsWhole)
variable (arg23 : Memref sig .tc .vmem S288x1024 .f32) (harg23 : arg23.IsWhole)
variable (arg24 : Memref sig .tc .vmem S264x3072 .f32) (harg24 : arg24.IsWhole)
variable (x0 : Vec F S1x256x1024 .f32)
variable (x1 : Vec F S1024x3072 .bf16)
variable (x2 : Vec F S1024x3072 .bf16)
variable (x3 : Vec F S1024x1024 .bf16)
variable (x4 : Vec F S1024x128 .bf16)
variable (x5 : Vec F S1024x2048 .bf16)
variable (x6 : Vec F S32x1024 .f32)
variable (x7 : Vec F S1x1024 .f32)
variable (x8 : Vec F S1x1024 .f32)
variable (x9 : Vec F S1x1024 .f32)
variable (x10 : Vec F S1024x1024 .bf16)
variable (x11 : Vec F S8x3072 .f32)
variable (x12 : Vec F S1x128 .f32)
variable (x13 : Vec F S1x128 .f32)
variable (xs0 : Vec F S288x1024 .f32)
variable (xs1 : Vec F S264x3072 .f32)
variable (hc0 : ¬cond0_0 i)

theorem runB_hc : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).1
    = [⟨Rect.unit (s := S1x256x1024) ![0, 0, 0] S1x256x1024.size inb_S1x256x1024_S1x256x1024_0_0_0, hcV (rdX arg2 harg2 x0) (fun g => convV 30 (rdA' arg23 harg23 xs0 [pcA (k0_pay5 (rdX arg2 harg2 x0) (rdV arg3 harg3 x1 0) (rdV arg3 harg3 x1 1))] g) (rdDw arg8 harg8 x6 g)) (rdM arg9 harg9 x7 inb_S1x1024_S1x1024_0_0) (rdM arg10 harg10 x8 inb_S1x1024_S1x1024_0_0) (rdM arg11 harg11 x9 inb_S1x1024_S1x1024_0_0) (rdV arg3 harg3 x1 2) (rdM arg12 harg12 x10 inb_S1024x1024_S1024x1024_0_0) (rdG arg7 harg7 x5 0)⟩] := by
  sl_kernel_rfl

theorem runB_q : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).2.1
    = headsL fun h => qV (convV 3 (rdC' arg24 harg24 xs1 [pcC (k0_pay76 (k0_pay4 (rdX arg2 harg2 x0)) (rdM arg4 harg4 x2 inb_S1024x3072_S1024x3072_0_0))] (grp 0 h)) (rdGw arg13 harg13 x11 (grp 0 h))) := by
  sl_kernel_rfl

theorem runB_k : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).2.2.1
    = headsL fun h => kV (convV 3 (rdC' arg24 harg24 xs1 [pcC (k0_pay76 (k0_pay4 (rdX arg2 harg2 x0)) (rdM arg4 harg4 x2 inb_S1024x3072_S1024x3072_0_0))] (grp 1 h)) (rdGw arg13 harg13 x11 (grp 1 h))) := by
  sl_kernel_rfl

theorem runB_v : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).2.2.2.1
    = headsL fun h => vV (convV 3 (rdC' arg24 harg24 xs1 [pcC (k0_pay76 (k0_pay4 (rdX arg2 harg2 x0)) (rdM arg4 harg4 x2 inb_S1024x3072_S1024x3072_0_0))] (grp 2 h)) (rdGw arg13 harg13 x11 (grp 2 h))) := by
  sl_kernel_rfl

theorem runB_gz : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).2.2.2.2.1
    = [⟨Rect.unit (s := S1x256x1024) ![0, 0, 0] S1x256x1024.size inb_S1x256x1024_S1x256x1024_0_0_0, k0_pay75 (k0_pay4 (rdX arg2 harg2 x0)) (rdM arg5 harg5 x3 inb_S1024x1024_S1024x1024_0_0)⟩] := by
  sl_kernel_rfl

theorem runB_gg : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).2.2.2.2.2.1
    = [⟨Rect.unit (s := S1x256x1024) ![0, 0, 0] S1x256x1024.size inb_S1x256x1024_S1x256x1024_0_0_0, k0_pay74 (k0_pay4 (rdX arg2 harg2 x0)) (rdG arg7 harg7 x5 1)⟩] := by
  sl_kernel_rfl

theorem runB_bg : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).2.2.2.2.2.2.1
    = [⟨Rect.unit (s := S1x256x128) ![0, 0, 0] S1x256x128.size inb_S1x256x128_S1x256x128_0_0_0, bgV (rdX arg2 harg2 x0) (rdM arg6 harg6 x4 inb_S1024x128_S1024x128_0_0) (rdM arg15 harg15 x13 inb_S1x128_S1x128_0_0) (rdM arg14 harg14 x12 inb_S1x128_S1x128_0_0)⟩] := by
  sl_kernel_rfl

theorem runB_act : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).2.2.2.2.2.2.2.1
    = backA arg23 [pcA (k0_pay5 (rdX arg2 harg2 x0) (rdV arg3 harg3 x1 0) (rdV arg3 harg3 x1 1))] :: [pcA (k0_pay5 (rdX arg2 harg2 x0) (rdV arg3 harg3 x1 0) (rdV arg3 harg3 x1 1))] := by
  sl_kernel_rfl

theorem runB_qkv : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1).2.2.2.2.2.2.2.2.1
    = backC arg24 [pcC (k0_pay76 (k0_pay4 (rdX arg2 harg2 x0)) (rdM arg4 harg4 x2 inb_S1024x3072_S1024x3072_0_0))] :: [pcC (k0_pay76 (k0_pay4 (rdX arg2 harg2 x0)) (rdM arg4 harg4 x2 inb_S1024x3072_S1024x3072_0_0))] := by
  sl_kernel_rfl

end Cert.Pre

end
-- ==== Proof.PreValue.lean ====
module

public import proofs.«01_k».proof.Proof.PreRead
public import proofs.«01_k».proof.Proof.PreRunA
public import proofs.«01_k».proof.Proof.PreRunB
public import proofs.«01_k».proof.Proof.Gen.Kernel2Ideal.Frame

@[expose] public section

set_option maxRecDepth 16384

noncomputable section

/-! What a grid point of the first call leaves in its blocks of the seven results and in the two buffers. -/

namespace Cert.Pre

open Idealize.ShloMosaic Cert.Kernel2Ideal Cert.Kernel2Ideal.Gen Idealize.ShloMosaic.Tactic PreSpec

variable {c : Dev nD} {i : grid0.Coords}
variable {arg2 : Memref sig .tc .vmem S1x256x1024 .f32} {harg2 : arg2.IsWhole}
variable {arg3 : Memref sig .tc .vmem S1024x3072 .bf16} {harg3 : arg3.IsWhole}
variable {arg4 : Memref sig .tc .vmem S1024x3072 .bf16} {harg4 : arg4.IsWhole}
variable {arg5 : Memref sig .tc .vmem S1024x1024 .bf16} {harg5 : arg5.IsWhole}
variable {arg6 : Memref sig .tc .vmem S1024x128 .bf16} {harg6 : arg6.IsWhole}
variable {arg7 : Memref sig .tc .vmem S1024x2048 .bf16} {harg7 : arg7.IsWhole}
variable {arg8 : Memref sig .tc .vmem S32x1024 .f32} {harg8 : arg8.IsWhole}
variable {arg9 : Memref sig .tc .vmem S1x1024 .f32} {harg9 : arg9.IsWhole}
variable {arg10 : Memref sig .tc .vmem S1x1024 .f32} {harg10 : arg10.IsWhole}
variable {arg11 : Memref sig .tc .vmem S1x1024 .f32} {harg11 : arg11.IsWhole}
variable {arg12 : Memref sig .tc .vmem S1024x1024 .bf16} {harg12 : arg12.IsWhole}
variable {arg13 : Memref sig .tc .vmem S8x3072 .f32} {harg13 : arg13.IsWhole}
variable {arg14 : Memref sig .tc .vmem S1x128 .f32} {harg14 : arg14.IsWhole}
variable {arg15 : Memref sig .tc .vmem S1x128 .f32} {harg15 : arg15.IsWhole}
variable {arg16 : Memref sig .tc .vmem S1x256x1024 .bf16} {harg16 : arg16.IsWhole}
variable {arg17 : Memref sig .tc .vmem S1x256x1024 .bf16} {harg17 : arg17.IsWhole}
variable {arg18 : Memref sig .tc .vmem S1x256x1024 .bf16} {harg18 : arg18.IsWhole}
variable {arg19 : Memref sig .tc .vmem S1x256x1024 .bf16} {harg19 : arg19.IsWhole}
variable {arg20 : Memref sig .tc .vmem S1x256x1024 .bf16} {harg20 : arg20.IsWhole}
variable {arg21 : Memref sig .tc .vmem S1x256x1024 .bf16} {harg21 : arg21.IsWhole}
variable {arg22 : Memref sig .tc .vmem S1x256x128 .f32} {harg22 : arg22.IsWhole}
variable {arg23 : Memref sig .tc .vmem S288x1024 .f32} {harg23 : arg23.IsWhole}
variable {arg24 : Memref sig .tc .vmem S264x3072 .f32} {harg24 : arg24.IsWhole}
variable {x0 : Vec Ideal S1x256x1024 .f32}
variable {x1 : Vec Ideal S1024x3072 .bf16}
variable {x2 : Vec Ideal S1024x3072 .bf16}
variable {x3 : Vec Ideal S1024x1024 .bf16}
variable {x4 : Vec Ideal S1024x128 .bf16}
variable {x5 : Vec Ideal S1024x2048 .bf16}
variable {x6 : Vec Ideal S32x1024 .f32}
variable {x7 : Vec Ideal S1x1024 .f32}
variable {x8 : Vec Ideal S1x1024 .f32}
variable {x9 : Vec Ideal S1x1024 .f32}
variable {x10 : Vec Ideal S1024x1024 .bf16}
variable {x11 : Vec Ideal S8x3072 .f32}
variable {x12 : Vec Ideal S1x128 .f32}
variable {x13 : Vec Ideal S1x128 .f32}
variable {xs0 : Vec Ideal S288x1024 .f32}
variable {xs1 : Vec Ideal S264x3072 .f32}

/-- The point's blocks are the tokens from `T` on of row `b`, and the weights. -/
structure PointIs (A : Args) (b : Fin 4) (T : ℕ) (x0 : Vec Ideal S1x256x1024 .f32) (x1 : Vec Ideal S1024x3072 .bf16) (x2 : Vec Ideal S1024x3072 .bf16) (x3 : Vec Ideal S1024x1024 .bf16) (x4 : Vec Ideal S1024x128 .bf16) (x5 : Vec Ideal S1024x2048 .bf16) (x6 : Vec Ideal S32x1024 .f32) (x7 : Vec Ideal S1x1024 .f32) (x8 : Vec Ideal S1x1024 .f32) (x9 : Vec Ideal S1x1024 .f32) (x10 : Vec Ideal S1024x1024 .bf16) (x11 : Vec Ideal S8x3072 .f32) (x12 : Vec Ideal S1x128 .f32) (x13 : Vec Ideal S1x128 .f32) : Prop where
  x : ∀ (r : Fin 256) e, x0 (ix3 0 r e) = Spec.tok A.x b (T + r) e
  conf : ∀ d (n : Fin 3072), x1 (ix2 d n) = A.w d ⟨n, by omega⟩
  qkv : ∀ d (n : Fin 3072), x2 (ix2 d n) = A.w d ⟨3072 + n, by omega⟩
  gz : ∀ d (n : Fin 1024), x3 (ix2 d n) = A.w d ⟨6144 + n, by omega⟩
  ba : ∀ d (l : Fin 128), x4 (ix2 d l) = if h : l.val < 16 then A.w d ⟨7168 + l, by omega⟩ else 0
  gates : ∀ d (n : Fin 2048), x5 (ix2 d n) = A.w d ⟨7184 + n, by omega⟩
  dw : ∀ (k : Fin 31) e, x6 (ix2 ⟨k, by omega⟩ e) = A.dw k e
  db : ∀ e, x7 (ix2 0 e) = A.db e
  lg : ∀ e, x8 (ix2 0 e) = A.lg e
  lb : ∀ e, x9 (ix2 0 e) = A.lb e
  wo : ∀ d e, x10 (ix2 d e) = A.wo d e
  gw : ∀ (k : Fin 4) e, x11 (ix2 ⟨k, by omega⟩ e) = A.gw k e
  al : ∀ l : Fin 128, x12 (ix2 0 l) = if h : 8 ≤ l.val ∧ l.val - 8 < 8 then A.al ⟨l - 8, by omega⟩ else 0
  dt : ∀ l : Fin 128, x13 (ix2 0 l) = if h : 8 ≤ l.val ∧ l.val - 8 < 8 then A.dt ⟨l - 8, by omega⟩ else 0

variable {A : Args} {b : Fin 4} {T : ℕ} (P : PointIs A b T x0 x1 x2 x3 x4 x5 x6 x7 x8 x9 x10 x11 x12 x13)

include P

theorem act_is (r : Fin 256) (c : Fin 1024) : (k0_pay5 (rdX arg2 harg2 x0) (rdV arg3 harg3 x1 0) (rdV arg3 harg3 x1 1)) (ix2 r c) = A.act b (T + r) c := by
  simp only [act_at, rdX_at, rdV_at, P.x, P.conf]
  refine congrArg₂ (· * ·) (Finset.sum_congr rfl fun e _ => congrArg (_ * A.w e ·) (Fin.ext ?_)) (congrArg Ideal.logistic (Finset.sum_congr rfl fun e _ => congrArg (_ * A.w e ·) (Fin.ext ?_)))
  · show 1024 * 0 + c.val = c.val; omega
  · show 1024 * 1 + c.val = 1024 + c.val; omega

theorem qkv_is (r : Fin 256) (c : Fin 3072) : (k0_pay76 (k0_pay4 (rdX arg2 harg2 x0)) (rdM arg4 harg4 x2 inb_S1024x3072_S1024x3072_0_0)) (ix2 r c) = A.qkv b (T + r) c := by
  simp only [qkv_at, rdX_at, rdM_at, P.x, P.qkv]
  rfl

theorem gz_is (r : Fin 256) (d : Fin 1024) : k0_pay75 (k0_pay4 (rdX arg2 harg2 x0)) (rdM arg5 harg5 x3 inb_S1024x1024_S1024x1024_0_0) (ix3 0 r d) = A.gz b (T + r) d := by
  simp only [gz_at, rdX_at, rdM_at, P.x, P.gz]
  rfl

theorem gg_is (r : Fin 256) (d : Fin 1024) : k0_pay74 (k0_pay4 (rdX arg2 harg2 x0)) (rdG arg7 harg7 x5 1) (ix3 0 r d) = A.gg b (T + r) d := by
  simp only [gg_at, rdX_at, rdG_at, P.x, P.gates]
  refine congrArg Ideal.logistic (Finset.sum_congr rfl fun e _ => congrArg (_ * A.w e ·) (Fin.ext ?_))
  show 7184 + (1024 * 1 + d.val) = 8208 + d.val; omega

theorem bg_is (r : Fin 256) (l : Fin 128) : bgV (rdX arg2 harg2 x0) (rdM arg6 harg6 x4 inb_S1024x128_S1024x128_0_0) (rdM arg15 harg15 x13 inb_S1x128_S1x128_0_0) (rdM arg14 harg14 x12 inb_S1x128_S1x128_0_0) (ix3 0 r l) = A.bg b (T + r) l := by
  simp only [bg_at, rdX_at, rdM_at, P.x, P.ba, P.al, P.dt, Args.bg]
  by_cases h8 : l.val < 8
  · rw [if_pos h8, if_pos h8]
    have h16 : l.val < 16 := by omega
    simp only [dif_pos h16]
    rfl
  · rw [if_neg h8, if_neg h8]
    by_cases h16 : l.val < 16
    · have h : 8 ≤ l.val ∧ l.val - 8 < 8 := by omega
      simp only [dif_pos h16, dif_pos h]
      rfl
    · have h : ¬(8 ≤ l.val ∧ l.val - 8 < 8) := by omega
      simp only [dif_neg h16, dif_neg h, mul_zero, Finset.sum_const_zero, add_zero]

/-- The wide convolution, given the rows its products read. -/
theorem wide_is (a : Fin 8 → ℕ → Vec Ideal S256x128 .f32)
    (ha : ∀ g k, k ≤ 30 → ∀ r l, a g k (ix2 r l) = Args.late 30 (A.act b) (T + r.val + k) ⟨128 * g + l, by omega⟩) (r : Fin 256) (c : Fin 1024) :
    wideV (fun g => convV 30 (a g) (rdDw arg8 harg8 x6 g)) (rdM arg9 harg9 x7 inb_S1x1024_S1x1024_0_0) (ix2 r c) = A.conv b (T + r) c := by
  rw [wide_at, conv_at, rdM_at, P.db, Args.conv]
  refine congrArg (· + _) (taps_congr 30 fun k hk => ?_)
  rw [ha _ k hk, rdDw_at]
  have e : (⟨128 * (⟨c.val / 128, by omega⟩ : Fin 8).val + (⟨c.val % 128, by omega⟩ : Fin 128).val, by show 128 * (c.val / 128) + c.val % 128 < 1024; omega⟩ : Fin 1024) = c :=
    Fin.ext (by show 128 * (c.val / 128) + c.val % 128 = c.val; omega)
  rw [e]
  exact congrArg (_ * ·) (P.dw _ _)

theorem hc_is (a : Fin 8 → ℕ → Vec Ideal S256x128 .f32)
    (ha : ∀ g k, k ≤ 30 → ∀ r l, a g k (ix2 r l) = Args.late 30 (A.act b) (T + r.val + k) ⟨128 * g + l, by omega⟩) (r : Fin 256) (d : Fin 1024) :
    hcV (rdX arg2 harg2 x0) (fun g => convV 30 (a g) (rdDw arg8 harg8 x6 g)) (rdM arg9 harg9 x7 inb_S1x1024_S1x1024_0_0) (rdM arg10 harg10 x8 inb_S1x1024_S1x1024_0_0) (rdM arg11 harg11 x9 inb_S1x1024_S1x1024_0_0) (rdV arg3 harg3 x1 2) (rdM arg12 harg12 x10 inb_S1024x1024_S1024x1024_0_0) (rdG arg7 harg7 x5 0) (ix3 0 r d)
      = A.hc b (T + r) d := by
  rw [hc_at]
  simp only [wide_is P a ha, rdX_at, rdM_at, rdV_at, rdG_at, P.x, P.conf, P.gates, P.lg, P.lb, P.wo]
  refine congrArg₂ (· * ·) (congrArg Ideal.logistic (Finset.sum_congr rfl fun e _ => congrArg (_ * A.w e ·) (Fin.ext ?_))) (Finset.sum_congr rfl fun c _ => ?_)
  · show 7184 + (1024 * 0 + d.val) = 7184 + d.val; omega
  · rfl

/-- A head's convolution, gated. -/
theorem head_is (a : Fin 24 → ℕ → Vec Ideal S256x128 .f32)
    (ha : ∀ g k, k ≤ 3 → ∀ r l, a g k (ix2 r l) = Args.late 3 (A.qkv b) (T + r.val + k) ⟨128 * g + l, by omega⟩) (g : Fin 24) (r : Fin 256) (l : Fin 128) :
    siluV (convV 3 (a g) (rdGw arg13 harg13 x11 g)) (ix2 r l) = A.gconv b (T + r) ⟨128 * g + l, by omega⟩ := by
  rw [silu_at, conv_at, Args.gconv]
  refine congrArg silu (taps_congr 3 fun k hk => ?_)
  rw [ha _ k hk, rdGw_at]
  exact congrArg (_ * ·) (P.gw _ _)

theorem normed_is (a : Fin 24 → ℕ → Vec Ideal S256x128 .f32)
    (ha : ∀ g k, k ≤ 3 → ∀ r l, a g k (ix2 r l) = Args.late 3 (A.qkv b) (T + r.val + k) ⟨128 * g + l, by omega⟩) (g : Fin 24) (r : Fin 256) (l : Fin 128) :
    normV (siluV (convV 3 (a g) (rdGw arg13 harg13 x11 g))) (ix2 r l) = A.normed b (T + r) g l := by
  rw [norm_at]
  simp only [head_is P a ha]
  rfl

theorem q_is (a : Fin 24 → ℕ → Vec Ideal S256x128 .f32)
    (ha : ∀ g k, k ≤ 3 → ∀ r l, a g k (ix2 r l) = Args.late 3 (A.qkv b) (T + r.val + k) ⟨128 * g + l, by omega⟩) (r : Fin 256) (c : Fin 1024) :
    View.canon (headsL fun h => qV (convV 3 (a (grp 0 h)) (rdGw arg13 harg13 x11 (grp 0 h)))) (ix3 (n0 := 1) (n1 := 256) (n2 := 1024) 0 r c) = A.q b (T + r) c := by
  rw [heads_at, q_at, normed_is P a ha, Args.q]
  exact congrArg (· * scale) (congrArg (A.normed b (T + r) · _) (Fin.ext (by show 8 * 0 + c.val / 128 = c.val / 128; omega)))

theorem k_is (a : Fin 24 → ℕ → Vec Ideal S256x128 .f32)
    (ha : ∀ g k, k ≤ 3 → ∀ r l, a g k (ix2 r l) = Args.late 3 (A.qkv b) (T + r.val + k) ⟨128 * g + l, by omega⟩) (r : Fin 256) (c : Fin 1024) :
    View.canon (headsL fun h => kV (convV 3 (a (grp 1 h)) (rdGw arg13 harg13 x11 (grp 1 h)))) (ix3 (n0 := 1) (n1 := 256) (n2 := 1024) 0 r c) = A.k b (T + r) c := by
  rw [heads_at, k_at, normed_is P a ha, Args.k]
  exact congrArg (A.normed b (T + r) · _) (Fin.ext (by show 8 * 1 + c.val / 128 = 8 + c.val / 128; omega))

theorem v_is (a : Fin 24 → ℕ → Vec Ideal S256x128 .f32)
    (ha : ∀ g k, k ≤ 3 → ∀ r l, a g k (ix2 r l) = Args.late 3 (A.qkv b) (T + r.val + k) ⟨128 * g + l, by omega⟩) (r : Fin 256) (c : Fin 1024) :
    View.canon (headsL fun h => vV (convV 3 (a (grp 2 h)) (rdGw arg13 harg13 x11 (grp 2 h)))) (ix3 (n0 := 1) (n1 := 256) (n2 := 1024) 0 r c) = A.v b (T + r) c := by
  rw [heads_at, v_at, head_is P a ha, Args.v]
  exact congrArg (A.gconv b (T + r)) (Fin.ext (by show 128 * (8 * 2 + c.val / 128) + c.val % 128 = 2048 + c.val; omega))

section

variable (hT : T = 0) (hc0 : cond0_0 i)

include hT in
theorem outA_hc (r : Fin 256) (e : Fin 1024) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix3 0 r e) = A.hc b (T + r) e := by
  rw [out0_A_14, View.read_writes_junk_eq_canon, runA_hc, View.canon_unit_zero (S := S1x256x1024) (by decide)]
  exact hc_is P (fun g => rdA arg23 [pcA (k0_pay5 (rdX arg2 harg2 x0) (rdV arg3 harg3 x1 0) (rdV arg3 harg3 x1 1)), zA] g) (fun g k hk r l => rdA_first (act_is P) hT g k hk r l) r e

include hT in
theorem outA_q (r : Fin 256) (e : Fin 1024) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix3 0 r e) = A.q b (T + r) e := by
  rw [out0_A_15, View.read_writes_junk_eq_canon, runA_q]
  exact q_is P (fun g => rdC arg24 [pcC (k0_pay76 (k0_pay4 (rdX arg2 harg2 x0)) (rdM arg4 harg4 x2 inb_S1024x3072_S1024x3072_0_0)), zC] g) (fun g k hk r l => rdC_first (qkv_is P) hT g k hk r l) r e

include hT in
theorem outA_k (r : Fin 256) (e : Fin 1024) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix3 0 r e) = A.k b (T + r) e := by
  rw [out0_A_16, View.read_writes_junk_eq_canon, runA_k]
  exact k_is P (fun g => rdC arg24 [pcC (k0_pay76 (k0_pay4 (rdX arg2 harg2 x0)) (rdM arg4 harg4 x2 inb_S1024x3072_S1024x3072_0_0)), zC] g) (fun g k hk r l => rdC_first (qkv_is P) hT g k hk r l) r e

include hT in
theorem outA_v (r : Fin 256) (e : Fin 1024) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix3 0 r e) = A.v b (T + r) e := by
  rw [out0_A_17, View.read_writes_junk_eq_canon, runA_v]
  exact v_is P (fun g => rdC arg24 [pcC (k0_pay76 (k0_pay4 (rdX arg2 harg2 x0)) (rdM arg4 harg4 x2 inb_S1024x3072_S1024x3072_0_0)), zC] g) (fun g k hk r l => rdC_first (qkv_is P) hT g k hk r l) r e

theorem outA_gz (r : Fin 256) (e : Fin 1024) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix3 0 r e) = A.gz b (T + r) e := by
  rw [out0_A_18, View.read_writes_junk_eq_canon, runA_gz, View.canon_unit_zero (S := S1x256x1024) (by decide)]
  exact gz_is P r e

theorem outA_gg (r : Fin 256) (e : Fin 1024) : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix3 0 r e) = A.gg b (T + r) e := by
  rw [out0_A_19, View.read_writes_junk_eq_canon, runA_gg, View.canon_unit_zero (S := S1x256x1024) (by decide)]
  exact gg_is P r e

theorem outA_bg (r : Fin 256) (e : Fin 128) : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix3 0 r e) = A.bg b (T + r) e := by
  rw [out0_A_20, View.read_writes_junk_eq_canon, runA_bg, View.canon_unit_zero (S := S1x256x128) (by decide)]
  exact bg_is P r e

theorem soutA_act (r : Fin 288) (e : Fin 1024) (h : r.val < 32) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix2 r e) = Args.late 32 (A.act b) (T + 256 + r) e := by
  rw [sout0_A_0, runA_act]
  exact backA_left (act_is P) _ _ _ r e h

theorem soutA_qkv (r : Fin 264) (e : Fin 3072) (h : r.val < 8) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 (ix2 r e) = Args.late 8 (A.qkv b) (T + 256 + r) e := by
  rw [sout0_A_1, runA_qkv]
  exact backC_left (qkv_is P) _ _ _ r e h

end

section

variable (hxs0 : ∀ (i : Fin 288) j, i.val < 32 → xs0 (ix2 i j) = Args.late 32 (A.act b) (T + i) j)
variable (hxs1 : ∀ (i : Fin 264) j, i.val < 8 → xs1 (ix2 i j) = Args.late 8 (A.qkv b) (T + i) j) (hc0 : ¬cond0_0 i)

include hxs0 in
theorem outB_hc (r : Fin 256) (e : Fin 1024) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix3 0 r e) = A.hc b (T + r) e := by
  rw [out0_B_14, View.read_writes_junk_eq_canon, runB_hc, View.canon_unit_zero (S := S1x256x1024) (by decide)]
  exact hc_is P (fun g => rdA' arg23 harg23 xs0 [pcA (k0_pay5 (rdX arg2 harg2 x0) (rdV arg3 harg3 x1 0) (rdV arg3 harg3 x1 1))] g) (fun g k hk r l => rdA_later (act_is P) hxs0 g k hk r l) r e

include hxs1 in
theorem outB_q (r : Fin 256) (e : Fin 1024) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix3 0 r e) = A.q b (T + r) e := by
  rw [out0_B_15, View.read_writes_junk_eq_canon, runB_q]
  exact q_is P (fun g => rdC' arg24 harg24 xs1 [pcC (k0_pay76 (k0_pay4 (rdX arg2 harg2 x0)) (rdM arg4 harg4 x2 inb_S1024x3072_S1024x3072_0_0))] g) (fun g k hk r l => rdC_later (qkv_is P) hxs1 g k hk r l) r e

include hxs1 in
theorem outB_k (r : Fin 256) (e : Fin 1024) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix3 0 r e) = A.k b (T + r) e := by
  rw [out0_B_16, View.read_writes_junk_eq_canon, runB_k]
  exact k_is P (fun g => rdC' arg24 harg24 xs1 [pcC (k0_pay76 (k0_pay4 (rdX arg2 harg2 x0)) (rdM arg4 harg4 x2 inb_S1024x3072_S1024x3072_0_0))] g) (fun g k hk r l => rdC_later (qkv_is P) hxs1 g k hk r l) r e

include hxs1 in
theorem outB_v (r : Fin 256) (e : Fin 1024) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix3 0 r e) = A.v b (T + r) e := by
  rw [out0_B_17, View.read_writes_junk_eq_canon, runB_v]
  exact v_is P (fun g => rdC' arg24 harg24 xs1 [pcC (k0_pay76 (k0_pay4 (rdX arg2 harg2 x0)) (rdM arg4 harg4 x2 inb_S1024x3072_S1024x3072_0_0))] g) (fun g k hk r l => rdC_later (qkv_is P) hxs1 g k hk r l) r e

theorem outB_gz (r : Fin 256) (e : Fin 1024) : out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix3 0 r e) = A.gz b (T + r) e := by
  rw [out0_B_18, View.read_writes_junk_eq_canon, runB_gz, View.canon_unit_zero (S := S1x256x1024) (by decide)]
  exact gz_is P r e

theorem outB_gg (r : Fin 256) (e : Fin 1024) : out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix3 0 r e) = A.gg b (T + r) e := by
  rw [out0_B_19, View.read_writes_junk_eq_canon, runB_gg, View.canon_unit_zero (S := S1x256x1024) (by decide)]
  exact gg_is P r e

theorem outB_bg (r : Fin 256) (e : Fin 128) : out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix3 0 r e) = A.bg b (T + r) e := by
  rw [out0_B_20, View.read_writes_junk_eq_canon, runB_bg, View.canon_unit_zero (S := S1x256x128) (by decide)]
  exact bg_is P r e

theorem soutB_act (r : Fin 288) (e : Fin 1024) (h : r.val < 32) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix2 r e) = Args.late 32 (A.act b) (T + 256 + r) e := by
  rw [sout0_B_0, runB_act]
  exact backA_left (act_is P) _ _ _ r e h

theorem soutB_qkv (r : Fin 264) (e : Fin 3072) (h : r.val < 8) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xs0 xs1 (ix2 r e) = Args.late 8 (A.qkv b) (T + 256 + r) e := by
  rw [sout0_B_1, runB_qkv]
  exact backC_left (qkv_is P) _ _ _ r e h

end

end Cert.Pre

end
-- ==== Proof.PreResult.lean ====
module

public import proofs.«01_k».proof.Proof.PreBlocks
public import proofs.«01_k».proof.Proof.PreValue

@[expose] public section

set_option maxRecDepth 16384

noncomputable section

/-! The first call's seven results, from its arguments. -/

namespace Cert.PreValue

open Idealize.ShloMosaic Idealize.ShloMosaic.TcCoe Cert.Kernel2Ideal Cert.Kernel2Ideal.Gen Idealize.ShloMosaic.Tactic Cert.Pre PreSpec

variable (m : (ℓ : Loc nD τ sig) → Buf (Elt Ideal) ℓ) (c : Dev nD)

theorem point_is (t : Fin cfg0.N) : PointIs (args m c) (row t) (256 * (t.val % 32)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  x r e := (blk_x m c t r e).trans (Spec.tok_fin (args m c).x (row t) ⟨_, bound t r⟩ e).symm
  conf d n := blk_conf m c t d n
  qkv d n := blk_qkv m c t d n
  gz d n := blk_gz m c t d n
  ba d l := blk_ba m c t d l
  gates d n := blk_gates m c t d n
  dw k e := blk_dw m c t k e
  db e := blk_db m c t e
  lg e := blk_lg m c t e
  lb e := blk_lb m c t e
  wo d e := blk_wo m c t d e
  gw k e := blk_gw m c t k e
  al l := blk_al m c t l
  dt l := blk_dt m c t l

theorem parts {A1 A2 A3 A4 A5 A6 A7 A8 A9 : Type} {p : A1 × A2 × A3 × A4 × A5 × A6 × A7 × A8 × A9} {x1 : A1} {x2 : A2} {x3 : A3} {x4 : A4} {x5 : A5} {x6 : A6}
    {x7 : A7} {x8 : A8} {x9 : A9} (e : p = (x1, x2, x3, x4, x5, x6, x7, x8, x9)) :
    p.1 = x1 ∧ p.2.1 = x2 ∧ p.2.2.1 = x3 ∧ p.2.2.2.1 = x4 ∧ p.2.2.2.2.1 = x5 ∧ p.2.2.2.2.2.1 = x6 ∧ p.2.2.2.2.2.2.1 = x7
      ∧ p.2.2.2.2.2.2.2.1 = x8 ∧ p.2.2.2.2.2.2.2.2 = x9 := by
  subst e
  exact ⟨rfl, rfl, rfl, rfl, rfl, rfl, rfl, rfl, rfl⟩

/-- What a point leaves: its tokens' seven results in the blocks, and the last tokens before the next point's in the buffers. -/
structure Left (t : Fin cfg0.N) : Prop where
  hc : ∀ (r : Fin 256) (e : Fin 1024), (outsAt0 m c t.val t.isLt).1 (ix3 0 r e) = (args m c).hc (row t) (256 * (t.val % 32) + r) e
  q : ∀ (r : Fin 256) (e : Fin 1024), (outsAt0 m c t.val t.isLt).2.1 (ix3 0 r e) = (args m c).q (row t) (256 * (t.val % 32) + r) e
  k : ∀ (r : Fin 256) (e : Fin 1024), (outsAt0 m c t.val t.isLt).2.2.1 (ix3 0 r e) = (args m c).k (row t) (256 * (t.val % 32) + r) e
  v : ∀ (r : Fin 256) (e : Fin 1024), (outsAt0 m c t.val t.isLt).2.2.2.1 (ix3 0 r e) = (args m c).v (row t) (256 * (t.val % 32) + r) e
  gz : ∀ (r : Fin 256) (e : Fin 1024), (outsAt0 m c t.val t.isLt).2.2.2.2.1 (ix3 0 r e) = (args m c).gz (row t) (256 * (t.val % 32) + r) e
  gg : ∀ (r : Fin 256) (e : Fin 1024), (outsAt0 m c t.val t.isLt).2.2.2.2.2.1 (ix3 0 r e) = (args m c).gg (row t) (256 * (t.val % 32) + r) e
  bg : ∀ (r : Fin 256) (e : Fin 128), (outsAt0 m c t.val t.isLt).2.2.2.2.2.2.1 (ix3 0 r e) = (args m c).bg (row t) (256 * (t.val % 32) + r) e
  act : ∀ (r : Fin 288) (e : Fin 1024), r.val < 32 →
    (outsAt0 m c t.val t.isLt).2.2.2.2.2.2.2.1 (ix2 r e) = Args.late 32 ((args m c).act (row t)) (256 * (t.val % 32) + 256 + r) e
  qkv : ∀ (r : Fin 264) (e : Fin 3072), r.val < 8 →
    (outsAt0 m c t.val t.isLt).2.2.2.2.2.2.2.2 (ix2 r e) = Args.late 8 ((args m c).qkv (row t)) (256 * (t.val % 32) + 256 + r) e

theorem left_A (t : Fin cfg0.N) (h0 : t.val % 32 = 0) : Left m c t := by
  have hT : 256 * (t.val % 32) = 0 := by omega
  have e := outsAt0_A m c t h0
  have P := point_is m c t
  obtain ⟨e1, e2, e3, e4, e5, e6, e7, e8, e9⟩ := parts e
  constructor
  · exact fun r l => (congrFun e1 _).trans (outA_hc P hT _ r l)
  · exact fun r l => (congrFun e2 _).trans (outA_q P hT _ r l)
  · exact fun r l => (congrFun e3 _).trans (outA_k P hT _ r l)
  · exact fun r l => (congrFun e4 _).trans (outA_v P hT _ r l)
  · exact fun r l => (congrFun e5 _).trans (outA_gz P _ r l)
  · exact fun r l => (congrFun e6 _).trans (outA_gg P _ r l)
  · exact fun r l => (congrFun e7 _).trans (outA_bg P _ r l)
  · exact fun r l h => (congrFun e8 _).trans (soutA_act P _ r l h)
  · exact fun r l h => (congrFun e9 _).trans (soutA_qkv P _ r l h)

theorem left_B (t : Fin cfg0.N) (h0 : ¬t.val % 32 = 0)
    (hx0 : ∀ (r : Fin 288) (e : Fin 1024), r.val < 32 → (outsAt0 m c (t.val - 1) (by omega)).2.2.2.2.2.2.2.1 (ix2 r e)
      = Args.late 32 ((args m c).act (row t)) (256 * (t.val % 32) + r) e)
    (hx1 : ∀ (r : Fin 264) (e : Fin 3072), r.val < 8 → (outsAt0 m c (t.val - 1) (by omega)).2.2.2.2.2.2.2.2 (ix2 r e)
      = Args.late 8 ((args m c).qkv (row t)) (256 * (t.val % 32) + r) e) : Left m c t := by
  have e := outsAt0_B m c t h0
  have P := point_is m c t
  obtain ⟨e1, e2, e3, e4, e5, e6, e7, e8, e9⟩ := parts e
  constructor
  · exact fun r l => (congrFun e1 _).trans (outB_hc P hx0 _ r l)
  · exact fun r l => (congrFun e2 _).trans (outB_q P hx1 _ r l)
  · exact fun r l => (congrFun e3 _).trans (outB_k P hx1 _ r l)
  · exact fun r l => (congrFun e4 _).trans (outB_v P hx1 _ r l)
  · exact fun r l => (congrFun e5 _).trans (outB_gz P _ r l)
  · exact fun r l => (congrFun e6 _).trans (outB_gg P _ r l)
  · exact fun r l => (congrFun e7 _).trans (outB_bg P _ r l)
  · exact fun r l h => (congrFun e8 _).trans (soutB_act P _ r l h)
  · exact fun r l h => (congrFun e9 _).trans (soutB_qkv P _ r l h)

theorem points : ∀ (n : ℕ) (hn : n < cfg0.N), Left m c ⟨n, hn⟩ := by
  intro n
  induction n with
  | zero => exact fun hn => left_A m c ⟨0, hn⟩ (Nat.zero_mod _)
  | succ n ih =>
    intro hn
    by_cases h0 : (n + 1) % 32 = 0
    · exact left_A m c ⟨n + 1, hn⟩ h0
    · have p := ih (Nat.lt_of_succ_lt hn)
      have er : row ⟨n, Nat.lt_of_succ_lt hn⟩ = row ⟨n + 1, hn⟩ := Fin.ext (by show n / 32 = (n + 1) / 32; omega)
      have eT : ∀ r : ℕ, 256 * (n % 32) + 256 + r = 256 * ((n + 1) % 32) + r := by omega
      refine left_B m c ⟨n + 1, hn⟩ h0 (fun r e h => (p.act r e h).trans ?_) (fun r e h => (p.qkv r e h).trans ?_)
      · rw [er]; exact congrArg (Args.late 32 _ · e) (eT _)
      · rw [er]; exact congrArg (Args.late 8 _ · e) (eT _)

/-- A result made of the points' blocks, at a token. -/
theorem whole {w : ℕ} (O : (n : ℕ) → n < cfg0.N → (⟨3, ![1, 256, w]⟩ : Shape).Idx → EReal) (S : Fin 4 → ℕ → Fin w → EReal)
    (hO : ∀ (t : Fin cfg0.N) (r : Fin 256) (e : Fin w), O t.val t.isLt (ix3 0 r e) = S (row t) (256 * (t.val % 32) + r) e) (b : Fin 4) (t : Fin 8192) (e : Fin w)
    (n : ℕ) (hn : n < cfg0.N) (h : n = 32 * b.val + t.val / 256) (i : (⟨3, ![1, 256, w]⟩ : Shape).Idx) (h0 : (i 0).val = 0) (h1 : (i 1).val = t.val % 256)
    (h2 : (i 2).val = e.val) : O n hn i = S b t.val e := by
  have hi : i = ix3 (n0 := 1) (n1 := 256) (n2 := w) 0 ⟨t.val % 256, Nat.mod_lt _ (by decide)⟩ e := by
    funext a
    fin_cases a
    · exact Fin.ext h0
    · exact Fin.ext h1
    · exact Fin.ext h2
  have er : row ⟨n, hn⟩ = b := Fin.ext (by show n / 32 = b.val; omega)
  rw [hi]
  refine (hO ⟨n, hn⟩ _ _).trans ?_
  rw [er]
  exact congrArg (S b · e) (by show 256 * (n % 32) + t.val % 256 = t.val; omega)

theorem point_lt (b : Fin 4) (t : Fin 8192) (n : ℕ) (h : n = 32 * b.val + t.val / 256) : n < cfg0.N :=
  lt_of_lt_of_eq (by omega) (show 128 = cfg0.N from N_0.symm)

theorem result_hc (b : Fin 4) (t : Fin 8192) (e : Fin 1024) : Value.G14 m c (ix3 b t e) = (args m c).hc b t.val e := by
  have hp : Value.pt14Of (ix3 b t e) = 32 * b.val + t.val / 256 := by
    show 32 * (b.val / 1 - 0) + 1 * (t.val / 256 - 0) + 1 * (e.val / 1024 - 0) = _
    omega
  rw [Value.G14, dif_pos (point_lt b t _ hp)]
  refine (congrFun (congrArg Prod.fst ((Value.outsAt0_sweep m c _ (point_lt b t _ hp)).symm)) _).trans ?_
  exact whole (fun n hn => (outsAt0 m c n hn).1) (args m c).hc (fun t => (points m c t.val t.isLt).hc) b t e _ _ hp _ (Nat.mod_one _) rfl (Nat.mod_eq_of_lt e.isLt)

theorem result_q (b : Fin 4) (t : Fin 8192) (e : Fin 1024) : Value.G15 m c (ix3 b t e) = (args m c).q b t.val e := by
  have hp : Value.pt15Of (ix3 b t e) = 32 * b.val + t.val / 256 := by
    show 32 * (b.val / 1 - 0) + 1 * (t.val / 256 - 0) + 1 * (e.val / 1024 - 0) = _
    omega
  rw [Value.G15, dif_pos (point_lt b t _ hp)]
  refine (congrFun (congrArg Prod.fst (congrArg Prod.snd ((Value.outsAt0_sweep m c _ (point_lt b t _ hp)).symm))) _).trans ?_
  exact whole (fun n hn => (outsAt0 m c n hn).2.1) (args m c).q (fun t => (points m c t.val t.isLt).q) b t e _ _ hp _ (Nat.mod_one _) rfl (Nat.mod_eq_of_lt e.isLt)

theorem result_k (b : Fin 4) (t : Fin 8192) (e : Fin 1024) : Value.G16 m c (ix3 b t e) = (args m c).k b t.val e := by
  have hp : Value.pt16Of (ix3 b t e) = 32 * b.val + t.val / 256 := by
    show 32 * (b.val / 1 - 0) + 1 * (t.val / 256 - 0) + 1 * (e.val / 1024 - 0) = _
    omega
  rw [Value.G16, dif_pos (point_lt b t _ hp)]
  refine (congrFun (congrArg Prod.fst (congrArg Prod.snd (congrArg Prod.snd ((Value.outsAt0_sweep m c _ (point_lt b t _ hp)).symm)))) _).trans ?_
  exact whole (fun n hn => (outsAt0 m c n hn).2.2.1) (args m c).k (fun t => (points m c t.val t.isLt).k) b t e _ _ hp _ (Nat.mod_one _) rfl (Nat.mod_eq_of_lt e.isLt)

theorem result_v (b : Fin 4) (t : Fin 8192) (e : Fin 1024) : Value.G17 m c (ix3 b t e) = (args m c).v b t.val e := by
  have hp : Value.pt17Of (ix3 b t e) = 32 * b.val + t.val / 256 := by
    show 32 * (b.val / 1 - 0) + 1 * (t.val / 256 - 0) + 1 * (e.val / 1024 - 0) = _
    omega
  rw [Value.G17, dif_pos (point_lt b t _ hp)]
  refine (congrFun (congrArg Prod.fst (congrArg Prod.snd (congrArg Prod.snd (congrArg Prod.snd ((Value.outsAt0_sweep m c _ (point_lt b t _ hp)).symm))))) _).trans ?_
  exact whole (fun n hn => (outsAt0 m c n hn).2.2.2.1) (args m c).v (fun t => (points m c t.val t.isLt).v) b t e _ _ hp _ (Nat.mod_one _) rfl (Nat.mod_eq_of_lt e.isLt)

theorem result_gz (b : Fin 4) (t : Fin 8192) (e : Fin 1024) : Value.G18 m c (ix3 b t e) = (args m c).gz b t.val e := by
  have hp : Value.pt18Of (ix3 b t e) = 32 * b.val + t.val / 256 := by
    show 32 * (b.val / 1 - 0) + 1 * (t.val / 256 - 0) + 1 * (e.val / 1024 - 0) = _
    omega
  rw [Value.G18, dif_pos (point_lt b t _ hp)]
  refine (congrFun (congrArg Prod.fst (congrArg Prod.snd (congrArg Prod.snd (congrArg Prod.snd (congrArg Prod.snd ((Value.outsAt0_sweep m c _ (point_lt b t _ hp)).symm)))))) _).trans ?_
  exact whole (fun n hn => (outsAt0 m c n hn).2.2.2.2.1) (args m c).gz (fun t => (points m c t.val t.isLt).gz) b t e _ _ hp _ (Nat.mod_one _) rfl (Nat.mod_eq_of_lt e.isLt)

theorem result_gg (b : Fin 4) (t : Fin 8192) (e : Fin 1024) : Value.G19 m c (ix3 b t e) = (args m c).gg b t.val e := by
  have hp : Value.pt19Of (ix3 b t e) = 32 * b.val + t.val / 256 := by
    show 32 * (b.val / 1 - 0) + 1 * (t.val / 256 - 0) + 1 * (e.val / 1024 - 0) = _
    omega
  rw [Value.G19, dif_pos (point_lt b t _ hp)]
  refine (congrFun (congrArg Prod.fst (congrArg Prod.snd (congrArg Prod.snd (congrArg Prod.snd (congrArg Prod.snd (congrArg Prod.snd ((Value.outsAt0_sweep m c _ (point_lt b t _ hp)).symm))))))) _).trans ?_
  exact whole (fun n hn => (outsAt0 m c n hn).2.2.2.2.2.1) (args m c).gg (fun t => (points m c t.val t.isLt).gg) b t e _ _ hp _ (Nat.mod_one _) rfl (Nat.mod_eq_of_lt e.isLt)

theorem result_bg (b : Fin 4) (t : Fin 8192) (e : Fin 128) : Value.G20 m c (ix3 b t e) = (args m c).bg b t.val e := by
  have hp : Value.pt20Of (ix3 b t e) = 32 * b.val + t.val / 256 := by
    show 32 * (b.val / 1 - 0) + 1 * (t.val / 256 - 0) + 1 * (e.val / 128 - 0) = _
    omega
  rw [Value.G20, dif_pos (point_lt b t _ hp)]
  refine (congrFun (congrArg Prod.fst (congrArg Prod.snd (congrArg Prod.snd (congrArg Prod.snd (congrArg Prod.snd (congrArg Prod.snd (congrArg Prod.snd ((Value.outsAt0_sweep m c _ (point_lt b t _ hp)).symm)))))))) _).trans ?_
  exact whole (fun n hn => (outsAt0 m c n hn).2.2.2.2.2.2.1) (args m c).bg (fun t => (points m c t.val t.isLt).bg) b t e _ _ hp _ (Nat.mod_one _) rfl (Nat.mod_eq_of_lt e.isLt)

end Cert.PreValue

end
-- ==== Proof.PreRef.lean ====
module

public import proofs.«01_k».proof.Proof.PreSpec
public import proofs.«01_k».proof.Proof.Gen.Reference2Ideal.Run
public import Idealize.ShloMosaic.Lib.KernelVsHost
public import Idealize.ShloMosaic.Lib.Pointwise

@[expose] public section

set_option maxRecDepth 16384

noncomputable section

/-! The first call's reference: its seven results, from its arguments. -/

namespace Cert.PreRef

open Idealize.ShloMosaic Idealize.ShloMosaic.TcCoe Cert.Reference2Ideal Cert.Reference2Ideal.Gen Cert.Reference2Ideal.Value PreSpec

variable (V : Valuation τ sig (Elt Ideal))

/-- The arguments, as the specification takes them. -/
def args : PreSpec.Args where
  x b t e := V (Proc.devRef .tc main_arg0) (ix3 b t e)
  w d n := V (Proc.devRef .tc main_arg1) (ix2 d n)
  dw k e := V (Proc.devRef .tc main_arg2) (ix2 k e)
  db e := V (Proc.devRef .tc main_arg3) (ix1 e)
  lg e := V (Proc.devRef .tc main_arg4) (ix1 e)
  lb e := V (Proc.devRef .tc main_arg5) (ix1 e)
  wo d e := V (Proc.devRef .tc main_arg6) (ix2 d e)
  gw k e := V (Proc.devRef .tc main_arg7) (ix2 k e)
  al h := V (Proc.devRef .tc main_arg8) (ix1 h)
  dt h := V (Proc.devRef .tc main_arg9) (ix1 h)

theorem proj_fin (A : PreSpec.Args) (b : Fin 4) (t : Fin 8192) (n : Fin 9232) : A.proj b t n = ∑ e, A.x b t e * A.w e n :=
  Finset.sum_congr rfl fun e _ => congrArg (· * A.w e n) (Spec.tok_fin A.x b t e)

/-- The sigmoid, spelled out. -/
theorem sig_at {s : Shape} (h : S_.BroadcastsInDim s (![] : Fin 0 → Fin s.rank)) (x : FVec Ideal s .f32) (i : s.Idx) :
    Host.divf (broadcastInDim s ![] h (constant S_ .f32 0x3F800000#32))
      (addf (broadcastInDim s ![] h (constant S_ .f32 0x3F800000#32)) (Host.exp (Host.negf x))) i = Ideal.logistic (x i) := by
  show Ideal.div (Ideal.ofBits .f32 0x3F800000#32) (Ideal.ofBits .f32 0x3F800000#32 + Ideal.exp (-(x i))) = _
  rw [Ideal.ofBits_one_f32]
  rfl

theorem silu_at {s : Shape} (h : S_.BroadcastsInDim s (![] : Fin 0 → Fin s.rank)) (x : FVec Ideal s .f32) (i : s.Idx) :
    mulf x (Host.divf (broadcastInDim s ![] h (constant S_ .f32 0x3F800000#32))
      (addf (broadcastInDim s ![] h (constant S_ .f32 0x3F800000#32)) (Host.exp (Host.negf x)))) i = silu (x i) :=
  congrArg (x i * ·) (sig_at h x i)

/-- Columns of the combined projection. -/
theorem dot_at (x : FVec Ideal S4x8192x1024 .f32) (w : FVec Ideal S1024x9232 .f32) (o : ℕ) (hs : S1024x9232.Slices ![0, o] S1024x1024) (ho : o + 1024 ≤ 9232)
    (b : Fin 4) (t : Fin 8192) (n : Fin 1024) :
    Host.dotGeneral dot_S4x8192x1024_S1024x1024_S4x8192x1024_2_0_01_1_n_n none x (extractStridedSlice S1024x1024 ![0, o] w hs) (ix3 b t n)
      = ∑ e, x (ix3 b t e) * w (ix2 e ⟨o + n, by omega⟩) := by
  pointwise

theorem whole_at (x : FVec Ideal S4x8192x1024 .f32) (w : FVec Ideal S1024x1024 .f32) (b : Fin 4) (t : Fin 8192) (n : Fin 1024) :
    Host.dotGeneral dot_S4x8192x1024_S1024x1024_S4x8192x1024_2_0_01_1_n_n none x w (ix3 b t n) = ∑ e, x (ix3 b t e) * w (ix2 e n) := by
  pointwise

theorem dot8_at (x : FVec Ideal S4x8192x1024 .f32) (w : FVec Ideal S1024x9232 .f32) (o : ℕ) (hs : S1024x9232.Slices ![0, o] S1024x8) (ho : o + 8 ≤ 9232)
    (b : Fin 4) (t : Fin 8192) (n : Fin 8) :
    Host.dotGeneral dot_S4x8192x1024_S1024x8_S4x8192x8_2_0_01_1_n_n none x (extractStridedSlice S1024x8 ![0, o] w hs) (ix3 b t n)
      = ∑ e, x (ix3 b t e) * w (ix2 e ⟨o + n, by omega⟩) := by
  pointwise

/-- One shifted product of a convolution. -/
theorem tap_at (a : FVec Ideal S4x8222x1024 .f32) (w : FVec Ideal S31x1024 .f32) (k : ℕ) (h1 : S4x8222x1024.Slices ![0, k, 0] S4x8192x1024)
    (h2 : S31x1024.Slices ![k, 0] S1x1024) (hk : k < 31) (b : Fin 4) (t : Fin 8192) (c : Fin 1024) :
    mulf (extractStridedSlice S4x8192x1024 ![0, k, 0] a h1) (broadcastInDim S4x8192x1024 ![0, 1, 2] bcast_S1x1x1024_S4x8192x1024_0_1_2
      (broadcastInDim S1x1x1024 ![2] bcast_S1024_S1x1x1024_2 (shapeCast S1024 (extractStridedSlice S1x1024 ![k, 0] w h2) shapeCasts_S1x1024_S1024))) (ix3 b t c)
      = a (ix3 b ⟨t + k, by omega⟩ c) * w (ix2 (Fin.ofNat 31 k) c) := by
  have e : Fin.ofNat 31 k = ⟨k, hk⟩ := Fin.ext (Nat.mod_eq_of_lt hk)
  rw [e]
  pointwise
  simp only [Nat.add_comm]

theorem gtap_at (a : FVec Ideal S4x8195x3072 .f32) (w : FVec Ideal S4x3072 .f32) (k : ℕ) (h1 : S4x8195x3072.Slices ![0, k, 0] S4x8192x3072)
    (h2 : S4x3072.Slices ![k, 0] S1x3072) (hk : k < 4) (b : Fin 4) (t : Fin 8192) (c : Fin 3072) :
    mulf (extractStridedSlice S4x8192x3072 ![0, k, 0] a h1) (broadcastInDim S4x8192x3072 ![0, 1, 2] bcast_S1x1x3072_S4x8192x3072_0_1_2
      (broadcastInDim S1x1x3072 ![2] bcast_S3072_S1x1x3072_2 (shapeCast S3072 (extractStridedSlice S1x3072 ![k, 0] w h2) shapeCasts_S1x3072_S3072))) (ix3 b t c)
      = a (ix3 b ⟨t + k, by omega⟩ c) * w (ix2 (Fin.ofNat 4 k) c) := by
  have e : Fin.ofNat 4 k = ⟨k, hk⟩ := Fin.ext (Nat.mod_eq_of_lt hk)
  rw [e]
  pointwise
  simp only [Nat.add_comm]

theorem zero_word : (FloatOps.sitofp .f32 0#32 : Ideal .f32) = (0 : EReal) := sitofp_zero

theorem v11_at (b : Fin 4) (i : Fin 8222) (c : Fin 1024) : res_main_v11 V (ix3 b i c) = Args.late 30 ((args V).act b) i c := by
  rw [Args.late]
  pointwise [res_main_v11]
  by_cases h : i.val < 30
  · rw [dif_neg (by omega), if_pos h, zero_word]
  · rw [dif_pos (by omega), if_neg h]
    exact (congrArg₂ (fun u v => u * Ideal.logistic v) (proj_fin (args V) b ⟨i - 30, by omega⟩ ⟨c, by omega⟩)
      (proj_fin (args V) b ⟨i - 30, by omega⟩ ⟨1024 + c, by omega⟩)).symm

theorem v280_at (b : Fin 4) (i : Fin 8195) (c : Fin 3072) : res_main_v280 V (ix3 b i c) = Args.late 3 ((args V).qkv b) i c := by
  rw [Args.late]
  pointwise [res_main_v280]
  by_cases h : i.val < 3
  · rw [dif_neg (by omega), if_pos h, zero_word]
  · rw [dif_pos (by omega), if_neg h]
    exact (proj_fin (args V) b ⟨i - 3, by omega⟩ ⟨3072 + c, by omega⟩).symm

section

variable (b : Fin 4) (t : Fin 8192)

/-- A convolution's term, as the specification has it. -/
abbrev term (c : Fin 1024) (k : ℕ) : EReal := Args.late 30 ((args V).act b) (t + k) c * (args V).dw (Fin.ofNat 31 k) c

theorem tapV_at (k : ℕ) (h1 : S4x8222x1024.Slices ![0, k, 0] S4x8192x1024) (h2 : S31x1024.Slices ![k, 0] S1x1024) (hk : k < 31) (c : Fin 1024) :
    mulf (extractStridedSlice S4x8192x1024 ![0, k, 0] (res_main_v11 V) h1) (broadcastInDim S4x8192x1024 ![0, 1, 2] bcast_S1x1x1024_S4x8192x1024_0_1_2
      (broadcastInDim S1x1x1024 ![2] bcast_S1024_S1x1x1024_2 (shapeCast S1024 (extractStridedSlice S1x1024 ![k, 0] (V (Proc.devRef .tc main_arg2)) h2) shapeCasts_S1x1024_S1024)))
      (ix3 b t c) = term V b t c k :=
  (tap_at _ _ k h1 h2 hk b t c).trans (congrArg (· * (args V).dw (Fin.ofNat 31 k) c) (v11_at V b ⟨t + k, by omega⟩ c))

theorem v87_at (c : Fin 1024) : res_main_v87 V (ix3 b t c) = taps 10 (term V b t c) := by
  rw [res_main_v87]
  repeat' refine congrArg₂ (· + ·) ?_ ?_
  all_goals exact tapV_at V b t _ _ _ (by decide) c

theorem v164_at (c : Fin 1024) : res_main_v164 V (ix3 b t c) = taps 21 (term V b t c) := by
  rw [res_main_v164]
  iterate 11 refine congrArg₂ (· + ·) ?_ (tapV_at V b t _ _ _ (by decide) c)
  exact v87_at V b t c

theorem v230_at (c : Fin 1024) : res_main_v230 V (ix3 b t c) = (args V).conv b t c := by
  rw [res_main_v230]
  refine congrArg₂ (· + ·) ?_ (by pointwise; rfl)
  iterate 9 refine congrArg₂ (· + ·) ?_ (tapV_at V b t _ _ _ (by decide) c)
  exact v164_at V b t c

theorem v254_at (c : Fin 1024) : res_main_v254 V (ix3 b t c) = Spec.lnorm ((args V).conv b t) (args V).lg (args V).lb c := by
  have e : (args V).conv b t = fun c => res_main_v230 V (ix3 b t c) := funext fun c => (v230_at V b t c).symm
  rw [e]
  pointwise [res_main_v254, res_main_v236, res_main_v234, Spec.lnorm, Spec.c1024, Spec.e5]
  rfl

theorem v257_at (c : Fin 1024) : res_main_v257 V (ix3 b t c) = (args V).proj b t ⟨2048 + c, by omega⟩ :=
  (dot_at _ _ 2048 slices_S1024x9232_S1024x1024_0_2048 (by decide) b t c).trans (proj_fin (args V) b t _).symm

theorem v333_at (c : Fin 1024) : res_main_v333 V (ix3 b t c) = (args V).proj b t ⟨6144 + c, by omega⟩ :=
  (dot_at _ _ 6144 slices_S1024x9232_S1024x1024_0_6144 (by decide) b t c).trans (proj_fin (args V) b t _).symm

theorem v307_at (c : Fin 3072) : res_main_v307 V (ix3 b t c) = taps 3 fun k => Args.late 3 ((args V).qkv b) (t + k) c * (args V).gw (Fin.ofNat 4 k) c := by
  have h : ∀ (k : ℕ) (h1 : S4x8195x3072.Slices ![0, k, 0] S4x8192x3072) (h2 : S4x3072.Slices ![k, 0] S1x3072) (hk : k < 4), _ = _ := fun k h1 h2 hk =>
    (gtap_at (res_main_v280 V) (V (Proc.devRef .tc main_arg7)) k h1 h2 hk b t c).trans
      (congrArg (· * (args V).gw (Fin.ofNat 4 k) c) (v280_at V b ⟨t + k, by omega⟩ c))
  rw [res_main_v307]
  repeat' refine congrArg₂ (· + ·) ?_ ?_
  all_goals exact h _ _ _ (by decide)

theorem v308_at (c : Fin 3072) : res_main_v308 V (ix3 b t c) = (args V).gconv b t c :=
  (silu_at _ (res_main_v307 V) _).trans (congrArg silu (v307_at V b t c))

theorem v310_at (h : Fin 8) (i : Fin 128) : res_main_v310 V (ix4 b t h i) = (args V).gconv b t ⟨128 * h + i, by omega⟩ := by
  pointwise [res_main_v310]
  rw [v308_at]
  exact congrArg ((args V).gconv b t) (Fin.ext (by dsimp only; omega))

theorem v312_at (h : Fin 8) (i : Fin 128) : res_main_v312 V (ix4 b t h i) = (args V).gconv b t ⟨128 * (8 + h) + i, by omega⟩ := by
  pointwise [res_main_v312]
  rw [v308_at]
  exact congrArg ((args V).gconv b t) (Fin.ext (by dsimp only; omega))

end

end Cert.PreRef

end
-- ==== Proof.PreRefOut.lean ====
module

public import proofs.«01_k».proof.Proof.PreRef
public import Idealize.ShloMosaic.Lib.Pointwise

@[expose] public section

set_option maxRecDepth 16384

noncomputable section

/-! The seven results of the first call's reference, at an index. -/

namespace Cert.PreRef

open Idealize.ShloMosaic Idealize.ShloMosaic.TcCoe Cert.Reference2Ideal Cert.Reference2Ideal.Gen Cert.Reference2Ideal.Value PreSpec

/-- The heads' lanes, side by side. -/
theorem cast_at (x : FVec Ideal S4x8192x8x128 .f32) (b : Fin 4) (t : Fin 8192) (c : Fin 1024) :
    truncf (F := Ideal) .bf16 (shapeCast S4x8192x1024 x shapeCasts_S4x8192x8x128_S4x8192x1024) bitsLt_bf16_f32 (ix3 b t c) = x (ix4 b t ⟨c / 128, by omega⟩ ⟨c % 128, by omega⟩) := by
  pointwise

theorem scaled_at (x : FVec Ideal S4x8192x8x128 .f32) (i : S4x8192x8x128.Idx) :
    mulf x (broadcastInDim S4x8192x8x128 ![] bcast_S_S4x8192x8x128 (constant S_ .f32 0x3DB504F3#32)) i = x i * Ideal.ofBits .f32 0x3DB504F3#32 := by
  pointwise

/-- A head divided by its length. -/
theorem unit_at (x : FVec Ideal S4x8192x8x128 .f32) (b : Fin 4) (t : Fin 8192) (h : Fin 8) (i : Fin 128) :
    mulf x (broadcastInDim S4x8192x8x128 ![0, 1, 2, 3] bcast_S4x8192x8x1_S4x8192x8x128_0_1_2_3 (Host.rsqrt (addf (broadcastInDim S4x8192x8x1 ![0, 1, 2] bcast_S4x8192x8_S4x8192x8x1_0_1_2 (Host.reduceAdd (mulf x x) (constant S_ .f32 0x00000000#32) reducesTo_S4x8192x8x128_S4x8192x8_d3 h_S_)) (broadcastInDim S4x8192x8x1 ![] bcast_S_S4x8192x8x1 (constant S_ .f32 0x358637BD#32))))) (ix4 b t h i)
      = x (ix4 b t h i) * Ideal.rsqrt ((∑ j : Fin 128, x (ix4 b t h j) * x (ix4 b t h j)) + Spec.e6) := by
  pointwise [Spec.e6]

variable (V : Valuation τ sig (Elt Ideal)) (b : Fin 4) (t : Fin 8192)

abbrev argX : FVec Ideal S4x8192x1024 .f32 := V (Proc.devRef .tc main_arg0)
abbrev argW : FVec Ideal S1024x9232 .f32 := V (Proc.devRef .tc main_arg1)
abbrev argO : FVec Ideal S1024x1024 .f32 := V (Proc.devRef .tc main_arg6)
abbrev argA : FVec Ideal S8 .f32 := V (Proc.devRef .tc main_arg8)

theorem hc_at (c : Fin 1024) : truncf (F := Ideal) .bf16 (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (Host.dotGeneral dot_S4x8192x1024_S1024x1024_S4x8192x1024_2_0_01_1_n_n none (argX V) (extractStridedSlice S1024x1024 ![0, 7184] (argW V) slices_S1024x9232_S1024x1024_0_7184)))))) (Host.dotGeneral dot_S4x8192x1024_S1024x1024_S4x8192x1024_2_0_01_1_n_n none (mulf (mulf (res_main_v254 V) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (res_main_v254 V)))))) (mulf (res_main_v257 V) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (res_main_v257 V))))))) (argO V))) bitsLt_bf16_f32 (ix3 b t c) = (args V).hc b t c :=
  congrArg₂ (· * ·)
    ((sig_at _ _ _).trans (congrArg Ideal.logistic ((dot_at _ _ 7184 _ (by decide) b t c).trans (proj_fin (args V) b t _).symm)))
    ((whole_at _ _ b t c).trans (Finset.sum_congr rfl fun i _ => congrArg (· * (args V).wo i c)
      (congrArg₂ (· * ·) ((silu_at _ _ _).trans (congrArg silu (v254_at V b t i))) ((silu_at _ _ _).trans (congrArg silu (v257_at V b t i))))))

theorem q_at (c : Fin 1024) : truncf (F := Ideal) .bf16 (shapeCast S4x8192x1024 (mulf (mulf (res_main_v310 V) (broadcastInDim S4x8192x8x128 ![0, 1, 2, 3] bcast_S4x8192x8x1_S4x8192x8x128_0_1_2_3 (Host.rsqrt (addf (broadcastInDim S4x8192x8x1 ![0, 1, 2] bcast_S4x8192x8_S4x8192x8x1_0_1_2 (Host.reduceAdd (mulf (res_main_v310 V) (res_main_v310 V)) (constant S_ .f32 0x00000000#32) reducesTo_S4x8192x8x128_S4x8192x8_d3 h_S_)) (broadcastInDim S4x8192x8x1 ![] bcast_S_S4x8192x8x1 (constant S_ .f32 0x358637BD#32)))))) (broadcastInDim S4x8192x8x128 ![] bcast_S_S4x8192x8x128 (constant S_ .f32 0x3DB504F3#32))) shapeCasts_S4x8192x8x128_S4x8192x1024) bitsLt_bf16_f32 (ix3 b t c) = (args V).q b t c := by
  rw [Args.q, Args.normed, scale]
  refine (cast_at _ b t c).trans ?_
  refine (scaled_at _ _).trans (congrArg (· * _) ((unit_at _ b t _ _).trans ?_))
  simp only [v310_at]

theorem k_at (c : Fin 1024) : truncf (F := Ideal) .bf16 (shapeCast S4x8192x1024 (mulf (res_main_v312 V) (broadcastInDim S4x8192x8x128 ![0, 1, 2, 3] bcast_S4x8192x8x1_S4x8192x8x128_0_1_2_3 (Host.rsqrt (addf (broadcastInDim S4x8192x8x1 ![0, 1, 2] bcast_S4x8192x8_S4x8192x8x1_0_1_2 (Host.reduceAdd (mulf (res_main_v312 V) (res_main_v312 V)) (constant S_ .f32 0x00000000#32) reducesTo_S4x8192x8x128_S4x8192x8_d3 h_S_)) (broadcastInDim S4x8192x8x1 ![] bcast_S_S4x8192x8x1 (constant S_ .f32 0x358637BD#32)))))) shapeCasts_S4x8192x8x128_S4x8192x1024) bitsLt_bf16_f32 (ix3 b t c) = (args V).k b t c := by
  rw [Args.k, Args.normed]
  refine (cast_at _ b t c).trans ?_
  refine (unit_at _ b t _ _).trans ?_
  simp only [v312_at]

theorem v_at (c : Fin 1024) : truncf (F := Ideal) .bf16 (extractStridedSlice S4x8192x1024 ![0, 0, 2048] (res_main_v308 V) slices_S4x8192x3072_S4x8192x1024_0_0_2048) bitsLt_bf16_f32 (ix3 b t c) = (args V).v b t c := by
  pointwise
  exact v308_at V b t ⟨2048 + c, by omega⟩

theorem gz_at (c : Fin 1024) : truncf (F := Ideal) .bf16 (mulf (res_main_v333 V) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (res_main_v333 V)))))) bitsLt_bf16_f32 (ix3 b t c) = (args V).gz b t c :=
  (silu_at _ _ _).trans (congrArg silu (v333_at V b t c))

theorem gg_at (c : Fin 1024) : truncf (F := Ideal) .bf16 (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (Host.dotGeneral dot_S4x8192x1024_S1024x1024_S4x8192x1024_2_0_01_1_n_n none (argX V) (extractStridedSlice S1024x1024 ![0, 8208] (argW V) slices_S1024x9232_S1024x1024_0_8208)))))) bitsLt_bf16_f32 (ix3 b t c) = (args V).gg b t c :=
  (sig_at _ _ _).trans (congrArg Ideal.logistic ((dot_at _ _ 8208 _ (by decide) b t c).trans (proj_fin (args V) b t _).symm))

end Cert.PreRef

end
-- ==== Proof.PreRefBg.lean ====
module

public import proofs.«01_k».proof.Proof.PreRef
public import Idealize.ShloMosaic.Lib.Pointwise

@[expose] public section

set_option maxRecDepth 16384

noncomputable section

/-! The seven results of the first call's reference, at an index. -/

namespace Cert.PreRef

open Idealize.ShloMosaic Idealize.ShloMosaic.TcCoe Cert.Reference2Ideal Cert.Reference2Ideal.Gen Cert.Reference2Ideal.Value PreSpec

variable (V : Valuation τ sig (Elt Ideal)) (b : Fin 4) (t : Fin 8192)

abbrev bgX : FVec Ideal S4x8192x1024 .f32 := V (Proc.devRef .tc main_arg0)
abbrev bgW : FVec Ideal S1024x9232 .f32 := V (Proc.devRef .tc main_arg1)
abbrev bgA : FVec Ideal S8 .f32 := V (Proc.devRef .tc main_arg8)

theorem v349_at (h : Fin 8) : res_main_v349 V (ix3 b t h) = (args V).proj b t ⟨7176 + h, by omega⟩ + (args V).dt h := by
  rw [res_main_v349]
  exact congrArg₂ (· + ·) ((dot8_at _ _ 7176 _ (by decide) b t h).trans (proj_fin (args V) b t _).symm) (by pointwise; rfl)

/-- The softplus of the reference, where no number is other than itself. -/
theorem softplus_at (z d c : EReal) (hd : d = z - c) (hc : c = 0) :
    (if d ≠ d then z + c else max z c + Ideal.log1p (Ideal.exp (-FloatOps.absf (F := Ideal) (φ := .f32) d))) = softplus z := by
  have h0 : z - 0 = z := by rw [sub_eq_add_neg, neg_zero, add_zero]
  rw [if_neg (not_not.2 rfl), hd, hc, h0, softplus, sub_eq_add_neg 0, zero_add]
  rfl

theorem cst6 (j : S_.Idx) : res_main_call6_cst V j = (0 : EReal) := Ideal.ofBits_zero_f32

theorem cst7 (j : S_.Idx) : res_main_call7_cst V j = (0 : EReal) := Ideal.ofBits_zero_f32

theorem v3 (j : S4x8192x8.Idx) : (res_main_call6_v3 V j : EReal) = @HSub.hSub EReal EReal EReal _ (res_main_v349 V j) (res_main_call6_cst V ix0) := by
  pointwise [res_main_call6_v3]

theorem v3' (j : S4x8192x112.Idx) : (res_main_call7_v3 V j : EReal) = @HSub.hSub EReal EReal EReal _ (res_main_v354 V j) (res_main_call7_cst V ix0) := by
  pointwise [res_main_call7_v3]

theorem v354_at (j : S4x8192x112.Idx) : res_main_v354 V j = (0 : EReal) := Ideal.ofBits_zero_f32

theorem zero_less (z : EReal) : 0 - z = -z := by
  rw [sub_eq_add_neg, zero_add]

theorem one_less (z : EReal) : -z = (0 - Ideal.exp 0) * z := by
  have h : Ideal.exp 0 = 1 := by
    rw [← EReal.coe_zero, Ideal.exp_coe, Real.exp_zero, EReal.coe_one]
  rw [h, sub_eq_add_neg, zero_add, EReal.neg_mul, one_mul]

omit V in
/-- Three groups of lanes side by side. -/
theorem cat_at (x y : FVec Ideal S4x8192x8 .f32) (z : FVec Ideal S4x8192x112 .f32) (l : Fin 128) :
    (concatenate S4x8192x128 2 [⟨S4x8192x8, x⟩, ⟨S4x8192x8, y⟩, ⟨S4x8192x112, z⟩] concatenates_S4x8192x8_S4x8192x8_S4x8192x112_S4x8192x128_d2
      : FVec Ideal S4x8192x128 .f32) (ix3 b t l)
      = if h : l.val < 8 then x (ix3 b t ⟨l, h⟩) else if h' : l.val - 8 < 8 then y (ix3 b t ⟨l - 8, h'⟩) else z (ix3 b t ⟨l - 8 - 8, by omega⟩) := by
  pointwise

theorem bg_at (l : Fin 128) : (concatenate S4x8192x128 2 [⟨S4x8192x8, ((Host.divf (broadcastInDim S4x8192x8 ![] bcast_S_S4x8192x8 (constant S_ .f32 0x3F800000#32)) (addf (broadcastInDim S4x8192x8 ![] bcast_S_S4x8192x8 (constant S_ .f32 0x3F800000#32)) (Host.exp (Host.negf (Host.dotGeneral dot_S4x8192x1024_S1024x8_S4x8192x8_2_0_01_1_n_n none (bgX V) (extractStridedSlice S1024x8 ![0, 7168] (bgW V) slices_S1024x9232_S1024x8_0_7168)))))) : FVec Ideal S4x8192x8 .f32)⟩, ⟨S4x8192x8, ((mulf (broadcastInDim S4x8192x8 ![0, 1, 2] bcast_S1x1x8_S4x8192x8_0_1_2 (broadcastInDim S1x1x8 ![2] bcast_S8_S1x1x8_2 (Host.negf (Host.exp (bgA V))))) (select (cmpf .une (res_main_call6_v3 V) (res_main_call6_v3 V)) (addf (res_main_v349 V) (broadcastInDim S4x8192x8 ![] bcast_S_S4x8192x8 (res_main_call6_cst V))) (addf (maximumf (res_main_v349 V) (broadcastInDim S4x8192x8 ![] bcast_S_S4x8192x8 (res_main_call6_cst V))) (Host.log1p (Host.exp (Host.negf (Host.absf (res_main_call6_v3 V)))))))) : FVec Ideal S4x8192x8 .f32)⟩, ⟨S4x8192x112, ((Host.negf (select (cmpf .une (res_main_call7_v3 V) (res_main_call7_v3 V)) (addf (res_main_v354 V) (broadcastInDim S4x8192x112 ![] bcast_S_S4x8192x112 (res_main_call7_cst V))) (addf (maximumf (res_main_v354 V) (broadcastInDim S4x8192x112 ![] bcast_S_S4x8192x112 (res_main_call7_cst V))) (Host.log1p (Host.exp (Host.negf (Host.absf (res_main_call7_v3 V)))))))) : FVec Ideal S4x8192x112 .f32)⟩] concatenates_S4x8192x8_S4x8192x8_S4x8192x112_S4x8192x128_d2 : FVec Ideal S4x8192x128 .f32) (ix3 b t l) = (args V).bg b t l := by
  rw [Args.bg]
  refine (cat_at b t _ _ _ l).trans ?_
  by_cases h8 : l.val < 8
  · rw [dif_pos h8, if_pos h8]
    exact (sig_at _ _ _).trans (congrArg Ideal.logistic ((dot8_at _ _ 7168 _ (by decide) b t _).trans (proj_fin (args V) b t _).symm))
  · rw [dif_neg h8, if_neg h8]
    by_cases h16 : l.val < 16
    · rw [dif_pos (show l.val - 8 < 8 by omega), dif_pos h16]
      pointwise
      rw [softplus_at _ _ _ (v3 V _) (cst6 V _), v349_at, zero_less]
      refine congrArg (fun z => _ * softplus (z + _)) (congrArg ((args V).proj b t) (Fin.ext ?_))
      dsimp only
      omega
    · rw [dif_neg (show ¬l.val - 8 < 8 by omega), dif_neg h16]
      pointwise
      rw [softplus_at _ _ _ (v3' V _) (cst7 V _), v354_at]
      exact one_less _

end Cert.PreRef

end
-- ==== Proof.PreAgree.lean ====
module

public import proofs.«01_k».proof.Defs
public import proofs.«01_k».proof.Proof.PreResult
public import proofs.«01_k».proof.Proof.PreRefOut
public import proofs.«01_k».proof.Proof.PreRefBg

@[expose] public section

set_option maxRecDepth 16384

noncomputable section

/-! The first call and its reference: they run, and end with equal results. -/

namespace Cert.PreAgree

open Idealize.ShloMosaic Idealize.ShloMosaic.TcCoe Idealize.SL.Sem Idealize.ShloMosaic.StableHlo

/-- The reference runs, keeps its arguments and leaves the machine quiet. -/
theorem frame_reference : Cert.quiescent_Reference2Ideal (hReference2Ideal := Cert.Reference2Ideal.Gen.facts) := fun m ρ _ =>
  (θ_run Cert.Reference2Ideal.defs _ _).mono
    (fun r h => ⟨fun c => (h c).2.2.2.2.2.2.2, Idealize.ShloMosaic.sem_eq_zero_of_no_sems (by decide) r.2⟩)
    (Cert.Reference2Ideal.Value.run m ρ)

/-- Results that are the same function of the token are equal. -/
theorem agree {w : ℕ} (f g : (⟨3, ![4, 8192, w]⟩ : Shape).Idx → EReal) (S S' : Fin 4 → ℕ → Fin w → EReal) (h : S = S')
    (hf : ∀ (b : Fin 4) (t : Fin 8192) (e : Fin w), f (ix3 b t e) = S b t.val e)
    (hg : ∀ (b : Fin 4) (t : Fin 8192) (e : Fin w), g (ix3 b t e) = S' b t.val e) : f = g := by
  funext j
  rw [eq_ix3 j]
  exact (hf _ _ _).trans ((congrFun (congrFun (congrFun h _) _) _).trans (hg _ _ _).symm)

/-- Over the ideal numbers the first call and its reference end with equal results. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.Value.G14 m c, fun c => Cert.Kernel2Ideal.Value.G15 m c, fun c => Cert.Kernel2Ideal.Value.G16 m c,
    fun c => Cert.Kernel2Ideal.Value.G17 m c, fun c => Cert.Kernel2Ideal.Value.G18 m c, fun c => Cert.Kernel2Ideal.Value.G19 m c,
    fun c => Cert.Kernel2Ideal.Value.G20 m c, Cert.Kernel2Ideal.Value.run m ρ, ?_⟩
  refine (θ_run Cert.Reference2Ideal.defs _ _).mono (fun r h c => ?_) (Cert.Reference2Ideal.Value.run m' ρ')
  obtain ⟨h0, h1, h2, h3, h4, h5, h6, hk⟩ := h c
  have ha : PreRef.args (launchContents m' c) = PreValue.args m c := by
    obtain ⟨a0, a1, a2, a3, a4, a5, a6, a7, a8, a9⟩ := hag c
    have e : PreRef.args (launchContents m' c) = ⟨
      fun b t e => m' ((c.tc : Thread Cert.Reference2Ideal.nD Cert.Reference2Ideal.τ).loc Cert.Reference2Ideal.main_arg0) (ix3 b t e),
      fun d n => m' ((c.tc : Thread Cert.Reference2Ideal.nD Cert.Reference2Ideal.τ).loc Cert.Reference2Ideal.main_arg1) (ix2 d n),
      fun k e => m' ((c.tc : Thread Cert.Reference2Ideal.nD Cert.Reference2Ideal.τ).loc Cert.Reference2Ideal.main_arg2) (ix2 k e),
      fun e => m' ((c.tc : Thread Cert.Reference2Ideal.nD Cert.Reference2Ideal.τ).loc Cert.Reference2Ideal.main_arg3) (ix1 e),
      fun e => m' ((c.tc : Thread Cert.Reference2Ideal.nD Cert.Reference2Ideal.τ).loc Cert.Reference2Ideal.main_arg4) (ix1 e),
      fun e => m' ((c.tc : Thread Cert.Reference2Ideal.nD Cert.Reference2Ideal.τ).loc Cert.Reference2Ideal.main_arg5) (ix1 e),
      fun d e => m' ((c.tc : Thread Cert.Reference2Ideal.nD Cert.Reference2Ideal.τ).loc Cert.Reference2Ideal.main_arg6) (ix2 d e),
      fun k e => m' ((c.tc : Thread Cert.Reference2Ideal.nD Cert.Reference2Ideal.τ).loc Cert.Reference2Ideal.main_arg7) (ix2 k e),
      fun h => m' ((c.tc : Thread Cert.Reference2Ideal.nD Cert.Reference2Ideal.τ).loc Cert.Reference2Ideal.main_arg8) (ix1 h),
      fun h => m' ((c.tc : Thread Cert.Reference2Ideal.nD Cert.Reference2Ideal.τ).loc Cert.Reference2Ideal.main_arg9) (ix1 h)⟩ := rfl
    rw [e, a0, a1, a2, a3, a4, a5, a6, a7, a8, a9]
    rfl
  refine ⟨h0.trans ?_, h1.trans ?_, h2.trans ?_, h3.trans ?_, h4.trans ?_, h5.trans ?_, h6.trans ?_, hk⟩
  · exact agree _ _ _ _ (congrArg PreSpec.Args.hc ha) (PreRef.hc_at (launchContents m' c)) (PreValue.result_hc m c)
  · exact agree _ _ _ _ (congrArg PreSpec.Args.q ha) (PreRef.q_at (launchContents m' c)) (PreValue.result_q m c)
  · exact agree _ _ _ _ (congrArg PreSpec.Args.k ha) (PreRef.k_at (launchContents m' c)) (PreValue.result_k m c)
  · exact agree _ _ _ _ (congrArg PreSpec.Args.v ha) (PreRef.v_at (launchContents m' c)) (PreValue.result_v m c)
  · exact agree _ _ _ _ (congrArg PreSpec.Args.gz ha) (PreRef.gz_at (launchContents m' c)) (PreValue.result_gz m c)
  · exact agree _ _ _ _ (congrArg PreSpec.Args.gg ha) (PreRef.gg_at (launchContents m' c)) (PreValue.result_gg m c)
  · exact agree _ _ _ _ (congrArg PreSpec.Args.bg ha) (PreRef.bg_at (launchContents m' c)) (PreValue.result_bg m c)

end Cert.PreAgree

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.KBlocks
public import proofs.«01_k».proof.Proof.RefValue
public import proofs.«01_k».proof.Proof.Finite
public import proofs.«01_k».proof.Proof.Gen.Kernel2.Frame
public import proofs.«01_k».proof.Proof.Gen.Kernel2Ideal.Frame
public import proofs.«01_k».proof.Proof.PreAgree

@[expose] public section

noncomputable section

namespace Cert.Proof

open Idealize.ShloMosaic Idealize.ShloMosaic.TcCoe Idealize.SL.Sem

/-- The reference runs, keeps its arguments and leaves the machine quiet. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.RefRun.run_iter m ρ (Cert.RefValue.its m) (fun _ => rfl) (fun _ _ => rfl))

/-- Under the precondition the kernel's arguments are real where the recurrence reads them. -/
theorem fine (m : (ℓ : Loc Cert.KernelIdeal.nD Cert.KernelIdeal.τ Cert.KernelIdeal.sig) → Buf (Elt Ideal) ℓ)
    (h : Cert.Pre_KernelIdeal_finite (hPre_finite := Cert.Finite.facts) m) (c : Dev Cert.KernelIdeal.nD) :
    (Cert.KValue.args m c).Fine := by
  obtain ⟨h0, h1, h2, h3⟩ := Cert.Finite.reals (h c)
  exact Cert.Finite.fine _ (fun b t e => h0 _) (fun b t e => h1 _) (fun b t e => h2 _) (fun b t l hl => h3 b t l hl)

/-- Over the ideal numbers kernel and reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre hag
  refine ⟨fun c => Cert.KernelIdeal.Value.G13 m c, Cert.KernelIdeal.Value.run m ρ, ?_⟩
  refine (θ_run Cert.ReferenceIdeal.defs _ _).mono (fun r h c => ⟨(h c).1.trans ?_, (h c).2⟩)
    (Cert.ReferenceIdeal.RefRun.run_iter m' ρ' (Cert.RefValue.its m') (fun _ => rfl) (fun _ _ => rfl))
  have ha : Cert.RefValue.args m' c = Cert.KValue.args m c := by
    obtain ⟨a0, a1, a2, a3, a4, a5, a6, a7, a8, a9, a10, a11, a12⟩ := hag c
    unfold Cert.RefValue.args
    rw [a0, a1, a2, a3, a4, a5, a6, a7, a8, a9, a10, a11, a12]
    rfl
  have hf := fine m hpre c
  refine funext fun (j : Cert.KernelIdeal.S4x8192x1024.Idx) => ?_
  rw [eq_ix3 j]
  exact (Cert.RefValue.result m' c (ha ▸ hf) (j 0) (j 1) (j 2)).trans
    ((congrArg (fun A : Spec.Args => A.out (j 0) (j 1).val (j 2)) ha).trans (Cert.KValue.result m c hf (j 0) (j 1) (j 2)).symm)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, fun m ρ _ => Cert.Kernel2.Gen.frame m ρ,
    fun m ρ _ => Cert.Kernel2Ideal.Gen.frame m ρ, Cert.PreAgree.frame_reference, trivial, algebraic, trivial, Cert.PreAgree.algebraic⟩

end Cert.Proof

end
